-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v308) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S16 : Shape := ⟨1, ![16]⟩
abbrev S_ : Shape := ⟨0, ![]⟩
abbrev S1 : Shape := ⟨1, ![1]⟩
abbrev S4 : Shape := ⟨1, ![4]⟩
abbrev S36 : Shape := ⟨1, ![36]⟩
abbrev S16x256x1024 : Shape := ⟨3, ![16, 256, 1024]⟩
abbrev S8x128 : Shape := ⟨2, ![8, 128]⟩
abbrev S4x8x128 : Shape := ⟨3, ![4, 8, 128]⟩
abbrev S15x2 : Shape := ⟨2, ![15, 2]⟩
abbrev S256x256 : Shape := ⟨2, ![256, 256]⟩
abbrev S256x1024 : Shape := ⟨2, ![256, 1024]⟩
abbrev S1x256x1024 : Shape := ⟨3, ![1, 256, 1024]⟩
abbrev S1x1 : Shape := ⟨2, ![1, 1]⟩
abbrev S1x256x512 : Shape := ⟨3, ![1, 256, 512]⟩
abbrev S256x512 : Shape := ⟨2, ![256, 512]⟩
abbrev S1x1x1 : Shape := ⟨3, ![1, 1, 1]⟩
abbrev S1x8x128 : Shape := ⟨3, ![1, 8, 128]⟩

abbrev nBuf : Space → Nat
  | .hbm => 958
  | .vmem => 7
  | .smem => 1
  | _ => 0

abbrev hbmTy0_0 (i : Nat) : BufTy := match i % 128 with
  | 0 => ⟨S4096x256, .f32⟩
  | 1 => ⟨S256x2048, .f32⟩
  | 2 => ⟨S16, .i32⟩
  | 3 => ⟨S16, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i1⟩
  | 84 => ⟨S_, .i32⟩
  | 85 => ⟨S_, .i1⟩
  | 86 => ⟨S_, .i1⟩
  | 87 => ⟨S_, .i1⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i1⟩
  | 112 => ⟨S_, .i32⟩
  | 113 => ⟨S_, .i1⟩
  | 114 => ⟨S_, .i1⟩
  | 115 => ⟨S_, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S1, .i32⟩
  | 124 => ⟨S_, .i32⟩
  | 125 => ⟨S_, .i32⟩
  | 126 => ⟨S_, .i32⟩
  | 127 => ⟨S_, .i32⟩
  | _ => ⟨S4096x256, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i1⟩
  | 12 => ⟨S_, .i32⟩
  | 13 => ⟨S_, .i1⟩
  | 14 => ⟨S_, .i1⟩
  | 15 => ⟨S_, .i1⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i1⟩
  | 40 => ⟨S_, .i32⟩
  | 41 => ⟨S_, .i1⟩
  | 42 => ⟨S_, .i1⟩
  | 43 => ⟨S_, .i1⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i1⟩
  | 68 => ⟨S_, .i32⟩
  | 69 => ⟨S_, .i1⟩
  | 70 => ⟨S_, .i1⟩
  | 71 => ⟨S_, .i1⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S1, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i1⟩
  | 96 => ⟨S_, .i32⟩
  | 97 => ⟨S_, .i1⟩
  | 98 => ⟨S_, .i1⟩
  | 99 => ⟨S_, .i1⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S1, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i1⟩
  | 124 => ⟨S_, .i32⟩
  | 125 => ⟨S_, .i1⟩
  | 126 => ⟨S_, .i1⟩
  | 127 => ⟨S_, .i1⟩
  | _ => ⟨S4096x256, .f32⟩

abbrev hbmTy0_2 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i1⟩
  | 24 => ⟨S_, .i32⟩
  | 25 => ⟨S_, .i1⟩
  | 26 => ⟨S_, .i1⟩
  | 27 => ⟨S_, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i1⟩
  | 52 => ⟨S_, .i32⟩
  | 53 => ⟨S_, .i1⟩
  | 54 => ⟨S_, .i1⟩
  | 55 => ⟨S_, .i1⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S1, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i1⟩
  | 80 => ⟨S_, .i32⟩
  | 81 => ⟨S_, .i1⟩
  | 82 => ⟨S_, .i1⟩
  | 83 => ⟨S_, .i1⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S1, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i1⟩
  | 108 => ⟨S_, .i32⟩
  | 109 => ⟨S_, .i1⟩
  | 110 => ⟨S_, .i1⟩
  | 111 => ⟨S_, .i1⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S1, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4096x256, .f32⟩

abbrev hbmTy0_3 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i1⟩
  | 8 => ⟨S_, .i32⟩
  | 9 => ⟨S_, .i1⟩
  | 10 => ⟨S_, .i1⟩
  | 11 => ⟨S_, .i1⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i1⟩
  | 36 => ⟨S_, .i32⟩
  | 37 => ⟨S_, .i1⟩
  | 38 => ⟨S_, .i1⟩
  | 39 => ⟨S_, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S1, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i1⟩
  | 64 => ⟨S_, .i32⟩
  | 65 => ⟨S_, .i1⟩
  | 66 => ⟨S_, .i1⟩
  | 67 => ⟨S_, .i1⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S1, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i1⟩
  | 92 => ⟨S_, .i32⟩
  | 93 => ⟨S_, .i1⟩
  | 94 => ⟨S_, .i1⟩
  | 95 => ⟨S_, .i1⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i1⟩
  | 120 => ⟨S_, .i32⟩
  | 121 => ⟨S_, .i1⟩
  | 122 => ⟨S_, .i1⟩
  | 123 => ⟨S_, .i1⟩
  | 124 => ⟨S_, .i32⟩
  | 125 => ⟨S_, .i32⟩
  | 126 => ⟨S_, .i32⟩
  | 127 => ⟨S_, .i1⟩
  | _ => ⟨S4096x256, .f32⟩

abbrev hbmTy0_4 (i : Nat) : BufTy := match i % 128 with
  | 0 => ⟨S_, .i32⟩
  | 1 => ⟨S_, .i32⟩
  | 2 => ⟨S_, .i32⟩
  | 3 => ⟨S1, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i1⟩
  | 20 => ⟨S_, .i32⟩
  | 21 => ⟨S_, .i1⟩
  | 22 => ⟨S_, .i1⟩
  | 23 => ⟨S_, .i1⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S1, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i1⟩
  | 48 => ⟨S_, .i32⟩
  | 49 => ⟨S_, .i1⟩
  | 50 => ⟨S_, .i1⟩
  | 51 => ⟨S_, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S1, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i1⟩
  | 76 => ⟨S_, .i32⟩
  | 77 => ⟨S_, .i1⟩
  | 78 => ⟨S_, .i1⟩
  | 79 => ⟨S_, .i1⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S1, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i1⟩
  | 104 => ⟨S_, .i32⟩
  | 105 => ⟨S_, .i1⟩
  | 106 => ⟨S_, .i1⟩
  | 107 => ⟨S_, .i1⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S1, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S4096x256, .f32⟩

abbrev hbmTy0_5 (i : Nat) : BufTy := match i % 128 with
  | 0 => ⟨S_, .i32⟩
  | 1 => ⟨S_, .i1⟩
  | 2 => ⟨S_, .i32⟩
  | 3 => ⟨S_, .i1⟩
  | 4 => ⟨S_, .i32⟩
  | 5 => ⟨S_, .i1⟩
  | 6 => ⟨S_, .i1⟩
  | 7 => ⟨S_, .i1⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i1⟩
  | 60 => ⟨S_, .i32⟩
  | 61 => ⟨S_, .i1⟩
  | 62 => ⟨S_, .i1⟩
  | 63 => ⟨S_, .i1⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S1, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i1⟩
  | 88 => ⟨S_, .i32⟩
  | 89 => ⟨S_, .i1⟩
  | 90 => ⟨S_, .i1⟩
  | 91 => ⟨S_, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S1, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i1⟩
  | 116 => ⟨S_, .i32⟩
  | 117 => ⟨S_, .i1⟩
  | 118 => ⟨S_, .i1⟩
  | 119 => ⟨S_, .i1⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S1, .i32⟩
  | _ => ⟨S4096x256, .f32⟩

abbrev hbmTy0_6 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i1⟩
  | 16 => ⟨S_, .i32⟩
  | 17 => ⟨S_, .i1⟩
  | 18 => ⟨S_, .i1⟩
  | 19 => ⟨S_, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i1⟩
  | 44 => ⟨S_, .i32⟩
  | 45 => ⟨S_, .i1⟩
  | 46 => ⟨S_, .i1⟩
  | 47 => ⟨S_, .i1⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S1, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i1⟩
  | 72 => ⟨S_, .i32⟩
  | 73 => ⟨S_, .i1⟩
  | 74 => ⟨S_, .i1⟩
  | 75 => ⟨S_, .i1⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S1, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i1⟩
  | 100 => ⟨S_, .i32⟩
  | 101 => ⟨S_, .i1⟩
  | 102 => ⟨S_, .i1⟩
  | 103 => ⟨S_, .i1⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S1, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S4096x256, .f32⟩

abbrev hbmTy0_7 (i : Nat) : BufTy := match i % 128 with
  | 0 => ⟨S_, .i32⟩
  | 1 => ⟨S_, .i1⟩
  | 2 => ⟨S_, .i1⟩
  | 3 => ⟨S_, .i1⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S1, .i32⟩
  | 55 => ⟨S1, .i32⟩
  | 56 => ⟨S1, .i32⟩
  | 57 => ⟨S16, .i32⟩
  | 58 => ⟨S16, .i32⟩
  | 59 => ⟨S4, .i32⟩
  | 60 => ⟨S36, .i32⟩
  | 61 => ⟨S256x2048, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x256, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S256x2048, .f32⟩
  | .local _ .vmem, ⟨2, _⟩ => ⟨S256x2048, .f32⟩
  | .local _ .vmem, ⟨3, _⟩ => ⟨S16x256x1024, .f32⟩
  | .local _ .vmem, ⟨4, _⟩ => ⟨S16x256x1024, .f32⟩
  | .local _ .vmem, ⟨5, _⟩ => ⟨S8x128, .f32⟩
  | .local _ .vmem, ⟨6, _⟩ => ⟨S4x8x128, .f32⟩
  | .local _ .smem, ⟨0, _⟩ => ⟨S36, .i32⟩
  | _, _ => ⟨S4096x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_13 : Ref sig .tc := ⟨.hbm, 69, rfl⟩
abbrev main_v24 : Ref sig .tc := ⟨.hbm, 70, rfl⟩
abbrev main_c_14 : Ref sig .tc := ⟨.hbm, 71, rfl⟩
abbrev main_v25 : Ref sig .tc := ⟨.hbm, 72, rfl⟩
abbrev main_c_15 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_c_1 : Ref sig .tc := ⟨.hbm, 80, rfl⟩
abbrev main_call2_v4 : Ref sig .tc := ⟨.hbm, 81, rfl⟩
abbrev main_call2_c_2 : Ref sig .tc := ⟨.hbm, 82, rfl⟩
abbrev main_call2_v5 : Ref sig .tc := ⟨.hbm, 83, rfl⟩
abbrev main_call2_c_3 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_v26 : Ref sig .tc := ⟨.hbm, 89, rfl⟩
abbrev main_c_16 : Ref sig .tc := ⟨.hbm, 90, rfl⟩
abbrev main_v27 : Ref sig .tc := ⟨.hbm, 91, rfl⟩
abbrev main_c_17 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_c_18 : Ref sig .tc := ⟨.hbm, 97, rfl⟩
abbrev main_v32 : Ref sig .tc := ⟨.hbm, 98, rfl⟩
abbrev main_c_19 : Ref sig .tc := ⟨.hbm, 99, rfl⟩
abbrev main_v33 : Ref sig .tc := ⟨.hbm, 100, rfl⟩
abbrev main_c_20 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_c_1 : Ref sig .tc := ⟨.hbm, 108, rfl⟩
abbrev main_call3_v4 : Ref sig .tc := ⟨.hbm, 109, rfl⟩
abbrev main_call3_c_2 : Ref sig .tc := ⟨.hbm, 110, rfl⟩
abbrev main_call3_v5 : Ref sig .tc := ⟨.hbm, 111, rfl⟩
abbrev main_call3_c_3 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_v34 : Ref sig .tc := ⟨.hbm, 117, rfl⟩
abbrev main_c_21 : Ref sig .tc := ⟨.hbm, 118, rfl⟩
abbrev main_v35 : Ref sig .tc := ⟨.hbm, 119, rfl⟩
abbrev main_c_22 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_c_23 : Ref sig .tc := ⟨.hbm, 125, rfl⟩
abbrev main_v40 : Ref sig .tc := ⟨.hbm, 126, rfl⟩
abbrev main_c_24 : Ref sig .tc := ⟨.hbm, 127, rfl⟩
abbrev main_v41 : Ref sig .tc := ⟨.hbm, 128, rfl⟩
abbrev main_c_25 : Ref sig .tc := ⟨.hbm, 129, rfl⟩
abbrev main_call4_v0 : Ref sig .tc := ⟨.hbm, 130, rfl⟩
abbrev main_call4_c : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_c_1 : Ref sig .tc := ⟨.hbm, 136, rfl⟩
abbrev main_call4_v4 : Ref sig .tc := ⟨.hbm, 137, rfl⟩
abbrev main_call4_c_2 : Ref sig .tc := ⟨.hbm, 138, rfl⟩
abbrev main_call4_v5 : Ref sig .tc := ⟨.hbm, 139, rfl⟩
abbrev main_call4_c_3 : Ref sig .tc := ⟨.hbm, 140, rfl⟩
abbrev main_call4_v6 : Ref sig .tc := ⟨.hbm, 141, rfl⟩
abbrev main_call4_v7 : Ref sig .tc := ⟨.hbm, 142, rfl⟩
abbrev main_call4_v8 : Ref sig .tc := ⟨.hbm, 143, rfl⟩
abbrev main_call4_v9 : Ref sig .tc := ⟨.hbm, 144, rfl⟩
abbrev main_v42 : Ref sig .tc := ⟨.hbm, 145, rfl⟩
abbrev main_c_26 : Ref sig .tc := ⟨.hbm, 146, rfl⟩
abbrev main_v43 : Ref sig .tc := ⟨.hbm, 147, rfl⟩
abbrev main_c_27 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_c_28 : Ref sig .tc := ⟨.hbm, 153, rfl⟩
abbrev main_v48 : Ref sig .tc := ⟨.hbm, 154, rfl⟩
abbrev main_c_29 : Ref sig .tc := ⟨.hbm, 155, rfl⟩
abbrev main_v49 : Ref sig .tc := ⟨.hbm, 156, rfl⟩
abbrev main_c_30 : Ref sig .tc := ⟨.hbm, 157, rfl⟩
abbrev main_call5_v0 : Ref sig .tc := ⟨.hbm, 158, rfl⟩
abbrev main_call5_c : Ref sig .tc := ⟨.hbm, 159, rfl⟩
abbrev main_call5_v1 : Ref sig .tc := ⟨.hbm, 160, rfl⟩
abbrev main_call5_c_0 : Ref sig .tc := ⟨.hbm, 161, rfl⟩
abbrev main_call5_v2 : Ref sig .tc := ⟨.hbm, 162, rfl⟩
abbrev main_call5_v3 : Ref sig .tc := ⟨.hbm, 163, rfl⟩
abbrev main_call5_c_1 : Ref sig .tc := ⟨.hbm, 164, rfl⟩
abbrev main_call5_v4 : Ref sig .tc := ⟨.hbm, 165, rfl⟩
abbrev main_call5_c_2 : Ref sig .tc := ⟨.hbm, 166, rfl⟩
abbrev main_call5_v5 : Ref sig .tc := ⟨.hbm, 167, rfl⟩
abbrev main_call5_c_3 : Ref sig .tc := ⟨.hbm, 168, rfl⟩
abbrev main_call5_v6 : Ref sig .tc := ⟨.hbm, 169, rfl⟩
abbrev main_call5_v7 : Ref sig .tc := ⟨.hbm, 170, rfl⟩
abbrev main_call5_v8 : Ref sig .tc := ⟨.hbm, 171, rfl⟩
abbrev main_call5_v9 : Ref sig .tc := ⟨.hbm, 172, rfl⟩
abbrev main_v50 : Ref sig .tc := ⟨.hbm, 173, rfl⟩
abbrev main_c_31 : Ref sig .tc := ⟨.hbm, 174, rfl⟩
abbrev main_v51 : Ref sig .tc := ⟨.hbm, 175, rfl⟩
abbrev main_c_32 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_c_33 : Ref sig .tc := ⟨.hbm, 181, rfl⟩
abbrev main_v56 : Ref sig .tc := ⟨.hbm, 182, rfl⟩
abbrev main_c_34 : Ref sig .tc := ⟨.hbm, 183, rfl⟩
abbrev main_v57 : Ref sig .tc := ⟨.hbm, 184, rfl⟩
abbrev main_c_35 : Ref sig .tc := ⟨.hbm, 185, rfl⟩
abbrev main_call6_v0 : Ref sig .tc := ⟨.hbm, 186, rfl⟩
abbrev main_call6_c : Ref sig .tc := ⟨.hbm, 187, rfl⟩
abbrev main_call6_v1 : Ref sig .tc := ⟨.hbm, 188, rfl⟩
abbrev main_call6_c_0 : Ref sig .tc := ⟨.hbm, 189, rfl⟩
abbrev main_call6_v2 : Ref sig .tc := ⟨.hbm, 190, rfl⟩
abbrev main_call6_v3 : Ref sig .tc := ⟨.hbm, 191, rfl⟩
abbrev main_call6_c_1 : Ref sig .tc := ⟨.hbm, 192, rfl⟩
abbrev main_call6_v4 : Ref sig .tc := ⟨.hbm, 193, rfl⟩
abbrev main_call6_c_2 : Ref sig .tc := ⟨.hbm, 194, rfl⟩
abbrev main_call6_v5 : Ref sig .tc := ⟨.hbm, 195, rfl⟩
abbrev main_call6_c_3 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_v58 : Ref sig .tc := ⟨.hbm, 201, rfl⟩
abbrev main_c_36 : Ref sig .tc := ⟨.hbm, 202, rfl⟩
abbrev main_v59 : Ref sig .tc := ⟨.hbm, 203, rfl⟩
abbrev main_c_37 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_v63 : Ref sig .tc := ⟨.hbm, 208, rfl⟩
abbrev main_c_38 : Ref sig .tc := ⟨.hbm, 209, rfl⟩
abbrev main_v64 : Ref sig .tc := ⟨.hbm, 210, rfl⟩
abbrev main_c_39 : Ref sig .tc := ⟨.hbm, 211, rfl⟩
abbrev main_v65 : Ref sig .tc := ⟨.hbm, 212, rfl⟩
abbrev main_c_40 : Ref sig .tc := ⟨.hbm, 213, rfl⟩
abbrev main_call7_v0 : Ref sig .tc := ⟨.hbm, 214, rfl⟩
abbrev main_call7_c : Ref sig .tc := ⟨.hbm, 215, rfl⟩
abbrev main_call7_v1 : Ref sig .tc := ⟨.hbm, 216, rfl⟩
abbrev main_call7_c_0 : Ref sig .tc := ⟨.hbm, 217, rfl⟩
abbrev main_call7_v2 : Ref sig .tc := ⟨.hbm, 218, rfl⟩
abbrev main_call7_v3 : Ref sig .tc := ⟨.hbm, 219, rfl⟩
abbrev main_call7_c_1 : Ref sig .tc := ⟨.hbm, 220, rfl⟩
abbrev main_call7_v4 : Ref sig .tc := ⟨.hbm, 221, rfl⟩
abbrev main_call7_c_2 : Ref sig .tc := ⟨.hbm, 222, rfl⟩
abbrev main_call7_v5 : Ref sig .tc := ⟨.hbm, 223, rfl⟩
abbrev main_call7_c_3 : Ref sig .tc := ⟨.hbm, 224, rfl⟩
abbrev main_call7_v6 : Ref sig .tc := ⟨.hbm, 225, rfl⟩
abbrev main_call7_v7 : Ref sig .tc := ⟨.hbm, 226, rfl⟩
abbrev main_call7_v8 : Ref sig .tc := ⟨.hbm, 227, rfl⟩
abbrev main_call7_v9 : Ref sig .tc := ⟨.hbm, 228, rfl⟩
abbrev main_v66 : Ref sig .tc := ⟨.hbm, 229, rfl⟩
abbrev main_c_41 : Ref sig .tc := ⟨.hbm, 230, rfl⟩
abbrev main_v67 : Ref sig .tc := ⟨.hbm, 231, rfl⟩
abbrev main_c_42 : Ref sig .tc := ⟨.hbm, 232, rfl⟩
abbrev main_v68 : Ref sig .tc := ⟨.hbm, 233, rfl⟩
abbrev main_v69 : Ref sig .tc := ⟨.hbm, 234, rfl⟩
abbrev main_v70 : Ref sig .tc := ⟨.hbm, 235, rfl⟩
abbrev main_v71 : Ref sig .tc := ⟨.hbm, 236, rfl⟩
abbrev main_c_43 : Ref sig .tc := ⟨.hbm, 237, rfl⟩
abbrev main_v72 : Ref sig .tc := ⟨.hbm, 238, rfl⟩
abbrev main_c_44 : Ref sig .tc := ⟨.hbm, 239, rfl⟩
abbrev main_v73 : Ref sig .tc := ⟨.hbm, 240, rfl⟩
abbrev main_c_45 : Ref sig .tc := ⟨.hbm, 241, rfl⟩
abbrev main_call8_v0 : Ref sig .tc := ⟨.hbm, 242, rfl⟩
abbrev main_call8_c : Ref sig .tc := ⟨.hbm, 243, rfl⟩
abbrev main_call8_v1 : Ref sig .tc := ⟨.hbm, 244, rfl⟩
abbrev main_call8_c_0 : Ref sig .tc := ⟨.hbm, 245, rfl⟩
abbrev main_call8_v2 : Ref sig .tc := ⟨.hbm, 246, rfl⟩
abbrev main_call8_v3 : Ref sig .tc := ⟨.hbm, 247, rfl⟩
abbrev main_call8_c_1 : Ref sig .tc := ⟨.hbm, 248, rfl⟩
abbrev main_call8_v4 : Ref sig .tc := ⟨.hbm, 249, rfl⟩
abbrev main_call8_c_2 : Ref sig .tc := ⟨.hbm, 250, rfl⟩
abbrev main_call8_v5 : Ref sig .tc := ⟨.hbm, 251, rfl⟩
abbrev main_call8_c_3 : Ref sig .tc := ⟨.hbm, 252, rfl⟩
abbrev main_call8_v6 : Ref sig .tc := ⟨.hbm, 253, rfl⟩
abbrev main_call8_v7 : Ref sig .tc := ⟨.hbm, 254, rfl⟩
abbrev main_call8_v8 : Ref sig .tc := ⟨.hbm, 255, rfl⟩
abbrev main_call8_v9 : Ref sig .tc := ⟨.hbm, 256, rfl⟩
abbrev main_v74 : Ref sig .tc := ⟨.hbm, 257, rfl⟩
abbrev main_c_46 : Ref sig .tc := ⟨.hbm, 258, rfl⟩
abbrev main_v75 : Ref sig .tc := ⟨.hbm, 259, rfl⟩
abbrev main_c_47 : Ref sig .tc := ⟨.hbm, 260, rfl⟩
abbrev main_v76 : Ref sig .tc := ⟨.hbm, 261, rfl⟩
abbrev main_v77 : Ref sig .tc := ⟨.hbm, 262, rfl⟩
abbrev main_v78 : Ref sig .tc := ⟨.hbm, 263, rfl⟩
abbrev main_v79 : Ref sig .tc := ⟨.hbm, 264, rfl⟩
abbrev main_c_48 : Ref sig .tc := ⟨.hbm, 265, rfl⟩
abbrev main_v80 : Ref sig .tc := ⟨.hbm, 266, rfl⟩
abbrev main_c_49 : Ref sig .tc := ⟨.hbm, 267, rfl⟩
abbrev main_v81 : Ref sig .tc := ⟨.hbm, 268, rfl⟩
abbrev main_c_50 : Ref sig .tc := ⟨.hbm, 269, rfl⟩
abbrev main_call9_v0 : Ref sig .tc := ⟨.hbm, 270, rfl⟩
abbrev main_call9_c : Ref sig .tc := ⟨.hbm, 271, rfl⟩
abbrev main_call9_v1 : Ref sig .tc := ⟨.hbm, 272, rfl⟩
abbrev main_call9_c_0 : Ref sig .tc := ⟨.hbm, 273, rfl⟩
abbrev main_call9_v2 : Ref sig .tc := ⟨.hbm, 274, rfl⟩
abbrev main_call9_v3 : Ref sig .tc := ⟨.hbm, 275, rfl⟩
abbrev main_call9_c_1 : Ref sig .tc := ⟨.hbm, 276, rfl⟩
abbrev main_call9_v4 : Ref sig .tc := ⟨.hbm, 277, rfl⟩
abbrev main_call9_c_2 : Ref sig .tc := ⟨.hbm, 278, rfl⟩
abbrev main_call9_v5 : Ref sig .tc := ⟨.hbm, 279, rfl⟩
abbrev main_call9_c_3 : Ref sig .tc := ⟨.hbm, 280, rfl⟩
abbrev main_call9_v6 : Ref sig .tc := ⟨.hbm, 281, rfl⟩
abbrev main_call9_v7 : Ref sig .tc := ⟨.hbm, 282, rfl⟩
abbrev main_call9_v8 : Ref sig .tc := ⟨.hbm, 283, rfl⟩
abbrev main_call9_v9 : Ref sig .tc := ⟨.hbm, 284, rfl⟩
abbrev main_v82 : Ref sig .tc := ⟨.hbm, 285, rfl⟩
abbrev main_c_51 : Ref sig .tc := ⟨.hbm, 286, rfl⟩
abbrev main_v83 : Ref sig .tc := ⟨.hbm, 287, rfl⟩
abbrev main_c_52 : Ref sig .tc := ⟨.hbm, 288, rfl⟩
abbrev main_v84 : Ref sig .tc := ⟨.hbm, 289, rfl⟩
abbrev main_v85 : Ref sig .tc := ⟨.hbm, 290, rfl⟩
abbrev main_v86 : Ref sig .tc := ⟨.hbm, 291, rfl⟩
abbrev main_v87 : Ref sig .tc := ⟨.hbm, 292, rfl⟩
abbrev main_c_53 : Ref sig .tc := ⟨.hbm, 293, rfl⟩
abbrev main_v88 : Ref sig .tc := ⟨.hbm, 294, rfl⟩
abbrev main_c_54 : Ref sig .tc := ⟨.hbm, 295, rfl⟩
abbrev main_v89 : Ref sig .tc := ⟨.hbm, 296, rfl⟩
abbrev main_c_55 : Ref sig .tc := ⟨.hbm, 297, rfl⟩
abbrev main_call10_v0 : Ref sig .tc := ⟨.hbm, 298, rfl⟩
abbrev main_call10_c : Ref sig .tc := ⟨.hbm, 299, rfl⟩
abbrev main_call10_v1 : Ref sig .tc := ⟨.hbm, 300, rfl⟩
abbrev main_call10_c_0 : Ref sig .tc := ⟨.hbm, 301, rfl⟩
abbrev main_call10_v2 : Ref sig .tc := ⟨.hbm, 302, rfl⟩
abbrev main_call10_v3 : Ref sig .tc := ⟨.hbm, 303, rfl⟩
abbrev main_call10_c_1 : Ref sig .tc := ⟨.hbm, 304, rfl⟩
abbrev main_call10_v4 : Ref sig .tc := ⟨.hbm, 305, rfl⟩
abbrev main_call10_c_2 : Ref sig .tc := ⟨.hbm, 306, rfl⟩
abbrev main_call10_v5 : Ref sig .tc := ⟨.hbm, 307, rfl⟩
abbrev main_call10_c_3 : Ref sig .tc := ⟨.hbm, 308, rfl⟩
abbrev main_call10_v6 : Ref sig .tc := ⟨.hbm, 309, rfl⟩
abbrev main_call10_v7 : Ref sig .tc := ⟨.hbm, 310, rfl⟩
abbrev main_call10_v8 : Ref sig .tc := ⟨.hbm, 311, rfl⟩
abbrev main_call10_v9 : Ref sig .tc := ⟨.hbm, 312, rfl⟩
abbrev main_v90 : Ref sig .tc := ⟨.hbm, 313, rfl⟩
abbrev main_c_56 : Ref sig .tc := ⟨.hbm, 314, rfl⟩
abbrev main_v91 : Ref sig .tc := ⟨.hbm, 315, rfl⟩
abbrev main_c_57 : Ref sig .tc := ⟨.hbm, 316, rfl⟩
abbrev main_v92 : Ref sig .tc := ⟨.hbm, 317, rfl⟩
abbrev main_v93 : Ref sig .tc := ⟨.hbm, 318, rfl⟩
abbrev main_v94 : Ref sig .tc := ⟨.hbm, 319, rfl⟩
abbrev main_v95 : Ref sig .tc := ⟨.hbm, 320, rfl⟩
abbrev main_c_58 : Ref sig .tc := ⟨.hbm, 321, rfl⟩
abbrev main_v96 : Ref sig .tc := ⟨.hbm, 322, rfl⟩
abbrev main_c_59 : Ref sig .tc := ⟨.hbm, 323, rfl⟩
abbrev main_v97 : Ref sig .tc := ⟨.hbm, 324, rfl⟩
abbrev main_c_60 : Ref sig .tc := ⟨.hbm, 325, rfl⟩
abbrev main_call11_v0 : Ref sig .tc := ⟨.hbm, 326, rfl⟩
abbrev main_call11_c : Ref sig .tc := ⟨.hbm, 327, rfl⟩
abbrev main_call11_v1 : Ref sig .tc := ⟨.hbm, 328, rfl⟩
abbrev main_call11_c_0 : Ref sig .tc := ⟨.hbm, 329, rfl⟩
abbrev main_call11_v2 : Ref sig .tc := ⟨.hbm, 330, rfl⟩
abbrev main_call11_v3 : Ref sig .tc := ⟨.hbm, 331, rfl⟩
abbrev main_call11_c_1 : Ref sig .tc := ⟨.hbm, 332, rfl⟩
abbrev main_call11_v4 : Ref sig .tc := ⟨.hbm, 333, rfl⟩
abbrev main_call11_c_2 : Ref sig .tc := ⟨.hbm, 334, rfl⟩
abbrev main_call11_v5 : Ref sig .tc := ⟨.hbm, 335, rfl⟩
abbrev main_call11_c_3 : Ref sig .tc := ⟨.hbm, 336, rfl⟩
abbrev main_call11_v6 : Ref sig .tc := ⟨.hbm, 337, rfl⟩
abbrev main_call11_v7 : Ref sig .tc := ⟨.hbm, 338, rfl⟩
abbrev main_call11_v8 : Ref sig .tc := ⟨.hbm, 339, rfl⟩
abbrev main_call11_v9 : Ref sig .tc := ⟨.hbm, 340, rfl⟩
abbrev main_v98 : Ref sig .tc := ⟨.hbm, 341, rfl⟩
abbrev main_c_61 : Ref sig .tc := ⟨.hbm, 342, rfl⟩
abbrev main_v99 : Ref sig .tc := ⟨.hbm, 343, rfl⟩
abbrev main_c_62 : Ref sig .tc := ⟨.hbm, 344, rfl⟩
abbrev main_v100 : Ref sig .tc := ⟨.hbm, 345, rfl⟩
abbrev main_v101 : Ref sig .tc := ⟨.hbm, 346, rfl⟩
abbrev main_v102 : Ref sig .tc := ⟨.hbm, 347, rfl⟩
abbrev main_v103 : Ref sig .tc := ⟨.hbm, 348, rfl⟩
abbrev main_c_63 : Ref sig .tc := ⟨.hbm, 349, rfl⟩
abbrev main_v104 : Ref sig .tc := ⟨.hbm, 350, rfl⟩
abbrev main_c_64 : Ref sig .tc := ⟨.hbm, 351, rfl⟩
abbrev main_v105 : Ref sig .tc := ⟨.hbm, 352, rfl⟩
abbrev main_c_65 : Ref sig .tc := ⟨.hbm, 353, rfl⟩
abbrev main_call12_v0 : Ref sig .tc := ⟨.hbm, 354, rfl⟩
abbrev main_call12_c : Ref sig .tc := ⟨.hbm, 355, rfl⟩
abbrev main_call12_v1 : Ref sig .tc := ⟨.hbm, 356, rfl⟩
abbrev main_call12_c_0 : Ref sig .tc := ⟨.hbm, 357, rfl⟩
abbrev main_call12_v2 : Ref sig .tc := ⟨.hbm, 358, rfl⟩
abbrev main_call12_v3 : Ref sig .tc := ⟨.hbm, 359, rfl⟩
abbrev main_call12_c_1 : Ref sig .tc := ⟨.hbm, 360, rfl⟩
abbrev main_call12_v4 : Ref sig .tc := ⟨.hbm, 361, rfl⟩
abbrev main_call12_c_2 : Ref sig .tc := ⟨.hbm, 362, rfl⟩
abbrev main_call12_v5 : Ref sig .tc := ⟨.hbm, 363, rfl⟩
abbrev main_call12_c_3 : Ref sig .tc := ⟨.hbm, 364, rfl⟩
abbrev main_call12_v6 : Ref sig .tc := ⟨.hbm, 365, rfl⟩
abbrev main_call12_v7 : Ref sig .tc := ⟨.hbm, 366, rfl⟩
abbrev main_call12_v8 : Ref sig .tc := ⟨.hbm, 367, rfl⟩
abbrev main_call12_v9 : Ref sig .tc := ⟨.hbm, 368, rfl⟩
abbrev main_v106 : Ref sig .tc := ⟨.hbm, 369, rfl⟩
abbrev main_c_66 : Ref sig .tc := ⟨.hbm, 370, rfl⟩
abbrev main_v107 : Ref sig .tc := ⟨.hbm, 371, rfl⟩
abbrev main_c_67 : Ref sig .tc := ⟨.hbm, 372, rfl⟩
abbrev main_v108 : Ref sig .tc := ⟨.hbm, 373, rfl⟩
abbrev main_v109 : Ref sig .tc := ⟨.hbm, 374, rfl⟩
abbrev main_v110 : Ref sig .tc := ⟨.hbm, 375, rfl⟩
abbrev main_v111 : Ref sig .tc := ⟨.hbm, 376, rfl⟩
abbrev main_c_68 : Ref sig .tc := ⟨.hbm, 377, rfl⟩
abbrev main_v112 : Ref sig .tc := ⟨.hbm, 378, rfl⟩
abbrev main_c_69 : Ref sig .tc := ⟨.hbm, 379, rfl⟩
abbrev main_v113 : Ref sig .tc := ⟨.hbm, 380, rfl⟩
abbrev main_c_70 : Ref sig .tc := ⟨.hbm, 381, rfl⟩
abbrev main_call13_v0 : Ref sig .tc := ⟨.hbm, 382, rfl⟩
abbrev main_call13_c : Ref sig .tc := ⟨.hbm, 383, rfl⟩
abbrev main_call13_v1 : Ref sig .tc := ⟨.hbm, 384, rfl⟩
abbrev main_call13_c_0 : Ref sig .tc := ⟨.hbm, 385, rfl⟩
abbrev main_call13_v2 : Ref sig .tc := ⟨.hbm, 386, rfl⟩
abbrev main_call13_v3 : Ref sig .tc := ⟨.hbm, 387, rfl⟩
abbrev main_call13_c_1 : Ref sig .tc := ⟨.hbm, 388, rfl⟩
abbrev main_call13_v4 : Ref sig .tc := ⟨.hbm, 389, rfl⟩
abbrev main_call13_c_2 : Ref sig .tc := ⟨.hbm, 390, rfl⟩
abbrev main_call13_v5 : Ref sig .tc := ⟨.hbm, 391, rfl⟩
abbrev main_call13_c_3 : Ref sig .tc := ⟨.hbm, 392, rfl⟩
abbrev main_call13_v6 : Ref sig .tc := ⟨.hbm, 393, rfl⟩
abbrev main_call13_v7 : Ref sig .tc := ⟨.hbm, 394, rfl⟩
abbrev main_call13_v8 : Ref sig .tc := ⟨.hbm, 395, rfl⟩
abbrev main_call13_v9 : Ref sig .tc := ⟨.hbm, 396, rfl⟩
abbrev main_v114 : Ref sig .tc := ⟨.hbm, 397, rfl⟩
abbrev main_c_71 : Ref sig .tc := ⟨.hbm, 398, rfl⟩
abbrev main_v115 : Ref sig .tc := ⟨.hbm, 399, rfl⟩
abbrev main_c_72 : Ref sig .tc := ⟨.hbm, 400, rfl⟩
abbrev main_v116 : Ref sig .tc := ⟨.hbm, 401, rfl⟩
abbrev main_v117 : Ref sig .tc := ⟨.hbm, 402, rfl⟩
abbrev main_v118 : Ref sig .tc := ⟨.hbm, 403, rfl⟩
abbrev main_v119 : Ref sig .tc := ⟨.hbm, 404, rfl⟩
abbrev main_c_73 : Ref sig .tc := ⟨.hbm, 405, rfl⟩
abbrev main_v120 : Ref sig .tc := ⟨.hbm, 406, rfl⟩
abbrev main_c_74 : Ref sig .tc := ⟨.hbm, 407, rfl⟩
abbrev main_v121 : Ref sig .tc := ⟨.hbm, 408, rfl⟩
abbrev main_c_75 : Ref sig .tc := ⟨.hbm, 409, rfl⟩
abbrev main_call14_v0 : Ref sig .tc := ⟨.hbm, 410, rfl⟩
abbrev main_call14_c : Ref sig .tc := ⟨.hbm, 411, rfl⟩
abbrev main_call14_v1 : Ref sig .tc := ⟨.hbm, 412, rfl⟩
abbrev main_call14_c_0 : Ref sig .tc := ⟨.hbm, 413, rfl⟩
abbrev main_call14_v2 : Ref sig .tc := ⟨.hbm, 414, rfl⟩
abbrev main_call14_v3 : Ref sig .tc := ⟨.hbm, 415, rfl⟩
abbrev main_call14_c_1 : Ref sig .tc := ⟨.hbm, 416, rfl⟩
abbrev main_call14_v4 : Ref sig .tc := ⟨.hbm, 417, rfl⟩
abbrev main_call14_c_2 : Ref sig .tc := ⟨.hbm, 418, rfl⟩
abbrev main_call14_v5 : Ref sig .tc := ⟨.hbm, 419, rfl⟩
abbrev main_call14_c_3 : Ref sig .tc := ⟨.hbm, 420, rfl⟩
abbrev main_call14_v6 : Ref sig .tc := ⟨.hbm, 421, rfl⟩
abbrev main_call14_v7 : Ref sig .tc := ⟨.hbm, 422, rfl⟩
abbrev main_call14_v8 : Ref sig .tc := ⟨.hbm, 423, rfl⟩
abbrev main_call14_v9 : Ref sig .tc := ⟨.hbm, 424, rfl⟩
abbrev main_v122 : Ref sig .tc := ⟨.hbm, 425, rfl⟩
abbrev main_c_76 : Ref sig .tc := ⟨.hbm, 426, rfl⟩
abbrev main_v123 : Ref sig .tc := ⟨.hbm, 427, rfl⟩
abbrev main_c_77 : Ref sig .tc := ⟨.hbm, 428, rfl⟩
abbrev main_v124 : Ref sig .tc := ⟨.hbm, 429, rfl⟩
abbrev main_v125 : Ref sig .tc := ⟨.hbm, 430, rfl⟩
abbrev main_v126 : Ref sig .tc := ⟨.hbm, 431, rfl⟩
abbrev main_v127 : Ref sig .tc := ⟨.hbm, 432, rfl⟩
abbrev main_c_78 : Ref sig .tc := ⟨.hbm, 433, rfl⟩
abbrev main_v128 : Ref sig .tc := ⟨.hbm, 434, rfl⟩
abbrev main_c_79 : Ref sig .tc := ⟨.hbm, 435, rfl⟩
abbrev main_v129 : Ref sig .tc := ⟨.hbm, 436, rfl⟩
abbrev main_c_80 : Ref sig .tc := ⟨.hbm, 437, rfl⟩
abbrev main_call15_v0 : Ref sig .tc := ⟨.hbm, 438, rfl⟩
abbrev main_call15_c : Ref sig .tc := ⟨.hbm, 439, rfl⟩
abbrev main_call15_v1 : Ref sig .tc := ⟨.hbm, 440, rfl⟩
abbrev main_call15_c_0 : Ref sig .tc := ⟨.hbm, 441, rfl⟩
abbrev main_call15_v2 : Ref sig .tc := ⟨.hbm, 442, rfl⟩
abbrev main_call15_v3 : Ref sig .tc := ⟨.hbm, 443, rfl⟩
abbrev main_call15_c_1 : Ref sig .tc := ⟨.hbm, 444, rfl⟩
abbrev main_call15_v4 : Ref sig .tc := ⟨.hbm, 445, rfl⟩
abbrev main_call15_c_2 : Ref sig .tc := ⟨.hbm, 446, rfl⟩
abbrev main_call15_v5 : Ref sig .tc := ⟨.hbm, 447, rfl⟩
abbrev main_call15_c_3 : Ref sig .tc := ⟨.hbm, 448, rfl⟩
abbrev main_call15_v6 : Ref sig .tc := ⟨.hbm, 449, rfl⟩
abbrev main_call15_v7 : Ref sig .tc := ⟨.hbm, 450, rfl⟩
abbrev main_call15_v8 : Ref sig .tc := ⟨.hbm, 451, rfl⟩
abbrev main_call15_v9 : Ref sig .tc := ⟨.hbm, 452, rfl⟩
abbrev main_v130 : Ref sig .tc := ⟨.hbm, 453, rfl⟩
abbrev main_c_81 : Ref sig .tc := ⟨.hbm, 454, rfl⟩
abbrev main_v131 : Ref sig .tc := ⟨.hbm, 455, rfl⟩
abbrev main_c_82 : Ref sig .tc := ⟨.hbm, 456, rfl⟩
abbrev main_v132 : Ref sig .tc := ⟨.hbm, 457, rfl⟩
abbrev main_v133 : Ref sig .tc := ⟨.hbm, 458, rfl⟩
abbrev main_v134 : Ref sig .tc := ⟨.hbm, 459, rfl⟩
abbrev main_v135 : Ref sig .tc := ⟨.hbm, 460, rfl⟩
abbrev main_c_83 : Ref sig .tc := ⟨.hbm, 461, rfl⟩
abbrev main_v136 : Ref sig .tc := ⟨.hbm, 462, rfl⟩
abbrev main_c_84 : Ref sig .tc := ⟨.hbm, 463, rfl⟩
abbrev main_v137 : Ref sig .tc := ⟨.hbm, 464, rfl⟩
abbrev main_c_85 : Ref sig .tc := ⟨.hbm, 465, rfl⟩
abbrev main_call16_v0 : Ref sig .tc := ⟨.hbm, 466, rfl⟩
abbrev main_call16_c : Ref sig .tc := ⟨.hbm, 467, rfl⟩
abbrev main_call16_v1 : Ref sig .tc := ⟨.hbm, 468, rfl⟩
abbrev main_call16_c_0 : Ref sig .tc := ⟨.hbm, 469, rfl⟩
abbrev main_call16_v2 : Ref sig .tc := ⟨.hbm, 470, rfl⟩
abbrev main_call16_v3 : Ref sig .tc := ⟨.hbm, 471, rfl⟩
abbrev main_call16_c_1 : Ref sig .tc := ⟨.hbm, 472, rfl⟩
abbrev main_call16_v4 : Ref sig .tc := ⟨.hbm, 473, rfl⟩
abbrev main_call16_c_2 : Ref sig .tc := ⟨.hbm, 474, rfl⟩
abbrev main_call16_v5 : Ref sig .tc := ⟨.hbm, 475, rfl⟩
abbrev main_call16_c_3 : Ref sig .tc := ⟨.hbm, 476, rfl⟩
abbrev main_call16_v6 : Ref sig .tc := ⟨.hbm, 477, rfl⟩
abbrev main_call16_v7 : Ref sig .tc := ⟨.hbm, 478, rfl⟩
abbrev main_call16_v8 : Ref sig .tc := ⟨.hbm, 479, rfl⟩
abbrev main_call16_v9 : Ref sig .tc := ⟨.hbm, 480, rfl⟩
abbrev main_v138 : Ref sig .tc := ⟨.hbm, 481, rfl⟩
abbrev main_c_86 : Ref sig .tc := ⟨.hbm, 482, rfl⟩
abbrev main_v139 : Ref sig .tc := ⟨.hbm, 483, rfl⟩
abbrev main_c_87 : Ref sig .tc := ⟨.hbm, 484, rfl⟩
abbrev main_v140 : Ref sig .tc := ⟨.hbm, 485, rfl⟩
abbrev main_v141 : Ref sig .tc := ⟨.hbm, 486, rfl⟩
abbrev main_v142 : Ref sig .tc := ⟨.hbm, 487, rfl⟩
abbrev main_v143 : Ref sig .tc := ⟨.hbm, 488, rfl⟩
abbrev main_c_88 : Ref sig .tc := ⟨.hbm, 489, rfl⟩
abbrev main_v144 : Ref sig .tc := ⟨.hbm, 490, rfl⟩
abbrev main_c_89 : Ref sig .tc := ⟨.hbm, 491, rfl⟩
abbrev main_v145 : Ref sig .tc := ⟨.hbm, 492, rfl⟩
abbrev main_c_90 : Ref sig .tc := ⟨.hbm, 493, rfl⟩
abbrev main_call17_v0 : Ref sig .tc := ⟨.hbm, 494, rfl⟩
abbrev main_call17_c : Ref sig .tc := ⟨.hbm, 495, rfl⟩
abbrev main_call17_v1 : Ref sig .tc := ⟨.hbm, 496, rfl⟩
abbrev main_call17_c_0 : Ref sig .tc := ⟨.hbm, 497, rfl⟩
abbrev main_call17_v2 : Ref sig .tc := ⟨.hbm, 498, rfl⟩
abbrev main_call17_v3 : Ref sig .tc := ⟨.hbm, 499, rfl⟩
abbrev main_call17_c_1 : Ref sig .tc := ⟨.hbm, 500, rfl⟩
abbrev main_call17_v4 : Ref sig .tc := ⟨.hbm, 501, rfl⟩
abbrev main_call17_c_2 : Ref sig .tc := ⟨.hbm, 502, rfl⟩
abbrev main_call17_v5 : Ref sig .tc := ⟨.hbm, 503, rfl⟩
abbrev main_call17_c_3 : Ref sig .tc := ⟨.hbm, 504, rfl⟩
abbrev main_call17_v6 : Ref sig .tc := ⟨.hbm, 505, rfl⟩
abbrev main_call17_v7 : Ref sig .tc := ⟨.hbm, 506, rfl⟩
abbrev main_call17_v8 : Ref sig .tc := ⟨.hbm, 507, rfl⟩
abbrev main_call17_v9 : Ref sig .tc := ⟨.hbm, 508, rfl⟩
abbrev main_v146 : Ref sig .tc := ⟨.hbm, 509, rfl⟩
abbrev main_c_91 : Ref sig .tc := ⟨.hbm, 510, rfl⟩
abbrev main_v147 : Ref sig .tc := ⟨.hbm, 511, rfl⟩
abbrev main_c_92 : Ref sig .tc := ⟨.hbm, 512, rfl⟩
abbrev main_v148 : Ref sig .tc := ⟨.hbm, 513, rfl⟩
abbrev main_v149 : Ref sig .tc := ⟨.hbm, 514, rfl⟩
abbrev main_v150 : Ref sig .tc := ⟨.hbm, 515, rfl⟩
abbrev main_v151 : Ref sig .tc := ⟨.hbm, 516, rfl⟩
abbrev main_c_93 : Ref sig .tc := ⟨.hbm, 517, rfl⟩
abbrev main_v152 : Ref sig .tc := ⟨.hbm, 518, rfl⟩
abbrev main_c_94 : Ref sig .tc := ⟨.hbm, 519, rfl⟩
abbrev main_v153 : Ref sig .tc := ⟨.hbm, 520, rfl⟩
abbrev main_c_95 : Ref sig .tc := ⟨.hbm, 521, rfl⟩
abbrev main_call18_v0 : Ref sig .tc := ⟨.hbm, 522, rfl⟩
abbrev main_call18_c : Ref sig .tc := ⟨.hbm, 523, rfl⟩
abbrev main_call18_v1 : Ref sig .tc := ⟨.hbm, 524, rfl⟩
abbrev main_call18_c_0 : Ref sig .tc := ⟨.hbm, 525, rfl⟩
abbrev main_call18_v2 : Ref sig .tc := ⟨.hbm, 526, rfl⟩
abbrev main_call18_v3 : Ref sig .tc := ⟨.hbm, 527, rfl⟩
abbrev main_call18_c_1 : Ref sig .tc := ⟨.hbm, 528, rfl⟩
abbrev main_call18_v4 : Ref sig .tc := ⟨.hbm, 529, rfl⟩
abbrev main_call18_c_2 : Ref sig .tc := ⟨.hbm, 530, rfl⟩
abbrev main_call18_v5 : Ref sig .tc := ⟨.hbm, 531, rfl⟩
abbrev main_call18_c_3 : Ref sig .tc := ⟨.hbm, 532, rfl⟩
abbrev main_call18_v6 : Ref sig .tc := ⟨.hbm, 533, rfl⟩
abbrev main_call18_v7 : Ref sig .tc := ⟨.hbm, 534, rfl⟩
abbrev main_call18_v8 : Ref sig .tc := ⟨.hbm, 535, rfl⟩
abbrev main_call18_v9 : Ref sig .tc := ⟨.hbm, 536, rfl⟩
abbrev main_v154 : Ref sig .tc := ⟨.hbm, 537, rfl⟩
abbrev main_c_96 : Ref sig .tc := ⟨.hbm, 538, rfl⟩
abbrev main_v155 : Ref sig .tc := ⟨.hbm, 539, rfl⟩
abbrev main_c_97 : Ref sig .tc := ⟨.hbm, 540, rfl⟩
abbrev main_v156 : Ref sig .tc := ⟨.hbm, 541, rfl⟩
abbrev main_v157 : Ref sig .tc := ⟨.hbm, 542, rfl⟩
abbrev main_v158 : Ref sig .tc := ⟨.hbm, 543, rfl⟩
abbrev main_v159 : Ref sig .tc := ⟨.hbm, 544, rfl⟩
abbrev main_c_98 : Ref sig .tc := ⟨.hbm, 545, rfl⟩
abbrev main_v160 : Ref sig .tc := ⟨.hbm, 546, rfl⟩
abbrev main_c_99 : Ref sig .tc := ⟨.hbm, 547, rfl⟩
abbrev main_v161 : Ref sig .tc := ⟨.hbm, 548, rfl⟩
abbrev main_c_100 : Ref sig .tc := ⟨.hbm, 549, rfl⟩
abbrev main_call19_v0 : Ref sig .tc := ⟨.hbm, 550, rfl⟩
abbrev main_call19_c : Ref sig .tc := ⟨.hbm, 551, rfl⟩
abbrev main_call19_v1 : Ref sig .tc := ⟨.hbm, 552, rfl⟩
abbrev main_call19_c_0 : Ref sig .tc := ⟨.hbm, 553, rfl⟩
abbrev main_call19_v2 : Ref sig .tc := ⟨.hbm, 554, rfl⟩
abbrev main_call19_v3 : Ref sig .tc := ⟨.hbm, 555, rfl⟩
abbrev main_call19_c_1 : Ref sig .tc := ⟨.hbm, 556, rfl⟩
abbrev main_call19_v4 : Ref sig .tc := ⟨.hbm, 557, rfl⟩
abbrev main_call19_c_2 : Ref sig .tc := ⟨.hbm, 558, rfl⟩
abbrev main_call19_v5 : Ref sig .tc := ⟨.hbm, 559, rfl⟩
abbrev main_call19_c_3 : Ref sig .tc := ⟨.hbm, 560, rfl⟩
abbrev main_call19_v6 : Ref sig .tc := ⟨.hbm, 561, rfl⟩
abbrev main_call19_v7 : Ref sig .tc := ⟨.hbm, 562, rfl⟩
abbrev main_call19_v8 : Ref sig .tc := ⟨.hbm, 563, rfl⟩
abbrev main_call19_v9 : Ref sig .tc := ⟨.hbm, 564, rfl⟩
abbrev main_v162 : Ref sig .tc := ⟨.hbm, 565, rfl⟩
abbrev main_c_101 : Ref sig .tc := ⟨.hbm, 566, rfl⟩
abbrev main_v163 : Ref sig .tc := ⟨.hbm, 567, rfl⟩
abbrev main_c_102 : Ref sig .tc := ⟨.hbm, 568, rfl⟩
abbrev main_v164 : Ref sig .tc := ⟨.hbm, 569, rfl⟩
abbrev main_v165 : Ref sig .tc := ⟨.hbm, 570, rfl⟩
abbrev main_v166 : Ref sig .tc := ⟨.hbm, 571, rfl⟩
abbrev main_v167 : Ref sig .tc := ⟨.hbm, 572, rfl⟩
abbrev main_c_103 : Ref sig .tc := ⟨.hbm, 573, rfl⟩
abbrev main_v168 : Ref sig .tc := ⟨.hbm, 574, rfl⟩
abbrev main_c_104 : Ref sig .tc := ⟨.hbm, 575, rfl⟩
abbrev main_v169 : Ref sig .tc := ⟨.hbm, 576, rfl⟩
abbrev main_c_105 : Ref sig .tc := ⟨.hbm, 577, rfl⟩
abbrev main_call20_v0 : Ref sig .tc := ⟨.hbm, 578, rfl⟩
abbrev main_call20_c : Ref sig .tc := ⟨.hbm, 579, rfl⟩
abbrev main_call20_v1 : Ref sig .tc := ⟨.hbm, 580, rfl⟩
abbrev main_call20_c_0 : Ref sig .tc := ⟨.hbm, 581, rfl⟩
abbrev main_call20_v2 : Ref sig .tc := ⟨.hbm, 582, rfl⟩
abbrev main_call20_v3 : Ref sig .tc := ⟨.hbm, 583, rfl⟩
abbrev main_call20_c_1 : Ref sig .tc := ⟨.hbm, 584, rfl⟩
abbrev main_call20_v4 : Ref sig .tc := ⟨.hbm, 585, rfl⟩
abbrev main_call20_c_2 : Ref sig .tc := ⟨.hbm, 586, rfl⟩
abbrev main_call20_v5 : Ref sig .tc := ⟨.hbm, 587, rfl⟩
abbrev main_call20_c_3 : Ref sig .tc := ⟨.hbm, 588, rfl⟩
abbrev main_call20_v6 : Ref sig .tc := ⟨.hbm, 589, rfl⟩
abbrev main_call20_v7 : Ref sig .tc := ⟨.hbm, 590, rfl⟩
abbrev main_call20_v8 : Ref sig .tc := ⟨.hbm, 591, rfl⟩
abbrev main_call20_v9 : Ref sig .tc := ⟨.hbm, 592, rfl⟩
abbrev main_v170 : Ref sig .tc := ⟨.hbm, 593, rfl⟩
abbrev main_c_106 : Ref sig .tc := ⟨.hbm, 594, rfl⟩
abbrev main_v171 : Ref sig .tc := ⟨.hbm, 595, rfl⟩
abbrev main_c_107 : Ref sig .tc := ⟨.hbm, 596, rfl⟩
abbrev main_v172 : Ref sig .tc := ⟨.hbm, 597, rfl⟩
abbrev main_v173 : Ref sig .tc := ⟨.hbm, 598, rfl⟩
abbrev main_v174 : Ref sig .tc := ⟨.hbm, 599, rfl⟩
abbrev main_v175 : Ref sig .tc := ⟨.hbm, 600, rfl⟩
abbrev main_c_108 : Ref sig .tc := ⟨.hbm, 601, rfl⟩
abbrev main_v176 : Ref sig .tc := ⟨.hbm, 602, rfl⟩
abbrev main_c_109 : Ref sig .tc := ⟨.hbm, 603, rfl⟩
abbrev main_v177 : Ref sig .tc := ⟨.hbm, 604, rfl⟩
abbrev main_c_110 : Ref sig .tc := ⟨.hbm, 605, rfl⟩
abbrev main_call21_v0 : Ref sig .tc := ⟨.hbm, 606, rfl⟩
abbrev main_call21_c : Ref sig .tc := ⟨.hbm, 607, rfl⟩
abbrev main_call21_v1 : Ref sig .tc := ⟨.hbm, 608, rfl⟩
abbrev main_call21_c_0 : Ref sig .tc := ⟨.hbm, 609, rfl⟩
abbrev main_call21_v2 : Ref sig .tc := ⟨.hbm, 610, rfl⟩
abbrev main_call21_v3 : Ref sig .tc := ⟨.hbm, 611, rfl⟩
abbrev main_call21_c_1 : Ref sig .tc := ⟨.hbm, 612, rfl⟩
abbrev main_call21_v4 : Ref sig .tc := ⟨.hbm, 613, rfl⟩
abbrev main_call21_c_2 : Ref sig .tc := ⟨.hbm, 614, rfl⟩
abbrev main_call21_v5 : Ref sig .tc := ⟨.hbm, 615, rfl⟩
abbrev main_call21_c_3 : Ref sig .tc := ⟨.hbm, 616, rfl⟩
abbrev main_call21_v6 : Ref sig .tc := ⟨.hbm, 617, rfl⟩
abbrev main_call21_v7 : Ref sig .tc := ⟨.hbm, 618, rfl⟩
abbrev main_call21_v8 : Ref sig .tc := ⟨.hbm, 619, rfl⟩
abbrev main_call21_v9 : Ref sig .tc := ⟨.hbm, 620, rfl⟩
abbrev main_v178 : Ref sig .tc := ⟨.hbm, 621, rfl⟩
abbrev main_c_111 : Ref sig .tc := ⟨.hbm, 622, rfl⟩
abbrev main_v179 : Ref sig .tc := ⟨.hbm, 623, rfl⟩
abbrev main_c_112 : Ref sig .tc := ⟨.hbm, 624, rfl⟩
abbrev main_v180 : Ref sig .tc := ⟨.hbm, 625, rfl⟩
abbrev main_v181 : Ref sig .tc := ⟨.hbm, 626, rfl⟩
abbrev main_v182 : Ref sig .tc := ⟨.hbm, 627, rfl⟩
abbrev main_v183 : Ref sig .tc := ⟨.hbm, 628, rfl⟩
abbrev main_c_113 : Ref sig .tc := ⟨.hbm, 629, rfl⟩
abbrev main_v184 : Ref sig .tc := ⟨.hbm, 630, rfl⟩
abbrev main_c_114 : Ref sig .tc := ⟨.hbm, 631, rfl⟩
abbrev main_v185 : Ref sig .tc := ⟨.hbm, 632, rfl⟩
abbrev main_c_115 : Ref sig .tc := ⟨.hbm, 633, rfl⟩
abbrev main_call22_v0 : Ref sig .tc := ⟨.hbm, 634, rfl⟩
abbrev main_call22_c : Ref sig .tc := ⟨.hbm, 635, rfl⟩
abbrev main_call22_v1 : Ref sig .tc := ⟨.hbm, 636, rfl⟩
abbrev main_call22_c_0 : Ref sig .tc := ⟨.hbm, 637, rfl⟩
abbrev main_call22_v2 : Ref sig .tc := ⟨.hbm, 638, rfl⟩
abbrev main_call22_v3 : Ref sig .tc := ⟨.hbm, 639, rfl⟩
abbrev main_call22_c_1 : Ref sig .tc := ⟨.hbm, 640, rfl⟩
abbrev main_call22_v4 : Ref sig .tc := ⟨.hbm, 641, rfl⟩
abbrev main_call22_c_2 : Ref sig .tc := ⟨.hbm, 642, rfl⟩
abbrev main_call22_v5 : Ref sig .tc := ⟨.hbm, 643, rfl⟩
abbrev main_call22_c_3 : Ref sig .tc := ⟨.hbm, 644, rfl⟩
abbrev main_call22_v6 : Ref sig .tc := ⟨.hbm, 645, rfl⟩
abbrev main_call22_v7 : Ref sig .tc := ⟨.hbm, 646, rfl⟩
abbrev main_call22_v8 : Ref sig .tc := ⟨.hbm, 647, rfl⟩
abbrev main_call22_v9 : Ref sig .tc := ⟨.hbm, 648, rfl⟩
abbrev main_v186 : Ref sig .tc := ⟨.hbm, 649, rfl⟩
abbrev main_c_116 : Ref sig .tc := ⟨.hbm, 650, rfl⟩
abbrev main_v187 : Ref sig .tc := ⟨.hbm, 651, rfl⟩
abbrev main_c_117 : Ref sig .tc := ⟨.hbm, 652, rfl⟩
abbrev main_v188 : Ref sig .tc := ⟨.hbm, 653, rfl⟩
abbrev main_v189 : Ref sig .tc := ⟨.hbm, 654, rfl⟩
abbrev main_v190 : Ref sig .tc := ⟨.hbm, 655, rfl⟩
abbrev main_v191 : Ref sig .tc := ⟨.hbm, 656, rfl⟩
abbrev main_c_118 : Ref sig .tc := ⟨.hbm, 657, rfl⟩
abbrev main_v192 : Ref sig .tc := ⟨.hbm, 658, rfl⟩
abbrev main_c_119 : Ref sig .tc := ⟨.hbm, 659, rfl⟩
abbrev main_v193 : Ref sig .tc := ⟨.hbm, 660, rfl⟩
abbrev main_c_120 : Ref sig .tc := ⟨.hbm, 661, rfl⟩
abbrev main_call23_v0 : Ref sig .tc := ⟨.hbm, 662, rfl⟩
abbrev main_call23_c : Ref sig .tc := ⟨.hbm, 663, rfl⟩
abbrev main_call23_v1 : Ref sig .tc := ⟨.hbm, 664, rfl⟩
abbrev main_call23_c_0 : Ref sig .tc := ⟨.hbm, 665, rfl⟩
abbrev main_call23_v2 : Ref sig .tc := ⟨.hbm, 666, rfl⟩
abbrev main_call23_v3 : Ref sig .tc := ⟨.hbm, 667, rfl⟩
abbrev main_call23_c_1 : Ref sig .tc := ⟨.hbm, 668, rfl⟩
abbrev main_call23_v4 : Ref sig .tc := ⟨.hbm, 669, rfl⟩
abbrev main_call23_c_2 : Ref sig .tc := ⟨.hbm, 670, rfl⟩
abbrev main_call23_v5 : Ref sig .tc := ⟨.hbm, 671, rfl⟩
abbrev main_call23_c_3 : Ref sig .tc := ⟨.hbm, 672, rfl⟩
abbrev main_call23_v6 : Ref sig .tc := ⟨.hbm, 673, rfl⟩
abbrev main_call23_v7 : Ref sig .tc := ⟨.hbm, 674, rfl⟩
abbrev main_call23_v8 : Ref sig .tc := ⟨.hbm, 675, rfl⟩
abbrev main_call23_v9 : Ref sig .tc := ⟨.hbm, 676, rfl⟩
abbrev main_v194 : Ref sig .tc := ⟨.hbm, 677, rfl⟩
abbrev main_c_121 : Ref sig .tc := ⟨.hbm, 678, rfl⟩
abbrev main_v195 : Ref sig .tc := ⟨.hbm, 679, rfl⟩
abbrev main_c_122 : Ref sig .tc := ⟨.hbm, 680, rfl⟩
abbrev main_v196 : Ref sig .tc := ⟨.hbm, 681, rfl⟩
abbrev main_v197 : Ref sig .tc := ⟨.hbm, 682, rfl⟩
abbrev main_v198 : Ref sig .tc := ⟨.hbm, 683, rfl⟩
abbrev main_v199 : Ref sig .tc := ⟨.hbm, 684, rfl⟩
abbrev main_c_123 : Ref sig .tc := ⟨.hbm, 685, rfl⟩
abbrev main_v200 : Ref sig .tc := ⟨.hbm, 686, rfl⟩
abbrev main_c_124 : Ref sig .tc := ⟨.hbm, 687, rfl⟩
abbrev main_v201 : Ref sig .tc := ⟨.hbm, 688, rfl⟩
abbrev main_c_125 : Ref sig .tc := ⟨.hbm, 689, rfl⟩
abbrev main_call24_v0 : Ref sig .tc := ⟨.hbm, 690, rfl⟩
abbrev main_call24_c : Ref sig .tc := ⟨.hbm, 691, rfl⟩
abbrev main_call24_v1 : Ref sig .tc := ⟨.hbm, 692, rfl⟩
abbrev main_call24_c_0 : Ref sig .tc := ⟨.hbm, 693, rfl⟩
abbrev main_call24_v2 : Ref sig .tc := ⟨.hbm, 694, rfl⟩
abbrev main_call24_v3 : Ref sig .tc := ⟨.hbm, 695, rfl⟩
abbrev main_call24_c_1 : Ref sig .tc := ⟨.hbm, 696, rfl⟩
abbrev main_call24_v4 : Ref sig .tc := ⟨.hbm, 697, rfl⟩
abbrev main_call24_c_2 : Ref sig .tc := ⟨.hbm, 698, rfl⟩
abbrev main_call24_v5 : Ref sig .tc := ⟨.hbm, 699, rfl⟩
abbrev main_call24_c_3 : Ref sig .tc := ⟨.hbm, 700, rfl⟩
abbrev main_call24_v6 : Ref sig .tc := ⟨.hbm, 701, rfl⟩
abbrev main_call24_v7 : Ref sig .tc := ⟨.hbm, 702, rfl⟩
abbrev main_call24_v8 : Ref sig .tc := ⟨.hbm, 703, rfl⟩
abbrev main_call24_v9 : Ref sig .tc := ⟨.hbm, 704, rfl⟩
abbrev main_v202 : Ref sig .tc := ⟨.hbm, 705, rfl⟩
abbrev main_c_126 : Ref sig .tc := ⟨.hbm, 706, rfl⟩
abbrev main_v203 : Ref sig .tc := ⟨.hbm, 707, rfl⟩
abbrev main_c_127 : Ref sig .tc := ⟨.hbm, 708, rfl⟩
abbrev main_v204 : Ref sig .tc := ⟨.hbm, 709, rfl⟩
abbrev main_v205 : Ref sig .tc := ⟨.hbm, 710, rfl⟩
abbrev main_v206 : Ref sig .tc := ⟨.hbm, 711, rfl⟩
abbrev main_v207 : Ref sig .tc := ⟨.hbm, 712, rfl⟩
abbrev main_c_128 : Ref sig .tc := ⟨.hbm, 713, rfl⟩
abbrev main_v208 : Ref sig .tc := ⟨.hbm, 714, rfl⟩
abbrev main_c_129 : Ref sig .tc := ⟨.hbm, 715, rfl⟩
abbrev main_v209 : Ref sig .tc := ⟨.hbm, 716, rfl⟩
abbrev main_c_130 : Ref sig .tc := ⟨.hbm, 717, rfl⟩
abbrev main_call25_v0 : Ref sig .tc := ⟨.hbm, 718, rfl⟩
abbrev main_call25_c : Ref sig .tc := ⟨.hbm, 719, rfl⟩
abbrev main_call25_v1 : Ref sig .tc := ⟨.hbm, 720, rfl⟩
abbrev main_call25_c_0 : Ref sig .tc := ⟨.hbm, 721, rfl⟩
abbrev main_call25_v2 : Ref sig .tc := ⟨.hbm, 722, rfl⟩
abbrev main_call25_v3 : Ref sig .tc := ⟨.hbm, 723, rfl⟩
abbrev main_call25_c_1 : Ref sig .tc := ⟨.hbm, 724, rfl⟩
abbrev main_call25_v4 : Ref sig .tc := ⟨.hbm, 725, rfl⟩
abbrev main_call25_c_2 : Ref sig .tc := ⟨.hbm, 726, rfl⟩
abbrev main_call25_v5 : Ref sig .tc := ⟨.hbm, 727, rfl⟩
abbrev main_call25_c_3 : Ref sig .tc := ⟨.hbm, 728, rfl⟩
abbrev main_call25_v6 : Ref sig .tc := ⟨.hbm, 729, rfl⟩
abbrev main_call25_v7 : Ref sig .tc := ⟨.hbm, 730, rfl⟩
abbrev main_call25_v8 : Ref sig .tc := ⟨.hbm, 731, rfl⟩
abbrev main_call25_v9 : Ref sig .tc := ⟨.hbm, 732, rfl⟩
abbrev main_v210 : Ref sig .tc := ⟨.hbm, 733, rfl⟩
abbrev main_c_131 : Ref sig .tc := ⟨.hbm, 734, rfl⟩
abbrev main_v211 : Ref sig .tc := ⟨.hbm, 735, rfl⟩
abbrev main_c_132 : Ref sig .tc := ⟨.hbm, 736, rfl⟩
abbrev main_v212 : Ref sig .tc := ⟨.hbm, 737, rfl⟩
abbrev main_v213 : Ref sig .tc := ⟨.hbm, 738, rfl⟩
abbrev main_v214 : Ref sig .tc := ⟨.hbm, 739, rfl⟩
abbrev main_v215 : Ref sig .tc := ⟨.hbm, 740, rfl⟩
abbrev main_c_133 : Ref sig .tc := ⟨.hbm, 741, rfl⟩
abbrev main_v216 : Ref sig .tc := ⟨.hbm, 742, rfl⟩
abbrev main_c_134 : Ref sig .tc := ⟨.hbm, 743, rfl⟩
abbrev main_v217 : Ref sig .tc := ⟨.hbm, 744, rfl⟩
abbrev main_c_135 : Ref sig .tc := ⟨.hbm, 745, rfl⟩
abbrev main_call26_v0 : Ref sig .tc := ⟨.hbm, 746, rfl⟩
abbrev main_call26_c : Ref sig .tc := ⟨.hbm, 747, rfl⟩
abbrev main_call26_v1 : Ref sig .tc := ⟨.hbm, 748, rfl⟩
abbrev main_call26_c_0 : Ref sig .tc := ⟨.hbm, 749, rfl⟩
abbrev main_call26_v2 : Ref sig .tc := ⟨.hbm, 750, rfl⟩
abbrev main_call26_v3 : Ref sig .tc := ⟨.hbm, 751, rfl⟩
abbrev main_call26_c_1 : Ref sig .tc := ⟨.hbm, 752, rfl⟩
abbrev main_call26_v4 : Ref sig .tc := ⟨.hbm, 753, rfl⟩
abbrev main_call26_c_2 : Ref sig .tc := ⟨.hbm, 754, rfl⟩
abbrev main_call26_v5 : Ref sig .tc := ⟨.hbm, 755, rfl⟩
abbrev main_call26_c_3 : Ref sig .tc := ⟨.hbm, 756, rfl⟩
abbrev main_call26_v6 : Ref sig .tc := ⟨.hbm, 757, rfl⟩
abbrev main_call26_v7 : Ref sig .tc := ⟨.hbm, 758, rfl⟩
abbrev main_call26_v8 : Ref sig .tc := ⟨.hbm, 759, rfl⟩
abbrev main_call26_v9 : Ref sig .tc := ⟨.hbm, 760, rfl⟩
abbrev main_v218 : Ref sig .tc := ⟨.hbm, 761, rfl⟩
abbrev main_c_136 : Ref sig .tc := ⟨.hbm, 762, rfl⟩
abbrev main_v219 : Ref sig .tc := ⟨.hbm, 763, rfl⟩
abbrev main_c_137 : Ref sig .tc := ⟨.hbm, 764, rfl⟩
abbrev main_v220 : Ref sig .tc := ⟨.hbm, 765, rfl⟩
abbrev main_v221 : Ref sig .tc := ⟨.hbm, 766, rfl⟩
abbrev main_v222 : Ref sig .tc := ⟨.hbm, 767, rfl⟩
abbrev main_v223 : Ref sig .tc := ⟨.hbm, 768, rfl⟩
abbrev main_c_138 : Ref sig .tc := ⟨.hbm, 769, rfl⟩
abbrev main_v224 : Ref sig .tc := ⟨.hbm, 770, rfl⟩
abbrev main_c_139 : Ref sig .tc := ⟨.hbm, 771, rfl⟩
abbrev main_v225 : Ref sig .tc := ⟨.hbm, 772, rfl⟩
abbrev main_c_140 : Ref sig .tc := ⟨.hbm, 773, rfl⟩
abbrev main_call27_v0 : Ref sig .tc := ⟨.hbm, 774, rfl⟩
abbrev main_call27_c : Ref sig .tc := ⟨.hbm, 775, rfl⟩
abbrev main_call27_v1 : Ref sig .tc := ⟨.hbm, 776, rfl⟩
abbrev main_call27_c_0 : Ref sig .tc := ⟨.hbm, 777, rfl⟩
abbrev main_call27_v2 : Ref sig .tc := ⟨.hbm, 778, rfl⟩
abbrev main_call27_v3 : Ref sig .tc := ⟨.hbm, 779, rfl⟩
abbrev main_call27_c_1 : Ref sig .tc := ⟨.hbm, 780, rfl⟩
abbrev main_call27_v4 : Ref sig .tc := ⟨.hbm, 781, rfl⟩
abbrev main_call27_c_2 : Ref sig .tc := ⟨.hbm, 782, rfl⟩
abbrev main_call27_v5 : Ref sig .tc := ⟨.hbm, 783, rfl⟩
abbrev main_call27_c_3 : Ref sig .tc := ⟨.hbm, 784, rfl⟩
abbrev main_call27_v6 : Ref sig .tc := ⟨.hbm, 785, rfl⟩
abbrev main_call27_v7 : Ref sig .tc := ⟨.hbm, 786, rfl⟩
abbrev main_call27_v8 : Ref sig .tc := ⟨.hbm, 787, rfl⟩
abbrev main_call27_v9 : Ref sig .tc := ⟨.hbm, 788, rfl⟩
abbrev main_v226 : Ref sig .tc := ⟨.hbm, 789, rfl⟩
abbrev main_c_141 : Ref sig .tc := ⟨.hbm, 790, rfl⟩
abbrev main_v227 : Ref sig .tc := ⟨.hbm, 791, rfl⟩
abbrev main_c_142 : Ref sig .tc := ⟨.hbm, 792, rfl⟩
abbrev main_v228 : Ref sig .tc := ⟨.hbm, 793, rfl⟩
abbrev main_v229 : Ref sig .tc := ⟨.hbm, 794, rfl⟩
abbrev main_v230 : Ref sig .tc := ⟨.hbm, 795, rfl⟩
abbrev main_v231 : Ref sig .tc := ⟨.hbm, 796, rfl⟩
abbrev main_c_143 : Ref sig .tc := ⟨.hbm, 797, rfl⟩
abbrev main_v232 : Ref sig .tc := ⟨.hbm, 798, rfl⟩
abbrev main_c_144 : Ref sig .tc := ⟨.hbm, 799, rfl⟩
abbrev main_v233 : Ref sig .tc := ⟨.hbm, 800, rfl⟩
abbrev main_c_145 : Ref sig .tc := ⟨.hbm, 801, rfl⟩
abbrev main_call28_v0 : Ref sig .tc := ⟨.hbm, 802, rfl⟩
abbrev main_call28_c : Ref sig .tc := ⟨.hbm, 803, rfl⟩
abbrev main_call28_v1 : Ref sig .tc := ⟨.hbm, 804, rfl⟩
abbrev main_call28_c_0 : Ref sig .tc := ⟨.hbm, 805, rfl⟩
abbrev main_call28_v2 : Ref sig .tc := ⟨.hbm, 806, rfl⟩
abbrev main_call28_v3 : Ref sig .tc := ⟨.hbm, 807, rfl⟩
abbrev main_call28_c_1 : Ref sig .tc := ⟨.hbm, 808, rfl⟩
abbrev main_call28_v4 : Ref sig .tc := ⟨.hbm, 809, rfl⟩
abbrev main_call28_c_2 : Ref sig .tc := ⟨.hbm, 810, rfl⟩
abbrev main_call28_v5 : Ref sig .tc := ⟨.hbm, 811, rfl⟩
abbrev main_call28_c_3 : Ref sig .tc := ⟨.hbm, 812, rfl⟩
abbrev main_call28_v6 : Ref sig .tc := ⟨.hbm, 813, rfl⟩
abbrev main_call28_v7 : Ref sig .tc := ⟨.hbm, 814, rfl⟩
abbrev main_call28_v8 : Ref sig .tc := ⟨.hbm, 815, rfl⟩
abbrev main_call28_v9 : Ref sig .tc := ⟨.hbm, 816, rfl⟩
abbrev main_v234 : Ref sig .tc := ⟨.hbm, 817, rfl⟩
abbrev main_c_146 : Ref sig .tc := ⟨.hbm, 818, rfl⟩
abbrev main_v235 : Ref sig .tc := ⟨.hbm, 819, rfl⟩
abbrev main_c_147 : Ref sig .tc := ⟨.hbm, 820, rfl⟩
abbrev main_v236 : Ref sig .tc := ⟨.hbm, 821, rfl⟩
abbrev main_v237 : Ref sig .tc := ⟨.hbm, 822, rfl⟩
abbrev main_v238 : Ref sig .tc := ⟨.hbm, 823, rfl⟩
abbrev main_v239 : Ref sig .tc := ⟨.hbm, 824, rfl⟩
abbrev main_c_148 : Ref sig .tc := ⟨.hbm, 825, rfl⟩
abbrev main_v240 : Ref sig .tc := ⟨.hbm, 826, rfl⟩
abbrev main_c_149 : Ref sig .tc := ⟨.hbm, 827, rfl⟩
abbrev main_v241 : Ref sig .tc := ⟨.hbm, 828, rfl⟩
abbrev main_c_150 : Ref sig .tc := ⟨.hbm, 829, rfl⟩
abbrev main_call29_v0 : Ref sig .tc := ⟨.hbm, 830, rfl⟩
abbrev main_call29_c : Ref sig .tc := ⟨.hbm, 831, rfl⟩
abbrev main_call29_v1 : Ref sig .tc := ⟨.hbm, 832, rfl⟩
abbrev main_call29_c_0 : Ref sig .tc := ⟨.hbm, 833, rfl⟩
abbrev main_call29_v2 : Ref sig .tc := ⟨.hbm, 834, rfl⟩
abbrev main_call29_v3 : Ref sig .tc := ⟨.hbm, 835, rfl⟩
abbrev main_call29_c_1 : Ref sig .tc := ⟨.hbm, 836, rfl⟩
abbrev main_call29_v4 : Ref sig .tc := ⟨.hbm, 837, rfl⟩
abbrev main_call29_c_2 : Ref sig .tc := ⟨.hbm, 838, rfl⟩
abbrev main_call29_v5 : Ref sig .tc := ⟨.hbm, 839, rfl⟩
abbrev main_call29_c_3 : Ref sig .tc := ⟨.hbm, 840, rfl⟩
abbrev main_call29_v6 : Ref sig .tc := ⟨.hbm, 841, rfl⟩
abbrev main_call29_v7 : Ref sig .tc := ⟨.hbm, 842, rfl⟩
abbrev main_call29_v8 : Ref sig .tc := ⟨.hbm, 843, rfl⟩
abbrev main_call29_v9 : Ref sig .tc := ⟨.hbm, 844, rfl⟩
abbrev main_v242 : Ref sig .tc := ⟨.hbm, 845, rfl⟩
abbrev main_c_151 : Ref sig .tc := ⟨.hbm, 846, rfl⟩
abbrev main_v243 : Ref sig .tc := ⟨.hbm, 847, rfl⟩
abbrev main_c_152 : Ref sig .tc := ⟨.hbm, 848, rfl⟩
abbrev main_v244 : Ref sig .tc := ⟨.hbm, 849, rfl⟩
abbrev main_v245 : Ref sig .tc := ⟨.hbm, 850, rfl⟩
abbrev main_v246 : Ref sig .tc := ⟨.hbm, 851, rfl⟩
abbrev main_v247 : Ref sig .tc := ⟨.hbm, 852, rfl⟩
abbrev main_c_153 : Ref sig .tc := ⟨.hbm, 853, rfl⟩
abbrev main_v248 : Ref sig .tc := ⟨.hbm, 854, rfl⟩
abbrev main_c_154 : Ref sig .tc := ⟨.hbm, 855, rfl⟩
abbrev main_v249 : Ref sig .tc := ⟨.hbm, 856, rfl⟩
abbrev main_c_155 : Ref sig .tc := ⟨.hbm, 857, rfl⟩
abbrev main_call30_v0 : Ref sig .tc := ⟨.hbm, 858, rfl⟩
abbrev main_call30_c : Ref sig .tc := ⟨.hbm, 859, rfl⟩
abbrev main_call30_v1 : Ref sig .tc := ⟨.hbm, 860, rfl⟩
abbrev main_call30_c_0 : Ref sig .tc := ⟨.hbm, 861, rfl⟩
abbrev main_call30_v2 : Ref sig .tc := ⟨.hbm, 862, rfl⟩
abbrev main_call30_v3 : Ref sig .tc := ⟨.hbm, 863, rfl⟩
abbrev main_call30_c_1 : Ref sig .tc := ⟨.hbm, 864, rfl⟩
abbrev main_call30_v4 : Ref sig .tc := ⟨.hbm, 865, rfl⟩
abbrev main_call30_c_2 : Ref sig .tc := ⟨.hbm, 866, rfl⟩
abbrev main_call30_v5 : Ref sig .tc := ⟨.hbm, 867, rfl⟩
abbrev main_call30_c_3 : Ref sig .tc := ⟨.hbm, 868, rfl⟩
abbrev main_call30_v6 : Ref sig .tc := ⟨.hbm, 869, rfl⟩
abbrev main_call30_v7 : Ref sig .tc := ⟨.hbm, 870, rfl⟩
abbrev main_call30_v8 : Ref sig .tc := ⟨.hbm, 871, rfl⟩
abbrev main_call30_v9 : Ref sig .tc := ⟨.hbm, 872, rfl⟩
abbrev main_v250 : Ref sig .tc := ⟨.hbm, 873, rfl⟩
abbrev main_c_156 : Ref sig .tc := ⟨.hbm, 874, rfl⟩
abbrev main_v251 : Ref sig .tc := ⟨.hbm, 875, rfl⟩
abbrev main_c_157 : Ref sig .tc := ⟨.hbm, 876, rfl⟩
abbrev main_v252 : Ref sig .tc := ⟨.hbm, 877, rfl⟩
abbrev main_v253 : Ref sig .tc := ⟨.hbm, 878, rfl⟩
abbrev main_v254 : Ref sig .tc := ⟨.hbm, 879, rfl⟩
abbrev main_v255 : Ref sig .tc := ⟨.hbm, 880, rfl⟩
abbrev main_c_158 : Ref sig .tc := ⟨.hbm, 881, rfl⟩
abbrev main_v256 : Ref sig .tc := ⟨.hbm, 882, rfl⟩
abbrev main_c_159 : Ref sig .tc := ⟨.hbm, 883, rfl⟩
abbrev main_v257 : Ref sig .tc := ⟨.hbm, 884, rfl⟩
abbrev main_c_160 : Ref sig .tc := ⟨.hbm, 885, rfl⟩
abbrev main_call31_v0 : Ref sig .tc := ⟨.hbm, 886, rfl⟩
abbrev main_call31_c : Ref sig .tc := ⟨.hbm, 887, rfl⟩
abbrev main_call31_v1 : Ref sig .tc := ⟨.hbm, 888, rfl⟩
abbrev main_call31_c_0 : Ref sig .tc := ⟨.hbm, 889, rfl⟩
abbrev main_call31_v2 : Ref sig .tc := ⟨.hbm, 890, rfl⟩
abbrev main_call31_v3 : Ref sig .tc := ⟨.hbm, 891, rfl⟩
abbrev main_call31_c_1 : Ref sig .tc := ⟨.hbm, 892, rfl⟩
abbrev main_call31_v4 : Ref sig .tc := ⟨.hbm, 893, rfl⟩
abbrev main_call31_c_2 : Ref sig .tc := ⟨.hbm, 894, rfl⟩
abbrev main_call31_v5 : Ref sig .tc := ⟨.hbm, 895, rfl⟩
abbrev main_call31_c_3 : Ref sig .tc := ⟨.hbm, 896, rfl⟩
abbrev main_call31_v6 : Ref sig .tc := ⟨.hbm, 897, rfl⟩
abbrev main_call31_v7 : Ref sig .tc := ⟨.hbm, 898, rfl⟩
abbrev main_call31_v8 : Ref sig .tc := ⟨.hbm, 899, rfl⟩
abbrev main_call31_v9 : Ref sig .tc := ⟨.hbm, 900, rfl⟩
abbrev main_v258 : Ref sig .tc := ⟨.hbm, 901, rfl⟩
abbrev main_c_161 : Ref sig .tc := ⟨.hbm, 902, rfl⟩
abbrev main_v259 : Ref sig .tc := ⟨.hbm, 903, rfl⟩
abbrev main_c_162 : Ref sig .tc := ⟨.hbm, 904, rfl⟩
abbrev main_v260 : Ref sig .tc := ⟨.hbm, 905, rfl⟩
abbrev main_v261 : Ref sig .tc := ⟨.hbm, 906, rfl⟩
abbrev main_v262 : Ref sig .tc := ⟨.hbm, 907, rfl⟩
abbrev main_v263 : Ref sig .tc := ⟨.hbm, 908, rfl⟩
abbrev main_c_163 : Ref sig .tc := ⟨.hbm, 909, rfl⟩
abbrev main_v264 : Ref sig .tc := ⟨.hbm, 910, rfl⟩
abbrev main_c_164 : Ref sig .tc := ⟨.hbm, 911, rfl⟩
abbrev main_v265 : Ref sig .tc := ⟨.hbm, 912, rfl⟩
abbrev main_c_165 : Ref sig .tc := ⟨.hbm, 913, rfl⟩
abbrev main_v266 : Ref sig .tc := ⟨.hbm, 914, rfl⟩
abbrev main_c_166 : Ref sig .tc := ⟨.hbm, 915, rfl⟩
abbrev main_v267 : Ref sig .tc := ⟨.hbm, 916, rfl⟩
abbrev main_v268 : Ref sig .tc := ⟨.hbm, 917, rfl⟩
abbrev main_v269 : Ref sig .tc := ⟨.hbm, 918, rfl⟩
abbrev main_v270 : Ref sig .tc := ⟨.hbm, 919, rfl⟩
abbrev main_v271 : Ref sig .tc := ⟨.hbm, 920, rfl⟩
abbrev main_v272 : Ref sig .tc := ⟨.hbm, 921, rfl⟩
abbrev main_v273 : Ref sig .tc := ⟨.hbm, 922, rfl⟩
abbrev main_v274 : Ref sig .tc := ⟨.hbm, 923, rfl⟩
abbrev main_v275 : Ref sig .tc := ⟨.hbm, 924, rfl⟩
abbrev main_v276 : Ref sig .tc := ⟨.hbm, 925, rfl⟩
abbrev main_v277 : Ref sig .tc := ⟨.hbm, 926, rfl⟩
abbrev main_v278 : Ref sig .tc := ⟨.hbm, 927, rfl⟩
abbrev main_v279 : Ref sig .tc := ⟨.hbm, 928, rfl⟩
abbrev main_v280 : Ref sig .tc := ⟨.hbm, 929, rfl⟩
abbrev main_v281 : Ref sig .tc := ⟨.hbm, 930, rfl⟩
abbrev main_v282 : Ref sig .tc := ⟨.hbm, 931, rfl⟩
abbrev main_v283 : Ref sig .tc := ⟨.hbm, 932, rfl⟩
abbrev main_v284 : Ref sig .tc := ⟨.hbm, 933, rfl⟩
abbrev main_v285 : Ref sig .tc := ⟨.hbm, 934, rfl⟩
abbrev main_v286 : Ref sig .tc := ⟨.hbm, 935, rfl⟩
abbrev main_v287 : Ref sig .tc := ⟨.hbm, 936, rfl⟩
abbrev main_v288 : Ref sig .tc := ⟨.hbm, 937, rfl⟩
abbrev main_v289 : Ref sig .tc := ⟨.hbm, 938, rfl⟩
abbrev main_v290 : Ref sig .tc := ⟨.hbm, 939, rfl⟩
abbrev main_v291 : Ref sig .tc := ⟨.hbm, 940, rfl⟩
abbrev main_v292 : Ref sig .tc := ⟨.hbm, 941, rfl⟩
abbrev main_v293 : Ref sig .tc := ⟨.hbm, 942, rfl⟩
abbrev main_v294 : Ref sig .tc := ⟨.hbm, 943, rfl⟩
abbrev main_v295 : Ref sig .tc := ⟨.hbm, 944, rfl⟩
abbrev main_v296 : Ref sig .tc := ⟨.hbm, 945, rfl⟩
abbrev main_v297 : Ref sig .tc := ⟨.hbm, 946, rfl⟩
abbrev main_v298 : Ref sig .tc := ⟨.hbm, 947, rfl⟩
abbrev main_v299 : Ref sig .tc := ⟨.hbm, 948, rfl⟩
abbrev main_v300 : Ref sig .tc := ⟨.hbm, 949, rfl⟩
abbrev main_v301 : Ref sig .tc := ⟨.hbm, 950, rfl⟩
abbrev main_v302 : Ref sig .tc := ⟨.hbm, 951, rfl⟩
abbrev main_v303 : Ref sig .tc := ⟨.hbm, 952, rfl⟩
abbrev main_v304 : Ref sig .tc := ⟨.hbm, 953, rfl⟩
abbrev main_v305 : Ref sig .tc := ⟨.hbm, 954, rfl⟩
abbrev main_v306 : Ref sig .tc := ⟨.hbm, 955, rfl⟩
abbrev main_v307 : Ref sig .tc := ⟨.hbm, 956, rfl⟩
abbrev main_v308 : Ref sig .tc := ⟨.hbm, 957, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v1 : BitVec 32) : Fin 2 → Nat :=
  let c256_i32 : BitVec 32 := 256#32
  let v7 : BitVec 32 := Scalar.muli v1 c256_i32
  let v8 : Index := Scalar.indexCast v7
  let c0_4 : Index := 0#32
  ![v8.toNat, 0]
def k0_off2 (v0 : BitVec 32) : Fin 2 → Nat :=
  let c256_i32_10 : BitVec 32 := 256#32
  let v17 : BitVec 32 := Scalar.muli v0 c256_i32_10
  let v18 : Index := Scalar.indexCast v17
  let c0_11 : Index := 0#32
  ![v18.toNat, 0]
def k0_dev3 (v0 : BitVec 32) : Nat :=
  let c0_i32_24 : BitVec 32 := 0#32
  let c1_i32_23 : BitVec 32 := 1#32
  let v27 : BitVec 32 := Scalar.muli v0 c1_i32_23
  let v28 : BitVec 32 := Scalar.addi c0_i32_24 v27
  v28.toNat
def k0_dev4 (v1 : BitVec 32) : Nat :=
  let c0_i32_36 : BitVec 32 := 0#32
  let c1_i32_35 : BitVec 32 := 1#32
  let v37 : BitVec 32 := Scalar.muli v1 c1_i32_35
  let v38 : BitVec 32 := Scalar.addi c0_i32_36 v37
  v38.toNat
def k0_dev5 (v0 : BitVec 32) : Nat :=
  let c0_i32_48 : BitVec 32 := 0#32
  let c1_i32_47 : BitVec 32 := 1#32
  let v47 : BitVec 32 := Scalar.muli v0 c1_i32_47
  let v48 : BitVec 32 := Scalar.addi c0_i32_48 v47
  v48.toNat
def k0_dev6 (v1 : BitVec 32) : Nat :=
  let c0_i32_59 : BitVec 32 := 0#32
  let c1_i32_58 : BitVec 32 := 1#32
  let v57 : BitVec 32 := Scalar.muli v1 c1_i32_58
  let v58 : BitVec 32 := Scalar.addi c0_i32_59 v57
  v58.toNat
def k0_off3 (v67 : BitVec 32) : Fin 2 → Nat :=
  let c256_i32_64 : BitVec 32 := 256#32
  let v68 : BitVec 32 := Scalar.muli v67 c256_i32_64
  let v69 : Index := Scalar.indexCast v68
  let c0_65 : Index := 0#32
  ![v69.toNat, 0]

def k0_chk3 (v67 : BitVec 32) : Prop :=
  (∀ a, (k0_off3 v67) a + S256x256.size a ≤ S4096x256.size a)
theorem k0_off3_inb : ∀ (v67 : BitVec 32) (k0_hw3 : k0_chk3 v67), ∀ a, (k0_off3 v67) a + S256x256.size a ≤ S4096x256.size a := fun v67 k0_hw3 => k0_hw3

def k0_off4 (v75 : BitVec 32) : Fin 2 → Nat :=
  let c256_i32_69 : BitVec 32 := 256#32
  let v76 : BitVec 32 := Scalar.muli v75 c256_i32_69
  let v77 : Index := Scalar.indexCast v76
  let c0_70 : Index := 0#32
  ![v77.toNat, 0]

def k0_chk4 (v75 : BitVec 32) : Prop :=
  (∀ a, (k0_off4 v75) a + S256x256.size a ≤ S4096x256.size a)
theorem k0_off4_inb : ∀ (v75 : BitVec 32) (k0_hw4 : k0_chk4 v75), ∀ a, (k0_off4 v75) a + S256x256.size a ≤ S4096x256.size a := fun v75 k0_hw4 => k0_hw4

def k0_dev7 (v0 : BitVec 32) : Nat :=
  let c0_i32_117 : BitVec 32 := 0#32
  let c1_i32_116 : BitVec 32 := 1#32
  let v113 : BitVec 32 := Scalar.muli v0 c1_i32_116
  let v114 : BitVec 32 := Scalar.addi c0_i32_117 v113
  v114.toNat
def k0_dev8 (v1 : BitVec 32) : Nat :=
  let c0_i32_129 : BitVec 32 := 0#32
  let c1_i32_128 : BitVec 32 := 1#32
  let v123 : BitVec 32 := Scalar.muli v1 c1_i32_128
  let v124 : BitVec 32 := Scalar.addi c0_i32_129 v123
  v124.toNat
def k0_dev9 (v0 : BitVec 32) : Nat :=
  let c0_i32_176 : BitVec 32 := 0#32
  let c1_i32_175 : BitVec 32 := 1#32
  let v163 : BitVec 32 := Scalar.muli v0 c1_i32_175
  let v164 : BitVec 32 := Scalar.addi c0_i32_176 v163
  v164.toNat
def k0_dev10 (v1 : BitVec 32) : Nat :=
  let c0_i32_188 : BitVec 32 := 0#32
  let c1_i32_187 : BitVec 32 := 1#32
  let v173 : BitVec 32 := Scalar.muli v1 c1_i32_187
  let v174 : BitVec 32 := Scalar.addi c0_i32_188 v173
  v174.toNat
def k0_off5 (v183 : BitVec 32) : Fin 2 → Nat :=
  let c256_i32_193 : BitVec 32 := 256#32
  let v184 : BitVec 32 := Scalar.muli v183 c256_i32_193
  let v185 : Index := Scalar.indexCast v184
  let c0_194 : Index := 0#32
  ![v185.toNat, 0]

def k0_chk5 (v183 : BitVec 32) : Prop :=
  (∀ a, (k0_off5 v183) a + S256x256.size a ≤ S4096x256.size a)
theorem k0_off5_inb : ∀ (v183 : BitVec 32) (k0_hw5 : k0_chk5 v183), ∀ a, (k0_off5 v183) a + S256x256.size a ≤ S4096x256.size a := fun v183 k0_hw5 => k0_hw5

def k0_off6 (v191 : BitVec 32) : Fin 2 → Nat :=
  let c256_i32_198 : BitVec 32 := 256#32
  let v192 : BitVec 32 := Scalar.muli v191 c256_i32_198
  let v193 : Index := Scalar.indexCast v192
  let c0_199 : Index := 0#32
  ![v193.toNat, 0]

def k0_chk6 (v191 : BitVec 32) : Prop :=
  (∀ a, (k0_off6 v191) a + S256x256.size a ≤ S4096x256.size a)
theorem k0_off6_inb : ∀ (v191 : BitVec 32) (k0_hw6 : k0_chk6 v191), ∀ a, (k0_off6 v191) a + S256x256.size a ≤ S4096x256.size a := fun v191 k0_hw6 => k0_hw6

def k0_dev11 (v0 : BitVec 32) : Nat :=
  let c0_i32_245 : BitVec 32 := 0#32
  let c1_i32_244 : BitVec 32 := 1#32
  let v229 : BitVec 32 := Scalar.muli v0 c1_i32_244
  let v230 : BitVec 32 := Scalar.addi c0_i32_245 v229
  v230.toNat
def k0_dev12 (v1 : BitVec 32) : Nat :=
  let c0_i32_257 : BitVec 32 := 0#32
  let c1_i32_256 : BitVec 32 := 1#32
  let v239 : BitVec 32 := Scalar.muli v1 c1_i32_256
  let v240 : BitVec 32 := Scalar.addi c0_i32_257 v239
  v240.toNat
def k0_dev13 (v0 : BitVec 32) : Nat :=
  let c0_i32_305 : BitVec 32 := 0#32
  let c1_i32_304 : BitVec 32 := 1#32
  let v279 : BitVec 32 := Scalar.muli v0 c1_i32_304
  let v280 : BitVec 32 := Scalar.addi c0_i32_305 v279
  v280.toNat
def k0_dev14 (v1 : BitVec 32) : Nat :=
  let c0_i32_317 : BitVec 32 := 0#32
  let c1_i32_316 : BitVec 32 := 1#32
  let v289 : BitVec 32 := Scalar.muli v1 c1_i32_316
  let v290 : BitVec 32 := Scalar.addi c0_i32_317 v289
  v290.toNat
def k0_off7 (v323 : BitVec 32) : Fin 2 → Nat :=
  let c256_i32_366 : BitVec 32 := 256#32
  let v324 : BitVec 32 := Scalar.muli v323 c256_i32_366
  let v325 : Index := Scalar.indexCast v324
  let c0_367 : Index := 0#32
  ![v325.toNat, 0]

def k0_chk7 (v323 : BitVec 32) : Prop :=
  (∀ a, (k0_off7 v323) a + S256x256.size a ≤ S4096x256.size a)
theorem k0_off7_inb : ∀ (v323 : BitVec 32) (k0_hw7 : k0_chk7 v323), ∀ a, (k0_off7 v323) a + S256x256.size a ≤ S4096x256.size a := fun v323 k0_hw7 => k0_hw7

def k0_off8 (v331 : BitVec 32) : Fin 2 → Nat :=
  let c256_i32_371 : BitVec 32 := 256#32
  let v332 : BitVec 32 := Scalar.muli v331 c256_i32_371
  let v333 : Index := Scalar.indexCast v332
  let c0_372 : Index := 0#32
  ![v333.toNat, 0]

def k0_chk8 (v331 : BitVec 32) : Prop :=
  (∀ a, (k0_off8 v331) a + S256x256.size a ≤ S4096x256.size a)
theorem k0_off8_inb : ∀ (v331 : BitVec 32) (k0_hw8 : k0_chk8 v331), ∀ a, (k0_off8 v331) a + S256x256.size a ≤ S4096x256.size a := fun v331 k0_hw8 => k0_hw8

def k0_dev15 (v0 : BitVec 32) : Nat :=
  let c0_i32_418 : BitVec 32 := 0#32
  let c1_i32_417 : BitVec 32 := 1#32
  let v369 : BitVec 32 := Scalar.muli v0 c1_i32_417
  let v370 : BitVec 32 := Scalar.addi c0_i32_418 v369
  v370.toNat
def k0_dev16 (v1 : BitVec 32) : Nat :=
  let c0_i32_430 : BitVec 32 := 0#32
  let c1_i32_429 : BitVec 32 := 1#32
  let v379 : BitVec 32 := Scalar.muli v1 c1_i32_429
  let v380 : BitVec 32 := Scalar.addi c0_i32_430 v379
  v380.toNat
def k0_dev17 (v0 : BitVec 32) : Nat :=
  let c0_i32_478 : BitVec 32 := 0#32
  let c1_i32_477 : BitVec 32 := 1#32
  let v419 : BitVec 32 := Scalar.muli v0 c1_i32_477
  let v420 : BitVec 32 := Scalar.addi c0_i32_478 v419
  v420.toNat
def k0_dev18 (v1 : BitVec 32) : Nat :=
  let c0_i32_490 : BitVec 32 := 0#32
  let c1_i32_489 : BitVec 32 := 1#32
  let v429 : BitVec 32 := Scalar.muli v1 c1_i32_489
  let v430 : BitVec 32 := Scalar.addi c0_i32_490 v429
  v430.toNat
def k0_off9 (v463 : BitVec 32) : Fin 2 → Nat :=
  let c256_i32_539 : BitVec 32 := 256#32
  let v464 : BitVec 32 := Scalar.muli v463 c256_i32_539
  let v465 : Index := Scalar.indexCast v464
  let c0_540 : Index := 0#32
  ![v465.toNat, 0]

def k0_chk9 (v463 : BitVec 32) : Prop :=
  (∀ a, (k0_off9 v463) a + S256x256.size a ≤ S4096x256.size a)
theorem k0_off9_inb : ∀ (v463 : BitVec 32) (k0_hw9 : k0_chk9 v463), ∀ a, (k0_off9 v463) a + S256x256.size a ≤ S4096x256.size a := fun v463 k0_hw9 => k0_hw9

def k0_off10 (v471 : BitVec 32) : Fin 2 → Nat :=
  let c256_i32_544 : BitVec 32 := 256#32
  let v472 : BitVec 32 := Scalar.muli v471 c256_i32_544
  let v473 : Index := Scalar.indexCast v472
  let c0_545 : Index := 0#32
  ![v473.toNat, 0]

def k0_chk10 (v471 : BitVec 32) : Prop :=
  (∀ a, (k0_off10 v471) a + S256x256.size a ≤ S4096x256.size a)
theorem k0_off10_inb : ∀ (v471 : BitVec 32) (k0_hw10 : k0_chk10 v471), ∀ a, (k0_off10 v471) a + S256x256.size a ≤ S4096x256.size a := fun v471 k0_hw10 => k0_hw10

def k0_dev19 (v0 : BitVec 32) : Nat :=
  let c0_i32_591 : BitVec 32 := 0#32
  let c1_i32_590 : BitVec 32 := 1#32
  let v509 : BitVec 32 := Scalar.muli v0 c1_i32_590
  let v510 : BitVec 32 := Scalar.addi c0_i32_591 v509
  v510.toNat
def k0_dev20 (v1 : BitVec 32) : Nat :=
  let c0_i32_603 : BitVec 32 := 0#32
  let c1_i32_602 : BitVec 32 := 1#32
  let v519 : BitVec 32 := Scalar.muli v1 c1_i32_602
  let v520 : BitVec 32 := Scalar.addi c0_i32_603 v519
  v520.toNat
def k0_dev21 (v0 : BitVec 32) : Nat :=
  let c0_i32_651 : BitVec 32 := 0#32
  let c1_i32_650 : BitVec 32 := 1#32
  let v559 : BitVec 32 := Scalar.muli v0 c1_i32_650
  let v560 : BitVec 32 := Scalar.addi c0_i32_651 v559
  v560.toNat
def k0_dev22 (v1 : BitVec 32) : Nat :=
  let c0_i32_663 : BitVec 32 := 0#32
  let c1_i32_662 : BitVec 32 := 1#32
  let v569 : BitVec 32 := Scalar.muli v1 c1_i32_662
  let v570 : BitVec 32 := Scalar.addi c0_i32_663 v569
  v570.toNat
def k0_off11 (v603 : BitVec 32) : Fin 2 → Nat :=
  let c256_i32_712 : BitVec 32 := 256#32
  let v604 : BitVec 32 := Scalar.muli v603 c256_i32_712
  let v605 : Index := Scalar.indexCast v604
  let c0_713 : Index := 0#32
  ![v605.toNat, 0]

def k0_chk11 (v603 : BitVec 32) : Prop :=
  (∀ a, (k0_off11 v603) a + S256x256.size a ≤ S4096x256.size a)
theorem k0_off11_inb : ∀ (v603 : BitVec 32) (k0_hw11 : k0_chk11 v603), ∀ a, (k0_off11 v603) a + S256x256.size a ≤ S4096x256.size a := fun v603 k0_hw11 => k0_hw11

def k0_off12 (v611 : BitVec 32) : Fin 2 → Nat :=
  let c256_i32_717 : BitVec 32 := 256#32
  let v612 : BitVec 32 := Scalar.muli v611 c256_i32_717
  let v613 : Index := Scalar.indexCast v612
  let c0_718 : Index := 0#32
  ![v613.toNat, 0]

def k0_chk12 (v611 : BitVec 32) : Prop :=
  (∀ a, (k0_off12 v611) a + S256x256.size a ≤ S4096x256.size a)
theorem k0_off12_inb : ∀ (v611 : BitVec 32) (k0_hw12 : k0_chk12 v611), ∀ a, (k0_off12 v611) a + S256x256.size a ≤ S4096x256.size a := fun v611 k0_hw12 => k0_hw12

def k0_dev23 (v0 : BitVec 32) : Nat :=
  let c0_i32_764 : BitVec 32 := 0#32
  let c1_i32_763 : BitVec 32 := 1#32
  let v649 : BitVec 32 := Scalar.muli v0 c1_i32_763
  let v650 : BitVec 32 := Scalar.addi c0_i32_764 v649
  v650.toNat
def k0_dev24 (v1 : BitVec 32) : Nat :=
  let c0_i32_776 : BitVec 32 := 0#32
  let c1_i32_775 : BitVec 32 := 1#32
  let v659 : BitVec 32 := Scalar.muli v1 c1_i32_775
  let v660 : BitVec 32 := Scalar.addi c0_i32_776 v659
  v660.toNat
def k0_dev25 (v0 : BitVec 32) : Nat :=
  let c0_i32_824 : BitVec 32 := 0#32
  let c1_i32_823 : BitVec 32 := 1#32
  let v699 : BitVec 32 := Scalar.muli v0 c1_i32_823
  let v700 : BitVec 32 := Scalar.addi c0_i32_824 v699
  v700.toNat
def k0_dev26 (v1 : BitVec 32) : Nat :=
  let c0_i32_836 : BitVec 32 := 0#32
  let c1_i32_835 : BitVec 32 := 1#32
  let v709 : BitVec 32 := Scalar.muli v1 c1_i32_835
  let v710 : BitVec 32 := Scalar.addi c0_i32_836 v709
  v710.toNat
def k0_off13 (v743 : BitVec 32) : Fin 2 → Nat :=
  let c256_i32_885 : BitVec 32 := 256#32
  let v744 : BitVec 32 := Scalar.muli v743 c256_i32_885
  let v745 : Index := Scalar.indexCast v744
  let c0_886 : Index := 0#32
  ![v745.toNat, 0]

def k0_chk13 (v743 : BitVec 32) : Prop :=
  (∀ a, (k0_off13 v743) a + S256x256.size a ≤ S4096x256.size a)
theorem k0_off13_inb : ∀ (v743 : BitVec 32) (k0_hw13 : k0_chk13 v743), ∀ a, (k0_off13 v743) a + S256x256.size a ≤ S4096x256.size a := fun v743 k0_hw13 => k0_hw13

def k0_off14 (v751 : BitVec 32) : Fin 2 → Nat :=
  let c256_i32_890 : BitVec 32 := 256#32
  let v752 : BitVec 32 := Scalar.muli v751 c256_i32_890
  let v753 : Index := Scalar.indexCast v752
  let c0_891 : Index := 0#32
  ![v753.toNat, 0]

def k0_chk14 (v751 : BitVec 32) : Prop :=
  (∀ a, (k0_off14 v751) a + S256x256.size a ≤ S4096x256.size a)
theorem k0_off14_inb : ∀ (v751 : BitVec 32) (k0_hw14 : k0_chk14 v751), ∀ a, (k0_off14 v751) a + S256x256.size a ≤ S4096x256.size a := fun v751 k0_hw14 => k0_hw14

def k0_dev27 (v0 : BitVec 32) : Nat :=
  let c0_i32_937 : BitVec 32 := 0#32
  let c1_i32_936 : BitVec 32 := 1#32
  let v789 : BitVec 32 := Scalar.muli v0 c1_i32_936
  let v790 : BitVec 32 := Scalar.addi c0_i32_937 v789
  v790.toNat
def k0_dev28 (v1 : BitVec 32) : Nat :=
  let c0_i32_949 : BitVec 32 := 0#32
  let c1_i32_948 : BitVec 32 := 1#32
  let v799 : BitVec 32 := Scalar.muli v1 c1_i32_948
  let v800 : BitVec 32 := Scalar.addi c0_i32_949 v799
  v800.toNat
def k0_dev29 (v0 : BitVec 32) : Nat :=
  let c0_i32_997 : BitVec 32 := 0#32
  let c1_i32_996 : BitVec 32 := 1#32
  let v839 : BitVec 32 := Scalar.muli v0 c1_i32_996
  let v840 : BitVec 32 := Scalar.addi c0_i32_997 v839
  v840.toNat
def k0_dev30 (v1 : BitVec 32) : Nat :=
  let c0_i32_1009 : BitVec 32 := 0#32
  let c1_i32_1008 : BitVec 32 := 1#32
  let v849 : BitVec 32 := Scalar.muli v1 c1_i32_1008
  let v850 : BitVec 32 := Scalar.addi c0_i32_1009 v849
  v850.toNat
def k0_off15 (v883 : BitVec 32) : Fin 2 → Nat :=
  let c256_i32_1058 : BitVec 32 := 256#32
  let v884 : BitVec 32 := Scalar.muli v883 c256_i32_1058
  let v885 : Index := Scalar.indexCast v884
  let c0_1059 : Index := 0#32
  ![v885.toNat, 0]

def k0_chk15 (v883 : BitVec 32) : Prop :=
  (∀ a, (k0_off15 v883) a + S256x256.size a ≤ S4096x256.size a)
theorem k0_off15_inb : ∀ (v883 : BitVec 32) (k0_hw15 : k0_chk15 v883), ∀ a, (k0_off15 v883) a + S256x256.size a ≤ S4096x256.size a := fun v883 k0_hw15 => k0_hw15

def k0_off16 (v891 : BitVec 32) : Fin 2 → Nat :=
  let c256_i32_1063 : BitVec 32 := 256#32
  let v892 : BitVec 32 := Scalar.muli v891 c256_i32_1063
  let v893 : Index := Scalar.indexCast v892
  let c0_1064 : Index := 0#32
  ![v893.toNat, 0]

def k0_chk16 (v891 : BitVec 32) : Prop :=
  (∀ a, (k0_off16 v891) a + S256x256.size a ≤ S4096x256.size a)
theorem k0_off16_inb : ∀ (v891 : BitVec 32) (k0_hw16 : k0_chk16 v891), ∀ a, (k0_off16 v891) a + S256x256.size a ≤ S4096x256.size a := fun v891 k0_hw16 => k0_hw16

def k0_dev31 (v0 : BitVec 32) : Nat :=
  let c0_i32_1110 : BitVec 32 := 0#32
  let c1_i32_1109 : BitVec 32 := 1#32
  let v929 : BitVec 32 := Scalar.muli v0 c1_i32_1109
  let v930 : BitVec 32 := Scalar.addi c0_i32_1110 v929
  v930.toNat
def k0_dev32 (v1 : BitVec 32) : Nat :=
  let c0_i32_1122 : BitVec 32 := 0#32
  let c1_i32_1121 : BitVec 32 := 1#32
  let v939 : BitVec 32 := Scalar.muli v1 c1_i32_1121
  let v940 : BitVec 32 := Scalar.addi c0_i32_1122 v939
  v940.toNat
def k0_dev33 (v0 : BitVec 32) : Nat :=
  let c0_i32_1170 : BitVec 32 := 0#32
  let c1_i32_1169 : BitVec 32 := 1#32
  let v979 : BitVec 32 := Scalar.muli v0 c1_i32_1169
  let v980 : BitVec 32 := Scalar.addi c0_i32_1170 v979
  v980.toNat
def k0_dev34 (v1 : BitVec 32) : Nat :=
  let c0_i32_1182 : BitVec 32 := 0#32
  let c1_i32_1181 : BitVec 32 := 1#32
  let v989 : BitVec 32 := Scalar.muli v1 c1_i32_1181
  let v990 : BitVec 32 := Scalar.addi c0_i32_1182 v989
  v990.toNat
def k0_off17 (v1023 : BitVec 32) : Fin 2 → Nat :=
  let c256_i32_1231 : BitVec 32 := 256#32
  let v1024 : BitVec 32 := Scalar.muli v1023 c256_i32_1231
  let v1025 : Index := Scalar.indexCast v1024
  let c0_1232 : Index := 0#32
  ![v1025.toNat, 0]

def k0_chk17 (v1023 : BitVec 32) : Prop :=
  (∀ a, (k0_off17 v1023) a + S256x256.size a ≤ S4096x256.size a)
theorem k0_off17_inb : ∀ (v1023 : BitVec 32) (k0_hw17 : k0_chk17 v1023), ∀ a, (k0_off17 v1023) a + S256x256.size a ≤ S4096x256.size a := fun v1023 k0_hw17 => k0_hw17

def k0_off18 (v1031 : BitVec 32) : Fin 2 → Nat :=
  let c256_i32_1236 : BitVec 32 := 256#32
  let v1032 : BitVec 32 := Scalar.muli v1031 c256_i32_1236
  let v1033 : Index := Scalar.indexCast v1032
  let c0_1237 : Index := 0#32
  ![v1033.toNat, 0]

def k0_chk18 (v1031 : BitVec 32) : Prop :=
  (∀ a, (k0_off18 v1031) a + S256x256.size a ≤ S4096x256.size a)
theorem k0_off18_inb : ∀ (v1031 : BitVec 32) (k0_hw18 : k0_chk18 v1031), ∀ a, (k0_off18 v1031) a + S256x256.size a ≤ S4096x256.size a := fun v1031 k0_hw18 => k0_hw18

def k0_dev35 (v0 : BitVec 32) : Nat :=
  let c0_i32_1283 : BitVec 32 := 0#32
  let c1_i32_1282 : BitVec 32 := 1#32
  let v1069 : BitVec 32 := Scalar.muli v0 c1_i32_1282
  let v1070 : BitVec 32 := Scalar.addi c0_i32_1283 v1069
  v1070.toNat
def k0_dev36 (v1 : BitVec 32) : Nat :=
  let c0_i32_1295 : BitVec 32 := 0#32
  let c1_i32_1294 : BitVec 32 := 1#32
  let v1079 : BitVec 32 := Scalar.muli v1 c1_i32_1294
  let v1080 : BitVec 32 := Scalar.addi c0_i32_1295 v1079
  v1080.toNat
def k0_dev37 (v0 : BitVec 32) : Nat :=
  let c0_i32_1343 : BitVec 32 := 0#32
  let c1_i32_1342 : BitVec 32 := 1#32
  let v1119 : BitVec 32 := Scalar.muli v0 c1_i32_1342
  let v1120 : BitVec 32 := Scalar.addi c0_i32_1343 v1119
  v1120.toNat
def k0_dev38 (v1 : BitVec 32) : Nat :=
  let c0_i32_1355 : BitVec 32 := 0#32
  let c1_i32_1354 : BitVec 32 := 1#32
  let v1129 : BitVec 32 := Scalar.muli v1 c1_i32_1354
  let v1130 : BitVec 32 := Scalar.addi c0_i32_1355 v1129
  v1130.toNat
def k0_off19 (v1163 : BitVec 32) : Fin 2 → Nat :=
  let c256_i32_1404 : BitVec 32 := 256#32
  let v1164 : BitVec 32 := Scalar.muli v1163 c256_i32_1404
  let v1165 : Index := Scalar.indexCast v1164
  let c0_1405 : Index := 0#32
  ![v1165.toNat, 0]

def k0_chk19 (v1163 : BitVec 32) : Prop :=
  (∀ a, (k0_off19 v1163) a + S256x256.size a ≤ S4096x256.size a)
theorem k0_off19_inb : ∀ (v1163 : BitVec 32) (k0_hw19 : k0_chk19 v1163), ∀ a, (k0_off19 v1163) a + S256x256.size a ≤ S4096x256.size a := fun v1163 k0_hw19 => k0_hw19

def k0_off20 (v1171 : BitVec 32) : Fin 2 → Nat :=
  let c256_i32_1409 : BitVec 32 := 256#32
  let v1172 : BitVec 32 := Scalar.muli v1171 c256_i32_1409
  let v1173 : Index := Scalar.indexCast v1172
  let c0_1410 : Index := 0#32
  ![v1173.toNat, 0]

def k0_chk20 (v1171 : BitVec 32) : Prop :=
  (∀ a, (k0_off20 v1171) a + S256x256.size a ≤ S4096x256.size a)
theorem k0_off20_inb : ∀ (v1171 : BitVec 32) (k0_hw20 : k0_chk20 v1171), ∀ a, (k0_off20 v1171) a + S256x256.size a ≤ S4096x256.size a := fun v1171 k0_hw20 => k0_hw20

def k0_dev39 (v0 : BitVec 32) : Nat :=
  let c0_i32_1456 : BitVec 32 := 0#32
  let c1_i32_1455 : BitVec 32 := 1#32
  let v1209 : BitVec 32 := Scalar.muli v0 c1_i32_1455
  let v1210 : BitVec 32 := Scalar.addi c0_i32_1456 v1209
  v1210.toNat
def k0_dev40 (v1 : BitVec 32) : Nat :=
  let c0_i32_1468 : BitVec 32 := 0#32
  let c1_i32_1467 : BitVec 32 := 1#32
  let v1219 : BitVec 32 := Scalar.muli v1 c1_i32_1467
  let v1220 : BitVec 32 := Scalar.addi c0_i32_1468 v1219
  v1220.toNat
def k0_dev41 (v0 : BitVec 32) : Nat :=
  let c0_i32_1516 : BitVec 32 := 0#32
  let c1_i32_1515 : BitVec 32 := 1#32
  let v1259 : BitVec 32 := Scalar.muli v0 c1_i32_1515
  let v1260 : BitVec 32 := Scalar.addi c0_i32_1516 v1259
  v1260.toNat
def k0_dev42 (v1 : BitVec 32) : Nat :=
  let c0_i32_1528 : BitVec 32 := 0#32
  let c1_i32_1527 : BitVec 32 := 1#32
  let v1269 : BitVec 32 := Scalar.muli v1 c1_i32_1527
  let v1270 : BitVec 32 := Scalar.addi c0_i32_1528 v1269
  v1270.toNat
def k0_off21 (v1303 : BitVec 32) : Fin 2 → Nat :=
  let c256_i32_1577 : BitVec 32 := 256#32
  let v1304 : BitVec 32 := Scalar.muli v1303 c256_i32_1577
  let v1305 : Index := Scalar.indexCast v1304
  let c0_1578 : Index := 0#32
  ![v1305.toNat, 0]

def k0_chk21 (v1303 : BitVec 32) : Prop :=
  (∀ a, (k0_off21 v1303) a + S256x256.size a ≤ S4096x256.size a)
theorem k0_off21_inb : ∀ (v1303 : BitVec 32) (k0_hw21 : k0_chk21 v1303), ∀ a, (k0_off21 v1303) a + S256x256.size a ≤ S4096x256.size a := fun v1303 k0_hw21 => k0_hw21

def k0_off22 (v1311 : BitVec 32) : Fin 2 → Nat :=
  let c256_i32_1582 : BitVec 32 := 256#32
  let v1312 : BitVec 32 := Scalar.muli v1311 c256_i32_1582
  let v1313 : Index := Scalar.indexCast v1312
  let c0_1583 : Index := 0#32
  ![v1313.toNat, 0]

def k0_chk22 (v1311 : BitVec 32) : Prop :=
  (∀ a, (k0_off22 v1311) a + S256x256.size a ≤ S4096x256.size a)
theorem k0_off22_inb : ∀ (v1311 : BitVec 32) (k0_hw22 : k0_chk22 v1311), ∀ a, (k0_off22 v1311) a + S256x256.size a ≤ S4096x256.size a := fun v1311 k0_hw22 => k0_hw22

def k0_dev43 (v0 : BitVec 32) : Nat :=
  let c0_i32_1629 : BitVec 32 := 0#32
  let c1_i32_1628 : BitVec 32 := 1#32
  let v1349 : BitVec 32 := Scalar.muli v0 c1_i32_1628
  let v1350 : BitVec 32 := Scalar.addi c0_i32_1629 v1349
  v1350.toNat
def k0_dev44 (v1 : BitVec 32) : Nat :=
  let c0_i32_1641 : BitVec 32 := 0#32
  let c1_i32_1640 : BitVec 32 := 1#32
  let v1359 : BitVec 32 := Scalar.muli v1 c1_i32_1640
  let v1360 : BitVec 32 := Scalar.addi c0_i32_1641 v1359
  v1360.toNat
def k0_dev45 (v0 : BitVec 32) : Nat :=
  let c0_i32_1689 : BitVec 32 := 0#32
  let c1_i32_1688 : BitVec 32 := 1#32
  let v1399 : BitVec 32 := Scalar.muli v0 c1_i32_1688
  let v1400 : BitVec 32 := Scalar.addi c0_i32_1689 v1399
  v1400.toNat
def k0_dev46 (v1 : BitVec 32) : Nat :=
  let c0_i32_1701 : BitVec 32 := 0#32
  let c1_i32_1700 : BitVec 32 := 1#32
  let v1409 : BitVec 32 := Scalar.muli v1 c1_i32_1700
  let v1410 : BitVec 32 := Scalar.addi c0_i32_1701 v1409
  v1410.toNat
def k0_off23 (v1443 : BitVec 32) : Fin 2 → Nat :=
  let c256_i32_1750 : BitVec 32 := 256#32
  let v1444 : BitVec 32 := Scalar.muli v1443 c256_i32_1750
  let v1445 : Index := Scalar.indexCast v1444
  let c0_1751 : Index := 0#32
  ![v1445.toNat, 0]

def k0_chk23 (v1443 : BitVec 32) : Prop :=
  (∀ a, (k0_off23 v1443) a + S256x256.size a ≤ S4096x256.size a)
theorem k0_off23_inb : ∀ (v1443 : BitVec 32) (k0_hw23 : k0_chk23 v1443), ∀ a, (k0_off23 v1443) a + S256x256.size a ≤ S4096x256.size a := fun v1443 k0_hw23 => k0_hw23

def k0_off24 (v1451 : BitVec 32) : Fin 2 → Nat :=
  let c256_i32_1755 : BitVec 32 := 256#32
  let v1452 : BitVec 32 := Scalar.muli v1451 c256_i32_1755
  let v1453 : Index := Scalar.indexCast v1452
  let c0_1756 : Index := 0#32
  ![v1453.toNat, 0]

def k0_chk24 (v1451 : BitVec 32) : Prop :=
  (∀ a, (k0_off24 v1451) a + S256x256.size a ≤ S4096x256.size a)
theorem k0_off24_inb : ∀ (v1451 : BitVec 32) (k0_hw24 : k0_chk24 v1451), ∀ a, (k0_off24 v1451) a + S256x256.size a ≤ S4096x256.size a := fun v1451 k0_hw24 => k0_hw24

def k0_dev47 (v0 : BitVec 32) : Nat :=
  let c0_i32_1802 : BitVec 32 := 0#32
  let c1_i32_1801 : BitVec 32 := 1#32
  let v1489 : BitVec 32 := Scalar.muli v0 c1_i32_1801
  let v1490 : BitVec 32 := Scalar.addi c0_i32_1802 v1489
  v1490.toNat
def k0_dev48 (v1 : BitVec 32) : Nat :=
  let c0_i32_1814 : BitVec 32 := 0#32
  let c1_i32_1813 : BitVec 32 := 1#32
  let v1499 : BitVec 32 := Scalar.muli v1 c1_i32_1813
  let v1500 : BitVec 32 := Scalar.addi c0_i32_1814 v1499
  v1500.toNat
def k0_dev49 (v0 : BitVec 32) : Nat :=
  let c0_i32_1862 : BitVec 32 := 0#32
  let c1_i32_1861 : BitVec 32 := 1#32
  let v1539 : BitVec 32 := Scalar.muli v0 c1_i32_1861
  let v1540 : BitVec 32 := Scalar.addi c0_i32_1862 v1539
  v1540.toNat
def k0_dev50 (v1 : BitVec 32) : Nat :=
  let c0_i32_1874 : BitVec 32 := 0#32
  let c1_i32_1873 : BitVec 32 := 1#32
  let v1549 : BitVec 32 := Scalar.muli v1 c1_i32_1873
  let v1550 : BitVec 32 := Scalar.addi c0_i32_1874 v1549
  v1550.toNat
def k0_off25 (v1583 : BitVec 32) : Fin 2 → Nat :=
  let c256_i32_1923 : BitVec 32 := 256#32
  let v1584 : BitVec 32 := Scalar.muli v1583 c256_i32_1923
  let v1585 : Index := Scalar.indexCast v1584
  let c0_1924 : Index := 0#32
  ![v1585.toNat, 0]

def k0_chk25 (v1583 : BitVec 32) : Prop :=
  (∀ a, (k0_off25 v1583) a + S256x256.size a ≤ S4096x256.size a)
theorem k0_off25_inb : ∀ (v1583 : BitVec 32) (k0_hw25 : k0_chk25 v1583), ∀ a, (k0_off25 v1583) a + S256x256.size a ≤ S4096x256.size a := fun v1583 k0_hw25 => k0_hw25

def k0_off26 (v1591 : BitVec 32) : Fin 2 → Nat :=
  let c256_i32_1928 : BitVec 32 := 256#32
  let v1592 : BitVec 32 := Scalar.muli v1591 c256_i32_1928
  let v1593 : Index := Scalar.indexCast v1592
  let c0_1929 : Index := 0#32
  ![v1593.toNat, 0]

def k0_chk26 (v1591 : BitVec 32) : Prop :=
  (∀ a, (k0_off26 v1591) a + S256x256.size a ≤ S4096x256.size a)
theorem k0_off26_inb : ∀ (v1591 : BitVec 32) (k0_hw26 : k0_chk26 v1591), ∀ a, (k0_off26 v1591) a + S256x256.size a ≤ S4096x256.size a := fun v1591 k0_hw26 => k0_hw26

def k0_dev51 (v0 : BitVec 32) : Nat :=
  let c0_i32_1975 : BitVec 32 := 0#32
  let c1_i32_1974 : BitVec 32 := 1#32
  let v1629 : BitVec 32 := Scalar.muli v0 c1_i32_1974
  let v1630 : BitVec 32 := Scalar.addi c0_i32_1975 v1629
  v1630.toNat
def k0_dev52 (v1 : BitVec 32) : Nat :=
  let c0_i32_1987 : BitVec 32 := 0#32
  let c1_i32_1986 : BitVec 32 := 1#32
  let v1639 : BitVec 32 := Scalar.muli v1 c1_i32_1986
  let v1640 : BitVec 32 := Scalar.addi c0_i32_1987 v1639
  v1640.toNat
def k0_dev53 (v0 : BitVec 32) : Nat :=
  let c0_i32_2035 : BitVec 32 := 0#32
  let c1_i32_2034 : BitVec 32 := 1#32
  let v1679 : BitVec 32 := Scalar.muli v0 c1_i32_2034
  let v1680 : BitVec 32 := Scalar.addi c0_i32_2035 v1679
  v1680.toNat
def k0_dev54 (v1 : BitVec 32) : Nat :=
  let c0_i32_2047 : BitVec 32 := 0#32
  let c1_i32_2046 : BitVec 32 := 1#32
  let v1689 : BitVec 32 := Scalar.muli v1 c1_i32_2046
  let v1690 : BitVec 32 := Scalar.addi c0_i32_2047 v1689
  v1690.toNat
def k0_off27 (v1723 : BitVec 32) : Fin 2 → Nat :=
  let c256_i32_2096 : BitVec 32 := 256#32
  let v1724 : BitVec 32 := Scalar.muli v1723 c256_i32_2096
  let v1725 : Index := Scalar.indexCast v1724
  let c0_2097 : Index := 0#32
  ![v1725.toNat, 0]

def k0_chk27 (v1723 : BitVec 32) : Prop :=
  (∀ a, (k0_off27 v1723) a + S256x256.size a ≤ S4096x256.size a)
theorem k0_off27_inb : ∀ (v1723 : BitVec 32) (k0_hw27 : k0_chk27 v1723), ∀ a, (k0_off27 v1723) a + S256x256.size a ≤ S4096x256.size a := fun v1723 k0_hw27 => k0_hw27

def k0_off28 (v1731 : BitVec 32) : Fin 2 → Nat :=
  let c256_i32_2101 : BitVec 32 := 256#32
  let v1732 : BitVec 32 := Scalar.muli v1731 c256_i32_2101
  let v1733 : Index := Scalar.indexCast v1732
  let c0_2102 : Index := 0#32
  ![v1733.toNat, 0]

def k0_chk28 (v1731 : BitVec 32) : Prop :=
  (∀ a, (k0_off28 v1731) a + S256x256.size a ≤ S4096x256.size a)
theorem k0_off28_inb : ∀ (v1731 : BitVec 32) (k0_hw28 : k0_chk28 v1731), ∀ a, (k0_off28 v1731) a + S256x256.size a ≤ S4096x256.size a := fun v1731 k0_hw28 => k0_hw28

def k0_dev55 (v0 : BitVec 32) : Nat :=
  let c0_i32_2148 : BitVec 32 := 0#32
  let c1_i32_2147 : BitVec 32 := 1#32
  let v1769 : BitVec 32 := Scalar.muli v0 c1_i32_2147
  let v1770 : BitVec 32 := Scalar.addi c0_i32_2148 v1769
  v1770.toNat
def k0_dev56 (v1 : BitVec 32) : Nat :=
  let c0_i32_2160 : BitVec 32 := 0#32
  let c1_i32_2159 : BitVec 32 := 1#32
  let v1779 : BitVec 32 := Scalar.muli v1 c1_i32_2159
  let v1780 : BitVec 32 := Scalar.addi c0_i32_2160 v1779
  v1780.toNat
def k0_dev57 (v0 : BitVec 32) : Nat :=
  let c0_i32_2208 : BitVec 32 := 0#32
  let c1_i32_2207 : BitVec 32 := 1#32
  let v1819 : BitVec 32 := Scalar.muli v0 c1_i32_2207
  let v1820 : BitVec 32 := Scalar.addi c0_i32_2208 v1819
  v1820.toNat
def k0_dev58 (v1 : BitVec 32) : Nat :=
  let c0_i32_2220 : BitVec 32 := 0#32
  let c1_i32_2219 : BitVec 32 := 1#32
  let v1829 : BitVec 32 := Scalar.muli v1 c1_i32_2219
  let v1830 : BitVec 32 := Scalar.addi c0_i32_2220 v1829
  v1830.toNat
def k0_off29 (v1863 : BitVec 32) : Fin 2 → Nat :=
  let c256_i32_2269 : BitVec 32 := 256#32
  let v1864 : BitVec 32 := Scalar.muli v1863 c256_i32_2269
  let v1865 : Index := Scalar.indexCast v1864
  let c0_2270 : Index := 0#32
  ![v1865.toNat, 0]

def k0_chk29 (v1863 : BitVec 32) : Prop :=
  (∀ a, (k0_off29 v1863) a + S256x256.size a ≤ S4096x256.size a)
theorem k0_off29_inb : ∀ (v1863 : BitVec 32) (k0_hw29 : k0_chk29 v1863), ∀ a, (k0_off29 v1863) a + S256x256.size a ≤ S4096x256.size a := fun v1863 k0_hw29 => k0_hw29

def k0_off30 (v1871 : BitVec 32) : Fin 2 → Nat :=
  let c256_i32_2274 : BitVec 32 := 256#32
  let v1872 : BitVec 32 := Scalar.muli v1871 c256_i32_2274
  let v1873 : Index := Scalar.indexCast v1872
  let c0_2275 : Index := 0#32
  ![v1873.toNat, 0]

def k0_chk30 (v1871 : BitVec 32) : Prop :=
  (∀ a, (k0_off30 v1871) a + S256x256.size a ≤ S4096x256.size a)
theorem k0_off30_inb : ∀ (v1871 : BitVec 32) (k0_hw30 : k0_chk30 v1871), ∀ a, (k0_off30 v1871) a + S256x256.size a ≤ S4096x256.size a := fun v1871 k0_hw30 => k0_hw30

def k0_dev59 (v0 : BitVec 32) : Nat :=
  let c0_i32_2321 : BitVec 32 := 0#32
  let c1_i32_2320 : BitVec 32 := 1#32
  let v1909 : BitVec 32 := Scalar.muli v0 c1_i32_2320
  let v1910 : BitVec 32 := Scalar.addi c0_i32_2321 v1909
  v1910.toNat
def k0_dev60 (v1 : BitVec 32) : Nat :=
  let c0_i32_2333 : BitVec 32 := 0#32
  let c1_i32_2332 : BitVec 32 := 1#32
  let v1919 : BitVec 32 := Scalar.muli v1 c1_i32_2332
  let v1920 : BitVec 32 := Scalar.addi c0_i32_2333 v1919
  v1920.toNat
def k0_dev61 (v0 : BitVec 32) : Nat :=
  let c0_i32_2381 : BitVec 32 := 0#32
  let c1_i32_2380 : BitVec 32 := 1#32
  let v1959 : BitVec 32 := Scalar.muli v0 c1_i32_2380
  let v1960 : BitVec 32 := Scalar.addi c0_i32_2381 v1959
  v1960.toNat

def k0_chk2 (v0 : BitVec 32) : Prop :=
  ((k0_dev2 v0) < nD) ∧
  (∀ a, (k0_off2 v0) a + S256x256.size a ≤ S4096x256.size a) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD)
theorem k0_dev2_lt : ∀ (v0 : BitVec 32) (k0_hw2 : k0_chk2 v0), (k0_dev2 v0) < nD := fun v0 k0_hw2 => k0_hw2.1
theorem k0_off2_inb : ∀ (v0 : BitVec 32) (k0_hw2 : k0_chk2 v0), ∀ a, (k0_off2 v0) a + S256x256.size a ≤ S4096x256.size a := fun v0 k0_hw2 => k0_hw2.2.1
theorem k0_dev3_lt : ∀ (v0 : BitVec 32) (k0_hw2 : k0_chk2 v0), (k0_dev3 v0) < nD := fun v0 k0_hw2 => k0_hw2.2.2.1
theorem k0_dev5_lt : ∀ (v0 : BitVec 32) (k0_hw2 : k0_chk2 v0), (k0_dev5 v0) < nD := fun v0 k0_hw2 => k0_hw2.2.2.2.1
theorem k0_dev7_lt : ∀ (v0 : BitVec 32) (k0_hw2 : k0_chk2 v0), (k0_dev7 v0) < nD := fun v0 k0_hw2 => k0_hw2.2.2.2.2.1
theorem k0_dev9_lt : ∀ (v0 : BitVec 32) (k0_hw2 : k0_chk2 v0), (k0_dev9 v0) < nD := fun v0 k0_hw2 => k0_hw2.2.2.2.2.2.1
theorem k0_dev11_lt : ∀ (v0 : BitVec 32) (k0_hw2 : k0_chk2 v0), (k0_dev11 v0) < nD := fun v0 k0_hw2 => k0_hw2.2.2.2.2.2.2.1
theorem k0_dev13_lt : ∀ (v0 : BitVec 32) (k0_hw2 : k0_chk2 v0), (k0_dev13 v0) < nD := fun v0 k0_hw2 => k0_hw2.2.2.2.2.2.2.2.1
theorem k0_dev15_lt : ∀ (v0 : BitVec 32) (k0_hw2 : k0_chk2 v0), (k0_dev15 v0) < nD := fun v0 k0_hw2 => k0_hw2.2.2.2.2.2.2.2.2.1
theorem k0_dev17_lt : ∀ (v0 : BitVec 32) (k0_hw2 : k0_chk2 v0), (k0_dev17 v0) < nD := fun v0 k0_hw2 => k0_hw2.2.2.2.2.2.2.2.2.2.1
theorem k0_dev19_lt : ∀ (v0 : BitVec 32) (k0_hw2 : k0_chk2 v0), (k0_dev19 v0) < nD := fun v0 k0_hw2 => k0_hw2.2.2.2.2.2.2.2.2.2.2.1
theorem k0_dev21_lt : ∀ (v0 : BitVec 32) (k0_hw2 : k0_chk2 v0), (k0_dev21 v0) < nD := fun v0 k0_hw2 => k0_hw2.2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.2.1
theorem k0_dev33_lt : ∀ (v0 : BitVec 32) (k0_hw2 : k0_chk2 v0), (k0_dev33 v0) < nD := fun v0 k0_hw2 => k0_hw2.2.2.2.2.2.2.2.2.2.2.2.2.2.2.2.2.2.1
theorem k0_dev35_lt : ∀ (v0 : BitVec 32) (k0_hw2 : k0_chk2 v0), (k0_dev35 v0) < nD := fun v0 k0_hw2 => k0_hw2.2.2.2.2.2.2.2.2.2.2.2.2.2.2.2.2.2.2.1
theorem k0_dev37_lt : ∀ (v0 : BitVec 32) (k0_hw2 : k0_chk2 v0), (k0_dev37 v0) < nD := fun v0 k0_hw2 => k0_hw2.2.2.2.2.2.2.2.2.2.2.2.2.2.2.2.2.2.2.2.1
theorem k0_dev39_lt : ∀ (v0 : BitVec 32) (k0_hw2 : k0_chk2 v0), (k0_dev39 v0) < nD := fun v0 k0_hw2 => k0_hw2.2.2.2.2.2.2.2.2.2.2.2.2.2.2.2.2.2.2.2.2.1
theorem k0_dev41_lt : ∀ (v0 : BitVec 32) (k0_hw2 : k0_chk2 v0), (k0_dev41 v0) < nD := fun v0 k0_hw2 => k0_hw2.2.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.2.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.2.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.2.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.2.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.2.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.2.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.2.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.2.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.2.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.2.2.2.2.2.2.2.2.2.2.2.2.2.2.2.2.2.2.2.2.2.2.2.2.2.2.2.2.2.2.2

def k0_dev62 (v1 : BitVec 32) : Nat :=
  let c0_i32_2393 : BitVec 32 := 0#32
  let c1_i32_2392 : BitVec 32 := 1#32
  let v1969 : BitVec 32 := Scalar.muli v1 c1_i32_2392
  let v1970 : BitVec 32 := Scalar.addi c0_i32_2393 v1969
  v1970.toNat

def k0_chk1 (v1 : BitVec 32) : Prop :=
  ((k0_dev1 v1) < nD) ∧
  (∀ a, (k0_off1 v1) a + S256x256.size a ≤ S4096x256.size a) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD)
theorem k0_dev1_lt : ∀ (v1 : BitVec 32) (k0_hw1 : k0_chk1 v1), (k0_dev1 v1) < nD := fun v1 k0_hw1 => k0_hw1.1
theorem k0_off1_inb : ∀ (v1 : BitVec 32) (k0_hw1 : k0_chk1 v1), ∀ a, (k0_off1 v1) a + S256x256.size a ≤ S4096x256.size a := fun v1 k0_hw1 => k0_hw1.2.1
theorem k0_dev4_lt : ∀ (v1 : BitVec 32) (k0_hw1 : k0_chk1 v1), (k0_dev4 v1) < nD := fun v1 k0_hw1 => k0_hw1.2.2.1
theorem k0_dev6_lt : ∀ (v1 : BitVec 32) (k0_hw1 : k0_chk1 v1), (k0_dev6 v1) < nD := fun v1 k0_hw1 => k0_hw1.2.2.2.1
theorem k0_dev8_lt : ∀ (v1 : BitVec 32) (k0_hw1 : k0_chk1 v1), (k0_dev8 v1) < nD := fun v1 k0_hw1 => k0_hw1.2.2.2.2.1
theorem k0_dev10_lt : ∀ (v1 : BitVec 32) (k0_hw1 : k0_chk1 v1), (k0_dev10 v1) < nD := fun v1 k0_hw1 => k0_hw1.2.2.2.2.2.1
theorem k0_dev12_lt : ∀ (v1 : BitVec 32) (k0_hw1 : k0_chk1 v1), (k0_dev12 v1) < nD := fun v1 k0_hw1 => k0_hw1.2.2.2.2.2.2.1
theorem k0_dev14_lt : ∀ (v1 : BitVec 32) (k0_hw1 : k0_chk1 v1), (k0_dev14 v1) < nD := fun v1 k0_hw1 => k0_hw1.2.2.2.2.2.2.2.1
theorem k0_dev16_lt : ∀ (v1 : BitVec 32) (k0_hw1 : k0_chk1 v1), (k0_dev16 v1) < nD := fun v1 k0_hw1 => k0_hw1.2.2.2.2.2.2.2.2.1
theorem k0_dev18_lt : ∀ (v1 : BitVec 32) (k0_hw1 : k0_chk1 v1), (k0_dev18 v1) < nD := fun v1 k0_hw1 => k0_hw1.2.2.2.2.2.2.2.2.2.1
theorem k0_dev20_lt : ∀ (v1 : BitVec 32) (k0_hw1 : k0_chk1 v1), (k0_dev20 v1) < nD := fun v1 k0_hw1 => k0_hw1.2.2.2.2.2.2.2.2.2.2.1
theorem k0_dev22_lt : ∀ (v1 : BitVec 32) (k0_hw1 : k0_chk1 v1), (k0_dev22 v1) < nD := fun v1 k0_hw1 => k0_hw1.2.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.2.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.2.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.2.2.2.2.2.2.2.2.2.2.2.2.2.2.2.2.2.2.2.2.2.2.2.2.2.2.2.2.2.2.2

def k0_off31 (v2003 : BitVec 32) : Fin 2 → Nat :=
  let c256_i32_2442 : BitVec 32 := 256#32
  let v2004 : BitVec 32 := Scalar.muli v2003 c256_i32_2442
  let v2005 : Index := Scalar.indexCast v2004
  let c0_2443 : Index := 0#32
  ![v2005.toNat, 0]

def k0_chk31 (v2003 : BitVec 32) : Prop :=
  (∀ a, (k0_off31 v2003) a + S256x256.size a ≤ S4096x256.size a)
theorem k0_off31_inb : ∀ (v2003 : BitVec 32) (k0_hw31 : k0_chk31 v2003), ∀ a, (k0_off31 v2003) a + S256x256.size a ≤ S4096x256.size a := fun v2003 k0_hw31 => k0_hw31

def k0_off32 (v2011 : BitVec 32) : Fin 2 → Nat :=
  let c256_i32_2447 : BitVec 32 := 256#32
  let v2012 : BitVec 32 := Scalar.muli v2011 c256_i32_2447
  let v2013 : Index := Scalar.indexCast v2012
  let c0_2448 : Index := 0#32
  ![v2013.toNat, 0]

def k0_chk32 (v2011 : BitVec 32) : Prop :=
  (∀ a, (k0_off32 v2011) a + S256x256.size a ≤ S4096x256.size a)
theorem k0_off32_inb : ∀ (v2011 : BitVec 32) (k0_hw32 : k0_chk32 v2011), ∀ a, (k0_off32 v2011) a + S256x256.size a ≤ S4096x256.size a := fun v2011 k0_hw32 => k0_hw32

def k0_dev63 (v2150 : BitVec 32) : Nat :=
  let c0_i32_2632 : BitVec 32 := 0#32
  let c1_i32_2631 : BitVec 32 := 1#32
  let v2151 : BitVec 32 := Scalar.muli v2150 c1_i32_2631
  let v2152 : BitVec 32 := Scalar.addi c0_i32_2632 v2151
  v2152.toNat

def k0_chk33 (v2150 : BitVec 32) : Prop :=
  ((k0_dev63 v2150) < nD)
theorem k0_dev63_lt : ∀ (v2150 : BitVec 32) (k0_hw33 : k0_chk33 v2150), (k0_dev63 v2150) < nD := fun v2150 k0_hw33 => k0_hw33

def k0_dev64 (v2176 : BitVec 32) : Nat :=
  let c0_i32_2657 : BitVec 32 := 0#32
  let c1_i32_2656 : BitVec 32 := 1#32
  let v2177 : BitVec 32 := Scalar.muli v2176 c1_i32_2656
  let v2178 : BitVec 32 := Scalar.addi c0_i32_2657 v2177
  v2178.toNat

def k0_chk34 (v2176 : BitVec 32) : Prop :=
  ((k0_dev64 v2176) < nD)
theorem k0_dev64_lt : ∀ (v2176 : BitVec 32) (k0_hw34 : k0_chk34 v2176), (k0_dev64 v2176) < nD := fun v2176 k0_hw34 => k0_hw34

def k0_dev65 (v2202 : BitVec 32) : Nat :=
  let c0_i32_2682 : BitVec 32 := 0#32
  let c1_i32_2681 : BitVec 32 := 1#32
  let v2203 : BitVec 32 := Scalar.muli v2202 c1_i32_2681
  let v2204 : BitVec 32 := Scalar.addi c0_i32_2682 v2203
  v2204.toNat

def k0_chk35 (v2202 : BitVec 32) : Prop :=
  ((k0_dev65 v2202) < nD)
theorem k0_dev65_lt : ∀ (v2202 : BitVec 32) (k0_hw35 : k0_chk35 v2202), (k0_dev65 v2202) < nD := fun v2202 k0_hw35 => k0_hw35

def k0_dev66 (v2228 : BitVec 32) : Nat :=
  let c0_i32_2707 : BitVec 32 := 0#32
  let c1_i32_2706 : BitVec 32 := 1#32
  let v2229 : BitVec 32 := Scalar.muli v2228 c1_i32_2706
  let v2230 : BitVec 32 := Scalar.addi c0_i32_2707 v2229
  v2230.toNat

def k0_chk36 (v2228 : BitVec 32) : Prop :=
  ((k0_dev66 v2228) < nD)
theorem k0_dev66_lt : ∀ (v2228 : BitVec 32) (k0_hw36 : k0_chk36 v2228), (k0_dev66 v2228) < nD := fun v2228 k0_hw36 => k0_hw36

abbrev stage0_0 : Fin 1 → Memref sig .tc .smem S36 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelIdeal.Steps.lean ====
/-
  The kernel body written again as what it is in the source: a prologue, one ring step that is the same program for every step number, and the exchange of
  the running maxima. The printed body is the source unrolled; `cc0_body_eq_steps` says that the two are the same program.
-/
module

public import proofs.«01_k».proof.Proof.Gen.KernelIdeal.Skeleton

@[expose] public section

noncomputable section

namespace Cert.KernelIdeal.Steps

open Idealize.ShloMosaic Idealize.SL.Sem
open Cert.KernelIdeal Cert.KernelIdeal.Gen

variable {F : FTy → Type} [FloatOps F]

/-! ## Places: a half of a slot of a ring buffer, a semaphore of a step, a row block of `x` -/

theorem inbHalf (s p : ℕ) (hs : s < 16) (hp : p < 2) : ∀ a, (![s, 0, 512 * p] : Fin 3 → Nat) a + S1x256x512.size a ≤ S16x256x1024.size a := by
  intro a
  fin_cases a
  · show s + 1 ≤ 16; omega
  · show 0 + 256 ≤ 256; omega
  · show 512 * p + 512 ≤ 1024; omega

theorem inbSem (s p : ℕ) (hs : s < 15) (hp : p < 2) : ∀ a, (![s, p] : Fin 2 → Nat) a + S1x1.size a ≤ S15x2.size a := by
  intro a
  fin_cases a
  · show s + 1 ≤ 15; omega
  · show p + 1 ≤ 2; omega

theorem inbWord (i : ℕ) (hi : i < 36) : ∀ a, (![i] : Fin 1 → Nat) a + S1.size a ≤ S36.size a := by
  intro a
  fin_cases a
  show i + 1 ≤ 36; omega

theorem inbAmaxSem (r : ℕ) (hr : r < 4) : ∀ a, (![r] : Fin 1 → Nat) a + S1.size a ≤ S4.size a := by
  intro a
  fin_cases a
  show r + 1 ≤ 4; omega

theorem inbAmax (r : ℕ) (hr : r < 4) : ∀ a, (![r, 0, 0] : Fin 3 → Nat) a + S1x8x128.size a ≤ S4x8x128.size a := by
  intro a
  fin_cases a
  · show r + 1 ≤ 4; omega
  · show 0 + 8 ≤ 8; omega
  · show 0 + 128 ≤ 128; omega

theorem inbAmaxWord (r : ℕ) (hr : r < 4) : ∀ a, (![r, 0, 0] : Fin 3 → Nat) a + S1x1x1.size a ≤ S4x8x128.size a := by
  intro a
  fin_cases a
  · show r + 1 ≤ 4; omega
  · show 0 + 1 ≤ 8; omega
  · show 0 + 1 ≤ 128; omega

theorem slicesHalf (p : ℕ) (hp : p < 2) : S256x1024.Slices ![0, 512 * p] S256x512 := by
  have h : p = 0 ∨ p = 1 := by omega
  rcases h with rfl | rfl
  · exact slices_S256x1024_o0_0_S256x512
  · exact slices_S256x1024_o0_512_S256x512

/-- Half `p` of slot `s` of a ring buffer, as a load or a store addresses it. -/
@[implicit_reducible] def halfR (s p : ℕ) (hs : s < 16) (hp : p < 2) : Rect S16x256x1024 :=
  Rect.unit (s := S16x256x1024) ![s, 0, 512 * p] S1x256x512.size (inbHalf s p hs hp)

/-- The same half as a transfer addresses it. -/
@[implicit_reducible] def halfM (M : Memref sig .tc .vmem S16x256x1024 .f32) (s p : ℕ) (hs : s < 16) (hp : p < 2) : Memref sig .tc .vmem S256x512 .f32 :=
  (M.slice (Rect.unit (s := S16x256x1024) ![s, 0, 512 * p] S1x256x512.size (inbHalf s p hs hp)) (fun _ => rfl)).squeeze S256x512 squeezes_S1x256x512_S256x512

/-- The semaphore of step `s` and half `p`. -/
def semAt (A : DmaSems sig S15x2) (s p : ℕ) (hs : s < 15) (hp : p < 2) : DmaSem sig :=
  ((A.slice (Rect.unit (s := S15x2) ![s, p] S1x1.size (inbSem s p hs hp))).squeeze S_ squeezes_S1x1_S_).sem

/-- The semaphore of exchange round `r`. -/
def amaxSem (A : DmaSems sig S4) (r : ℕ) (hr : r < 4) : DmaSem sig :=
  ((A.slice (Rect.unit (s := S4) ![r] S1.size (inbAmaxSem r hr))).squeeze S_ squeezes_S1_S_).sem

/-- The landing place of exchange round `r`. -/
@[implicit_reducible] def amaxM (M : Memref sig .tc .vmem S4x8x128 .f32) (r : ℕ) (hr : r < 4) : Memref sig .tc .vmem S8x128 .f32 :=
  (M.slice (Rect.unit (s := S4x8x128) ![r, 0, 0] S1x8x128.size (inbAmax r hr)) (fun _ => rfl)).squeeze S8x128 squeezes_S1x8x128_S8x128

/-! ## Values -/

/-- One device's product of 256 rows of its columns of `x` with half of its rows of `w`. -/
def prod (a : FVec F S256x256 .f32) (b : FVec F S256x1024 .f32) : FVec F S256x1024 .f32 :=
  matmul dot_S256x256_S256x1024_S256x1024_1_0_0_1_n_n none (shapeCast S256x256 a shapeCasts_S256x256_S256x256)
    (shapeCast S256x1024 b shapeCasts_S256x1024_S256x1024) (constant S256x1024 .f32 0x00000000#32)

/-- The product as slot 0 of a ring buffer takes it. -/
def slot0 (a : FVec F S256x256 .f32) (b : FVec F S256x1024 .f32) : FVec F S1x256x1024 .f32 :=
  shapeCast S1x256x1024 (prod a b) shapeCasts_S256x1024_S1x256x1024

/-- What has arrived in half `p` of a slot, plus that half of the own product. -/
def accum (p : ℕ) (hp : p < 2) (v : FVec F S256x1024 .f32) (a : Vec F S1x256x512 .f32) : FVec F S1x256x512 .f32 :=
  shapeCast S1x256x512 (addf (shapeCast S256x512 a shapeCasts_S1x256x512_S256x512) (extractStridedSlice S256x512 ![0, 512 * p] v (slicesHalf p hp)))
    shapeCasts_S256x512_S1x256x512

/-- The greatest element of a slot, of the two maxima, and the array of copies of it that is sent. -/
def own (a b : Vec F S1x256x1024 .f32) : F .f32 := k0_pay114 (k0_pay112 a) (k0_pay113 b)
def copies (a : F .f32) : FVec F S8x128 .f32 := shapeCast S8x128 (broadcast S8x128 a) shapeCasts_S8x128_S8x128
/-- The maximum after an exchange round. -/
def join (a : F .f32) (v : Vec F S1x1x1 .f32) : F .f32 := k0_pay116 a v
/-- The quantised block, from the maximum over all devices. -/
def quant (a : F .f32) (v : Vec F S256x2048 .f32) : FVec F S256x2048 .f32 :=
  k0_pay1 (Scalar.divf a (Scalar.ofBits .f32 0x43E00000#32)) (k0_pay125 v) (broadcast S256x2048 (Scalar.divf a (Scalar.ofBits .f32 0x43E00000#32)))

/-! ## The device a word names, the row block a word names -/

/-- The word names a device. -/
def DevOk (v : BitVec 32) : Prop := k0_chk33 v
def devOf (v : BitVec 32) (h : DevOk v) : Dev nD := ⟨k0_dev63 v, k0_dev63_lt v h⟩

section Prog

variable (arg0 : Memref sig .tc .smem S36 .i32) (arg1 : Memref sig .tc .vmem S4096x256 .f32) (arg2 arg3 : Memref sig .tc .vmem S256x2048 .f32)
  (arg4 arg5 : Memref sig .tc .vmem S16x256x1024 .f32) (arg6 : Memref sig .tc .vmem S8x128 .f32) (harg6 : arg6.IsWhole)
  (arg7 : Memref sig .tc .vmem S4x8x128 .f32) (arg8 arg9 arg10 arg11 : DmaSems sig S15x2) (arg12 arg13 : DmaSems sig S4)

/-- Send half `p` of slot `s` to slot `s + 1` of device `d`. -/
def send (M : Memref sig .tc .vmem S16x256x1024 .f32) (A B : DmaSems sig S15x2) (d : Dev nD) (s p : ℕ) (hs : s < 15) (hp : p < 2) (k : Prog (TpuEff nD τ sig (Elt F) Λ₀ .tc) PUnit) : Prog (TpuEff nD τ sig (Elt F) Λ₀ .tc) PUnit :=
  .op (.enqueueDma (halfM M s p (by omega) hp) (.remote (Dev.tc d) (halfM M (s + 1) p (by omega) hp) (.dma (semAt A s p hs hp))) (.dma (semAt B s p hs hp))
    ((View.wordExact_bits rfl).reshape _ _) ((View.wordExact_bits rfl).reshape _ _) ⟨⟨rfl, Or.inl rfl⟩, trivial⟩) fun _ => k

/-- Wait for the transfer of half `p` into slot `s + 1` that step `s` expects. -/
def waitRecv (M : Memref sig .tc .vmem S16x256x1024 .f32) (B : DmaSems sig S15x2) (s p : ℕ) (hs : s < 15) (hp : p < 2) (k : Prog (TpuEff nD τ sig (Elt F) Λ₀ .tc) PUnit) : Prog (TpuEff nD τ sig (Elt F) Λ₀ .tc) PUnit :=
  .op (.waitDma2 (semAt B s p hs hp) (halfM M s p (by omega) hp) (halfM M (s + 1) p (by omega) hp)
    ((View.wordExact_bits rfl).reshape _ _) ((View.wordExact_bits rfl).reshape _ _)) fun _ => k

/-- Wait for the own transfer of half `p` of slot `s` to have left. -/
def waitSend (M : Memref sig .tc .vmem S16x256x1024 .f32) (A : DmaSems sig S15x2) (s p : ℕ) (hs : s < 15) (hp : p < 2) (k : Prog (TpuEff nD τ sig (Elt F) Λ₀ .tc) PUnit) : Prog (TpuEff nD τ sig (Elt F) Λ₀ .tc) PUnit :=
  .op (.waitDma2 (semAt A s p hs hp) (halfM M (s + 1) p (by omega) hp) (halfM M s p (by omega) hp)
    ((View.wordExact_bits rfl).reshape _ _) ((View.wordExact_bits rfl).reshape _ _)) fun _ => k

/-- Add the own product to what has arrived. -/
def addTo (M : Memref sig .tc .vmem S16x256x1024 .f32) (v : FVec F S256x1024 .f32) (s p : ℕ) (hs : s < 15) (hp : p < 2) (k : Prog (TpuEff nD τ sig (Elt F) Λ₀ .tc) PUnit) : Prog (TpuEff nD τ sig (Elt F) Λ₀ .tc) PUnit :=
  .op (.load M (Rect.unit (s := S16x256x1024) ![s + 1, 0, 512 * p] S1x256x512.size (inbHalf (s + 1) p (by omega) hp)).toLoadRect (View.loadsAt_vmem h_S1x256x512)) fun a =>
  .op (.load M (Rect.unit (s := S16x256x1024) ![s + 1, 0, 512 * p] S1x256x512.size (inbHalf (s + 1) p (by omega) hp)).toLoadRect (View.loadsAt_vmem h_S1x256x512)) fun _ =>
  .op (.store M (Rect.unit (s := S16x256x1024) ![s + 1, 0, 512 * p] S1x256x512.size (inbHalf (s + 1) p (by omega) hp)) (accum p hp v a) Finset.univ
    (View.stores_vmem_bits_univ h_S1x256x512 rfl) (.inl rfl)) fun _ => k

/-- Read word `i` of the schedule. -/
def word (i : ℕ) (hi : i < 36) (k : BitVec 32 → Prog (TpuEff nD τ sig (Elt F) Λ₀ .tc) PUnit) : Prog (TpuEff nD τ sig (Elt F) Λ₀ .tc) PUnit :=
  .op (.load arg0 (Rect.unit (s := S36) ![i] S1.size (inbWord i hi)).toLoadRect (View.loadsAt_rect (View.loads_smem_one rfl numel1_S1))) fun f =>
    k (f (Shape.Idx.first (numel1_S1.symm ▸ Nat.one_pos)))

/-- Load the rows of `x` that a word names. -/
def rows (v : BitVec 32) (hv : k0_chk3 v) (k : Vec F S256x256 .f32 → Prog (TpuEff nD τ sig (Elt F) Λ₀ .tc) PUnit) : Prog (TpuEff nD τ sig (Elt F) Λ₀ .tc) PUnit :=
  .op (.load arg1 (Rect.unit (s := S4096x256) (k0_off3 v) S256x256.size (k0_off3_inb v hv)).toLoadRect (View.loadsAt_vmem h_S256x256)) k

/-- Load the left half of `w`; the right half. -/
def cols0 (k : Vec F S256x1024 .f32 → Prog (TpuEff nD τ sig (Elt F) Λ₀ .tc) PUnit) : Prog (TpuEff nD τ sig (Elt F) Λ₀ .tc) PUnit :=
  .op (.load arg2 (Rect.unit (s := S256x2048) ![0, 0] S256x1024.size inb_S256x2048_S256x1024_0_0).toLoadRect (View.loadsAt_vmem h_S256x1024)) k
def cols1 (k : Vec F S256x1024 .f32 → Prog (TpuEff nD τ sig (Elt F) Λ₀ .tc) PUnit) : Prog (TpuEff nD τ sig (Elt F) Λ₀ .tc) PUnit :=
  .op (.load arg2 (Rect.unit (s := S256x2048) ![0, 1024] S256x1024.size inb_S256x2048_S256x1024_0_1024).toLoadRect (View.loadsAt_vmem h_S256x1024)) k

/-- The own products of a step: word `2 + s` names the rows for the left half, word `17 + s` those for the right half. -/
def products (s : ℕ) (hs : s < 15) (k : FVec F S256x1024 .f32 → FVec F S256x1024 .f32 → Prog (TpuEff nD τ sig (Elt F) Λ₀ .tc) PUnit) : Prog (TpuEff nD τ sig (Elt F) Λ₀ .tc) PUnit :=
  word arg0 (2 + s) (by omega) fun v => .op (.assume (k0_chk3 v) (k0_chk3.dec v)) fun h =>
  rows arg1 v h.down fun a => cols0 arg2 fun b =>
  word arg0 (17 + s) (by omega) fun v' => .op (.assume (k0_chk3 v') (k0_chk3.dec v')) fun h' =>
  rows arg1 v' h'.down fun a' => cols1 arg2 fun b' => k (prod a b) (prod a' b')

/-- Half `p` of step `s`: what has arrived on either ring is added to. -/
def arrive (v v' : FVec F S256x1024 .f32) (s p : ℕ) (hs : s < 15) (hp : p < 2) (k : Prog (TpuEff nD τ sig (Elt F) Λ₀ .tc) PUnit) : Prog (TpuEff nD τ sig (Elt F) Λ₀ .tc) PUnit :=
  waitRecv arg4 arg9 s p hs hp (addTo arg4 v s p hs hp (waitRecv arg5 arg11 s p hs hp (addTo arg5 v' s p hs hp k)))

/-- And sent on. -/
def forward (dr dl : Dev nD) (s p : ℕ) (hs : s < 15) (hp : p < 2) (k : Prog (TpuEff nD τ sig (Elt F) Λ₀ .tc) PUnit) : Prog (TpuEff nD τ sig (Elt F) Λ₀ .tc) PUnit :=
  send arg4 arg8 arg9 dr s p hs hp (send arg5 arg10 arg11 dl s p hs hp k)

/-- The own transfers of step `s` have left. -/
def left (s : ℕ) (hs : s < 15) (k : Prog (TpuEff nD τ sig (Elt F) Λ₀ .tc) PUnit) : Prog (TpuEff nD τ sig (Elt F) Λ₀ .tc) PUnit :=
  waitSend arg4 arg8 s 0 hs (by omega) (waitSend arg5 arg10 s 0 hs (by omega)
    (waitSend arg4 arg8 s 1 hs (by omega) (waitSend arg5 arg10 s 1 hs (by omega) k)))

/-- Step 0 (nothing sent earlier is waited for). -/
def step0 (dr dl : Dev nD) (k : Prog (TpuEff nD τ sig (Elt F) Λ₀ .tc) PUnit) : Prog (TpuEff nD τ sig (Elt F) Λ₀ .tc) PUnit :=
  products arg0 arg1 arg2 0 (by omega) fun v v' =>
  arrive arg4 arg5 arg9 arg11 v v' 0 0 (by omega) (by omega) (forward arg4 arg5 arg8 arg9 arg10 arg11 dr dl 1 0 (by omega) (by omega)
  (arrive arg4 arg5 arg9 arg11 v v' 0 1 (by omega) (by omega) (forward arg4 arg5 arg8 arg9 arg10 arg11 dr dl 1 1 (by omega) (by omega) k)))

/-- Step `s + 1`, one of the thirteen in the middle. -/
def stepM (dr dl : Dev nD) (s : ℕ) (hs : s < 13) (k : Prog (TpuEff nD τ sig (Elt F) Λ₀ .tc) PUnit) : Prog (TpuEff nD τ sig (Elt F) Λ₀ .tc) PUnit :=
  products arg0 arg1 arg2 (s + 1) (by omega) fun v v' =>
  arrive arg4 arg5 arg9 arg11 v v' (s + 1) 0 (by omega) (by omega) (forward arg4 arg5 arg8 arg9 arg10 arg11 dr dl (s + 2) 0 (by omega) (by omega)
  (arrive arg4 arg5 arg9 arg11 v v' (s + 1) 1 (by omega) (by omega) (forward arg4 arg5 arg8 arg9 arg10 arg11 dr dl (s + 2) 1 (by omega) (by omega)
  (left arg4 arg5 arg8 arg10 s (by omega) k))))

/-- The last step: nothing is sent on. -/
def stepL (k : Prog (TpuEff nD τ sig (Elt F) Λ₀ .tc) PUnit) : Prog (TpuEff nD τ sig (Elt F) Λ₀ .tc) PUnit :=
  products arg0 arg1 arg2 14 (by omega) fun v v' =>
  arrive arg4 arg5 arg9 arg11 v v' 14 0 (by omega) (by omega) (arrive arg4 arg5 arg9 arg11 v v' 14 1 (by omega) (by omega)
  (left arg4 arg5 arg8 arg10 13 (by omega) (left arg4 arg5 arg8 arg10 14 (by omega) k)))

/-- The middle steps from `13 - n` on. -/
def stepsM (dr dl : Dev nD) : (n : ℕ) → n ≤ 13 → Prog (TpuEff nD τ sig (Elt F) Λ₀ .tc) PUnit → Prog (TpuEff nD τ sig (Elt F) Λ₀ .tc) PUnit
  | 0, _, k => k
  | n + 1, hn, k => stepM arg0 arg1 arg2 arg4 arg5 arg8 arg9 arg10 arg11 dr dl (12 - n) (by omega) (stepsM dr dl n (by omega) k)

/-- Slot 0 of a ring: the own product for the neighbour's rows. -/
def fill0 (v : BitVec 32) (hv : k0_chk3 v) (k : Prog (TpuEff nD τ sig (Elt F) Λ₀ .tc) PUnit) : Prog (TpuEff nD τ sig (Elt F) Λ₀ .tc) PUnit :=
  rows arg1 v hv fun a => cols0 arg2 fun b =>
  .op (.load arg4 (Rect.unit (s := S16x256x1024) ![0, 0, 0] S1x256x1024.size inb_S16x256x1024_S1x256x1024_0_0_0).toLoadRect (View.loadsAt_vmem h_S1x256x1024)) fun _ =>
  .op (.store arg4 (Rect.unit (s := S16x256x1024) ![0, 0, 0] S1x256x1024.size inb_S16x256x1024_S1x256x1024_0_0_0) (slot0 a b) Finset.univ
    (View.stores_vmem_bits_univ h_S1x256x1024 rfl) (.inl rfl)) fun _ => k
def fill1 (v : BitVec 32) (hv : k0_chk3 v) (k : Prog (TpuEff nD τ sig (Elt F) Λ₀ .tc) PUnit) : Prog (TpuEff nD τ sig (Elt F) Λ₀ .tc) PUnit :=
  rows arg1 v hv fun a => cols1 arg2 fun b =>
  .op (.load arg5 (Rect.unit (s := S16x256x1024) ![0, 0, 0] S1x256x1024.size inb_S16x256x1024_S1x256x1024_0_0_0).toLoadRect (View.loadsAt_vmem h_S1x256x1024)) fun _ =>
  .op (.store arg5 (Rect.unit (s := S16x256x1024) ![0, 0, 0] S1x256x1024.size inb_S16x256x1024_S1x256x1024_0_0_0) (slot0 a b) Finset.univ
    (View.stores_vmem_bits_univ h_S1x256x1024 rfl) (.inl rfl)) fun _ => k

/-- The barrier semaphore. -/
abbrev barS : Sem sig := (SemArray.scalar (sig.barrier 0 rfl) : Sems sig S_).sem

/-- From the two words to the end of the first four transfers' issue. -/
def start (k : Dev nD → Dev nD → Prog (TpuEff nD τ sig (Elt F) Λ₀ .tc) PUnit) : Prog (TpuEff nD τ sig (Elt F) Λ₀ .tc) PUnit :=
  word arg0 0 (by omega) fun v0 => .op (.assume (k0_chk2 v0) (k0_chk2.dec v0)) fun h0 =>
  word arg0 1 (by omega) fun v1 => .op (.assume (k0_chk1 v1) (k0_chk1.dec v1)) fun h1 =>
  .op (.semSignal (Dev.tc (devOf v1 h1.down.1)) barS (1#32).toInt) fun _ => .op (.semSignal (Dev.tc (devOf v0 h0.down.1)) barS (1#32).toInt) fun _ =>
  .op (.semWait barS (2#32).toInt) fun _ =>
  fill0 arg1 arg2 arg4 v1 h1.down.2.1 (fill1 arg1 arg2 arg5 v0 h0.down.2.1
  (forward arg4 arg5 arg8 arg9 arg10 arg11 (devOf v0 h0.down.1) (devOf v1 h1.down.1) 0 0 (by omega) (by omega)
  (forward arg4 arg5 arg8 arg9 arg10 arg11 (devOf v0 h0.down.1) (devOf v1 h1.down.1) 0 1 (by omega) (by omega)
  (k (devOf v0 h0.down.1) (devOf v1 h1.down.1)))))

/-- The maximum is written where it is sent from. -/
def spread (a : F .f32) (k : Prog (TpuEff nD τ sig (Elt F) Λ₀ .tc) PUnit) : Prog (TpuEff nD τ sig (Elt F) Λ₀ .tc) PUnit :=
  .op (.load arg6 (Rect.unit (s := S8x128) ![0, 0] S8x128.size inb_S8x128_S8x128_0_0).toLoadRect (View.loadsAt_vmem h_S8x128)) fun _ =>
  .op (.store arg6 (Rect.unit (s := S8x128) ![0, 0] S8x128.size inb_S8x128_S8x128_0_0) (copies a) Finset.univ
    (View.stores_vmem_bits_univ h_S8x128 rfl) (.inl rfl)) fun _ => k

/-- One exchange of maxima with the device that word `32 + r` names. -/
def exchange (r : ℕ) (hr : r < 4) (a : F .f32) (k : F .f32 → Prog (TpuEff nD τ sig (Elt F) Λ₀ .tc) PUnit) : Prog (TpuEff nD τ sig (Elt F) Λ₀ .tc) PUnit :=
  spread arg6 a (
  word arg0 (32 + r) (by omega) fun v => .op (.assume (k0_chk33 v) (k0_chk33.dec v)) fun h =>
  .op (.enqueueDma arg6 (.remote (Dev.tc (devOf v h.down)) (amaxM arg7 r hr) (.dma (amaxSem arg12 r hr))) (.dma (amaxSem arg13 r hr))
    harg6.wordExact ((View.wordExact_bits rfl).reshape _ _) ⟨⟨rfl, Or.inl rfl⟩, trivial⟩) fun _ =>
  .op (.waitDma2 (amaxSem arg12 r hr) (amaxM arg7 r hr) arg6 ((View.wordExact_bits rfl).reshape _ _) harg6.wordExact) fun _ =>
  .op (.waitDma2 (amaxSem arg13 r hr) arg6 (amaxM arg7 r hr) harg6.wordExact ((View.wordExact_bits rfl).reshape _ _)) fun _ =>
  .op (.load arg7 (Rect.unit (s := S4x8x128) ![r, 0, 0] S1x1x1.size (inbAmaxWord r hr)).toLoadRect (View.loadsAt_vmem h_S1x1x1)) fun u => k (join a u))

/-- The two last slots, rectified, into the result; the own maximum. -/
def collect (k : F .f32 → Prog (TpuEff nD τ sig (Elt F) Λ₀ .tc) PUnit) : Prog (TpuEff nD τ sig (Elt F) Λ₀ .tc) PUnit :=
  .op (.load arg4 (Rect.unit (s := S16x256x1024) ![15, 0, 0] S1x256x1024.size inb_S16x256x1024_S1x256x1024_15_0_0).toLoadRect (View.loadsAt_vmem h_S1x256x1024)) fun a =>
  .op (.load arg5 (Rect.unit (s := S16x256x1024) ![15, 0, 0] S1x256x1024.size inb_S16x256x1024_S1x256x1024_15_0_0).toLoadRect (View.loadsAt_vmem h_S1x256x1024)) fun b =>
  .op (.load arg3 (Rect.unit (s := S256x2048) ![0, 0] S256x1024.size inb_S256x2048_S256x1024_0_0).toLoadRect (View.loadsAt_vmem h_S256x1024)) fun _ =>
  .op (.store arg3 (Rect.unit (s := S256x2048) ![0, 0] S256x1024.size inb_S256x2048_S256x1024_0_0) (k0_pay110 a) Finset.univ
    (View.stores_vmem_bits_univ h_S256x1024 rfl) (.inl rfl)) fun _ =>
  .op (.load arg3 (Rect.unit (s := S256x2048) ![0, 1024] S256x1024.size inb_S256x2048_S256x1024_0_1024).toLoadRect (View.loadsAt_vmem h_S256x1024)) fun _ =>
  .op (.store arg3 (Rect.unit (s := S256x2048) ![0, 1024] S256x1024.size inb_S256x2048_S256x1024_0_1024) (k0_pay111 b) Finset.univ
    (View.stores_vmem_bits_univ h_S256x1024 rfl) (.inl rfl)) fun _ => k (own a b)

/-- The result quantised in place. -/
def finish (a : F .f32) : Prog (TpuEff nD τ sig (Elt F) Λ₀ .tc) PUnit :=
  .op (.load arg3 (Rect.unit (s := S256x2048) ![0, 0] S256x2048.size inb_S256x2048_S256x2048_0_0).toLoadRect (View.loadsAt_vmem h_S256x2048)) fun v =>
  .op (.load arg3 (Rect.unit (s := S256x2048) ![0, 0] S256x2048.size inb_S256x2048_S256x2048_0_0).toLoadRect (View.loadsAt_vmem h_S256x2048)) fun _ =>
  .op (.store arg3 (Rect.unit (s := S256x2048) ![0, 0] S256x2048.size inb_S256x2048_S256x2048_0_0) (quant a v) Finset.univ
    (View.stores_vmem_bits_univ h_S256x2048 rfl) (.inl rfl)) fun _ => .ret ⟨⟩

/-- From the last ring step on. -/
def tail : Prog (TpuEff nD τ sig (Elt F) Λ₀ .tc) PUnit :=
  stepL arg0 arg1 arg2 arg4 arg5 arg8 arg9 arg10 arg11 (collect arg3 arg4 arg5 fun a =>
  exchange arg0 arg6 harg6 arg7 arg12 arg13 0 (by omega) a fun a => exchange arg0 arg6 harg6 arg7 arg12 arg13 1 (by omega) a fun a =>
  exchange arg0 arg6 harg6 arg7 arg12 arg13 2 (by omega) a fun a => exchange arg0 arg6 harg6 arg7 arg12 arg13 3 (by omega) a fun a =>
  finish arg3 a)

/-- The whole kernel. -/
def body : Prog (TpuEff nD τ sig (Elt F) Λ₀ .tc) PUnit :=
  start arg0 arg1 arg2 arg4 arg5 arg8 arg9 arg10 arg11 fun dr dl =>
  step0 arg0 arg1 arg2 arg4 arg5 arg8 arg9 arg10 arg11 dr dl
  (stepsM arg0 arg1 arg2 arg4 arg5 arg8 arg9 arg10 arg11 dr dl 13 (by omega)
  (tail arg0 arg1 arg2 arg3 arg4 arg5 arg6 harg6 arg7 arg8 arg9 arg10 arg11 arg12 arg13))

variable (harg0 : arg0.IsWhole) (harg1 : arg1.IsWhole) (harg2 : arg2.IsWhole) (harg3 : arg3.IsWhole) (harg4 : arg4.IsWhole)
  (harg5 : arg5.IsWhole) (harg7 : arg7.IsWhole)

set_option maxRecDepth 65536 in
set_option maxHeartbeats 40000000 in
/-- The printed body is that program: it unfolds to it. -/
theorem cc0_body_eq_steps :
    cc0_body (F := F) arg0 harg0 arg1 harg1 arg2 harg2 arg3 harg3 arg4 harg4 arg5 harg5 arg6 harg6 arg7 harg7 arg8 arg9 arg10 arg11 arg12 arg13
      = body arg0 arg1 arg2 arg3 arg4 arg5 arg6 harg6 arg7 arg8 arg9 arg10 arg11 arg12 arg13 := rfl

end Prog

end Cert.KernelIdeal.Steps

end
-- ==== Proof.KernelIdeal.Memory.lean ====
/-
  The ring buffers by halves of slots: which elements a half has, that the thirty-two halves are the buffer, and what a load or a store through a half or
  through a whole slot is in terms of the halves. Likewise the four landing places of the exchange of the maxima.
-/
module

public import proofs.«01_k».proof.Proof.KernelIdeal.Steps
public import Idealize.ShloMosaic.Lib.Pipeline.Value

@[expose] public section

set_option maxRecDepth 20000

noncomputable section

namespace Cert.KernelIdeal.Memory

open Idealize.ShloMosaic
open Cert.KernelIdeal Cert.KernelIdeal.Gen Cert.KernelIdeal.Steps

variable {F : FTy → Type} [FloatOps F]

/-- A half of a slot. -/
abbrev Half : Type := Fin 16 × Fin 2

section Ring

variable (M : Memref sig .tc .vmem S16x256x1024 .f32)

/-- The elements of a half of a slot. -/
def halfSet (h : Half) : Finset M.view.ty.Idx := (halfM M h.1.val h.2.val h.1.isLt h.2.isLt).view.set

theorem half_set (s p : ℕ) (hs : s < 16) (hp : p < 2) : (halfM M s p hs hp).view.set = (M.access (halfR s p hs hp)).set :=
  View.set_reshape _ _

theorem halfSet_eq (h : Half) : halfSet M h = (halfR h.1.val h.2.val h.1.isLt h.2.isLt).set.map M.view.emb :=
  (half_set M _ _ _ _).trans (View.set_slice _ _)

theorem mem_halfR (s p : ℕ) (hs : s < 16) (hp : p < 2) (i : S16x256x1024.Idx) :
    i ∈ (halfR s p hs hp).set ↔ (i 0).val = s ∧ (i 2).val / 512 = p := by
  unfold halfR
  rw [Rect.mem_set_unit]
  have h1 : (i 1).val < 256 := (i 1).isLt
  constructor
  · intro h
    have h0 : s ≤ (i 0).val ∧ (i 0).val < s + 1 := h 0
    have h2 : 512 * p ≤ (i 2).val ∧ (i 2).val < 512 * p + 512 := h 2
    omega
  · rintro ⟨h0, h2⟩ a
    fin_cases a
    · show s ≤ (i 0).val ∧ (i 0).val < s + 1; omega
    · show 0 ≤ (i 1).val ∧ (i 1).val < 0 + 256; omega
    · show 512 * p ≤ (i 2).val ∧ (i 2).val < 512 * p + 512; omega

theorem halfSet_disjoint (h h' : Half) (hne : h ≠ h') : Disjoint (halfSet M h) (halfSet M h') := by
  rw [halfSet_eq, halfSet_eq, Finset.disjoint_map, Finset.disjoint_left]
  intro i hi hi'
  rw [mem_halfR] at hi hi'
  exact hne (Prod.ext (Fin.ext (hi.1.symm.trans hi'.1)) (Fin.ext (hi.2.symm.trans hi'.2)))

theorem halfSet_cover : Finset.univ.biUnion (halfSet M) = M.view.set := by
  ext j
  simp only [Finset.mem_biUnion, Finset.mem_univ, true_and]
  constructor
  · rintro ⟨h, hj⟩
    rw [halfSet_eq] at hj
    obtain ⟨i, -, rfl⟩ := Finset.mem_map.mp hj
    exact M.view.emb_mem_set i
  · intro hj
    obtain ⟨i, -, rfl⟩ := Finset.mem_map.mp hj
    have h2 : (i 2).val < 1024 := (i 2).isLt
    refine ⟨(⟨(i 0).val, (i 0).isLt⟩, ⟨(i 2).val / 512, by omega⟩), ?_⟩
    rw [halfSet_eq]
    exact Finset.mem_map_of_mem _ ((mem_halfR _ _ _ _ i).mpr ⟨rfl, rfl⟩)

/-! ## A half as a load or a store addresses it -/

/-- A load of a half reads what the half reads, with the slot's axis of size one in front. -/
theorem read_half (s p : ℕ) (hs : s < 16) (hp : p < 2) (f : M.view.ty.Contents (Elt F)) :
    (M.access (halfR s p hs hp)).read (Elt F) f
      = shapeCast S1x256x512 ((halfM M s p hs hp).view.read (Elt F) f) shapeCasts_S256x512_S1x256x512 := by
  funext x
  exact congrArg ((M.access (halfR s p hs hp)).read (Elt F) f)
    ((Shape.reshapeEquiv_reshapeEquiv (s := S1x256x512) (s' := S256x512) (s'' := S1x256x512) squeezes_S1x256x512_S256x512.numel_eq
      shapeCasts_S256x512_S1x256x512 x).trans (Shape.reshapeEquiv_self _ x)).symm

/-- A store through a half leaves the payload there. -/
theorem read_store_half (s p : ℕ) (hs : s < 16) (hp : p < 2) (f : M.view.ty.Contents (Elt F)) (w : FVec F S1x256x512 .f32) :
    (halfM M s p hs hp).view.read (Elt F) ((M.access (halfR s p hs hp)).write (Elt F) f w Finset.univ)
      = shapeCast S256x512 w shapeCasts_S1x256x512_S256x512 := by
  have h := congrArg (fun v => shapeCast S256x512 v shapeCasts_S1x256x512_S256x512)
    ((read_half M s p hs hp ((M.access (halfR s p hs hp)).write (Elt F) f w Finset.univ)).symm.trans (View.read_write_univ (v := M.access (halfR s p hs hp)) f w))
  exact (shapeCast_shapeCast _ shapeCasts_S256x512_S1x256x512 shapeCasts_S1x256x512_S256x512).symm.trans h

/-! ## A whole slot -/

theorem inbSlot (s : ℕ) (hs : s < 16) : ∀ a, (![s, 0, 0] : Fin 3 → Nat) a + S1x256x1024.size a ≤ S16x256x1024.size a := by
  intro a
  fin_cases a
  · show s + 1 ≤ 16; omega
  · show 0 + 256 ≤ 256; omega
  · show 0 + 1024 ≤ 1024; omega

@[implicit_reducible] def slotR (s : ℕ) (hs : s < 16) : Rect S16x256x1024 := Rect.unit (s := S16x256x1024) ![s, 0, 0] S1x256x1024.size (inbSlot s hs)

theorem mem_slotR (s : ℕ) (hs : s < 16) (i : S16x256x1024.Idx) : i ∈ (slotR s hs).set ↔ (i 0).val = s := by
  unfold slotR
  rw [Rect.mem_set_unit]
  have h1 : (i 1).val < 256 := (i 1).isLt
  have h2 : (i 2).val < 1024 := (i 2).isLt
  constructor
  · intro h
    have h0 : s ≤ (i 0).val ∧ (i 0).val < s + 1 := h 0
    omega
  · rintro h0 a
    fin_cases a
    · show s ≤ (i 0).val ∧ (i 0).val < s + 1; omega
    · show 0 ≤ (i 1).val ∧ (i 1).val < 0 + 256; omega
    · show 0 ≤ (i 2).val ∧ (i 2).val < 0 + 1024; omega

/-- A slot is its two halves. -/
theorem slot_set (s : ℕ) (hs : s < 16) :
    (M.access (slotR s hs)).set = halfSet M (⟨s, hs⟩, 0) ∪ halfSet M (⟨s, hs⟩, 1) := by
  rw [halfSet_eq, halfSet_eq, View.set_slice, ← Finset.map_union]
  congr 1
  ext i
  have h2 : (i 2).val < 1024 := (i 2).isLt
  rw [Finset.mem_union, mem_slotR, mem_halfR, mem_halfR]
  show (i 0).val = s ↔ ((i 0).val = s ∧ (i 2).val / 512 = 0) ∨ ((i 0).val = s ∧ (i 2).val / 512 = 1)
  omega

theorem slot_disjoint (s : Fin 16) : Disjoint (halfSet M (s, 0)) (halfSet M (s, 1)) :=
  halfSet_disjoint M (s, 0) (s, 1) fun h => absurd (congrArg (fun x : Half => x.2.val) h) Nat.zero_ne_one

/-- Half `p` of what a slot holds. -/
def halfOf (p : ℕ) (hp : p < 2) (v : FVec F S256x1024 .f32) : FVec F S256x512 .f32 := extractStridedSlice S256x512 ![0, 512 * p] v (slicesHalf p hp)

/-- The halves of a slot read the halves of what the slot reads. -/
theorem half_of_slot (s p : ℕ) (hs : s < 16) (hp : p < 2) (f : M.view.ty.Contents (Elt F)) :
    (halfM M s p hs hp).view.read (Elt F) f
      = halfOf p hp (shapeCast S256x1024 ((M.access (slotR s hs)).read (Elt F) f) shapeCasts_S1x256x1024_S256x1024) := by
  funext x
  unfold halfOf
  refine Eq.trans ?_ (extractStridedSlice_apply (s := S256x1024) ![0, 512 * p] _ (slicesHalf p hp) x (fun a => match a with
    | ⟨0, _⟩ => ⟨(x 0).val, (x 0).isLt⟩
    | ⟨1, _⟩ => ⟨512 * p + (x 1).val, by have : (x 1).val < 512 := (x 1).isLt; show _ < 1024; omega⟩) ?_).symm
  · refine Eq.trans ?_ (shapeCast_dropUnit_apply ![256, 1024] _ shapeCasts_S1x256x1024_S256x1024 _).symm
    show M.view.read (Elt F) f ((halfR s p hs hp).emb (Shape.reshapeEquiv _ x)) = M.view.read (Elt F) f ((slotR s hs).emb _)
    refine congrArg (M.view.read (Elt F) f) ?_
    rw [show Shape.reshapeEquiv (s := S1x256x512) (s' := S256x512) squeezes_S1x256x512_S256x512.numel_eq x = Fin.cons ⟨0, Nat.one_pos⟩ x from
      Shape.reshapeEquiv_cons_one (d := ![256, 512]) _ x]
    funext a
    apply Fin.ext
    rw [Rect.emb_apply, Rect.emb_apply]
    fin_cases a
    · rfl
    · rfl
    · show 512 * p + 1 * (x 1).val = 0 + 1 * (512 * p + (x 1).val); omega
  · intro a
    fin_cases a
    · show (x 0).val = 0 + (x 0).val; omega
    · rfl

/-- A store of a whole slot, half by half. -/
theorem half_store_slot (s p : ℕ) (hs : s < 16) (hp : p < 2) (f : M.view.ty.Contents (Elt F)) (w : FVec F S1x256x1024 .f32) :
    (halfM M s p hs hp).view.read (Elt F) ((M.access (slotR s hs)).write (Elt F) f w Finset.univ)
      = halfOf p hp (shapeCast S256x1024 w shapeCasts_S1x256x1024_S256x1024) := by
  exact (half_of_slot M s p hs hp _).trans (congrArg (fun u => halfOf p hp (shapeCast S256x1024 u shapeCasts_S1x256x1024_S256x1024)) (View.read_write_univ (v := M.access (slotR s hs)) f w))

/-- Arrays with the same two halves are the same. -/
theorem halves_ext {v w : FVec F S256x1024 .f32} (h : ∀ p (hp : p < 2), halfOf p hp v = halfOf p hp w) : v = w := by
  funext i
  have h0 : (i 0).val < 256 := (i 0).isLt
  have h1 : (i 1).val < 1024 := (i 1).isLt
  have key : ∀ u : FVec F S256x1024 .f32, halfOf ((i 1).val / 512) (by omega) u
      (fun a => match a with | ⟨0, _⟩ => ⟨(i 0).val, h0⟩ | ⟨1, _⟩ => ⟨(i 1).val % 512, Nat.mod_lt _ (by decide)⟩) = u i := fun u => by
    unfold halfOf
    refine extractStridedSlice_apply _ _ _ _ _ fun a => ?_
    fin_cases a
    · show (i 0).val = 0 + (i 0).val; omega
    · show (i 1).val = 512 * ((i 1).val / 512) + (i 1).val % 512; omega
  rw [← key v, ← key w, h]

/-- A slot whose halves read the halves of `v` reads `v`. -/
theorem slot_of_halves (s : ℕ) (hs : s < 16) (f : M.view.ty.Contents (Elt F)) (v : FVec F S256x1024 .f32)
    (h : ∀ p (hp : p < 2), (halfM M s p hs hp).view.read (Elt F) f = halfOf p hp v) :
    (M.access (slotR s hs)).read (Elt F) f = shapeCast S1x256x1024 v shapeCasts_S256x1024_S1x256x1024 := by
  have e : shapeCast S256x1024 ((M.access (slotR s hs)).read (Elt F) f) shapeCasts_S1x256x1024_S256x1024 = v :=
    halves_ext fun p hp => (half_of_slot M s p hs hp f).symm.trans (h p hp)
  rw [← e, shapeCast_shapeCast]

end Ring

/-! ## The landing places -/

section Amax

variable (M : Memref sig .tc .vmem S4x8x128 .f32)

@[implicit_reducible] def amaxR (r : ℕ) (hr : r < 4) : Rect S4x8x128 := Rect.unit (s := S4x8x128) ![r, 0, 0] S1x8x128.size (inbAmax r hr)

def amaxSet (r : Fin 4) : Finset M.view.ty.Idx := (amaxM M r.val r.isLt).view.set

theorem amaxSet_eq (r : Fin 4) : amaxSet M r = (amaxR r.val r.isLt).set.map M.view.emb :=
  (View.set_reshape _ _).trans (View.set_slice _ _)

theorem mem_amaxR (r : ℕ) (hr : r < 4) (i : S4x8x128.Idx) : i ∈ (amaxR r hr).set ↔ (i 0).val = r := by
  unfold amaxR
  rw [Rect.mem_set_unit]
  have h1 : (i 1).val < 8 := (i 1).isLt
  have h2 : (i 2).val < 128 := (i 2).isLt
  constructor
  · intro h
    have h0 : r ≤ (i 0).val ∧ (i 0).val < r + 1 := h 0
    omega
  · rintro h0 a
    fin_cases a
    · show r ≤ (i 0).val ∧ (i 0).val < r + 1; omega
    · show 0 ≤ (i 1).val ∧ (i 1).val < 0 + 8; omega
    · show 0 ≤ (i 2).val ∧ (i 2).val < 0 + 128; omega

theorem amaxSet_disjoint (r r' : Fin 4) (hne : r ≠ r') : Disjoint (amaxSet M r) (amaxSet M r') := by
  rw [amaxSet_eq, amaxSet_eq, Finset.disjoint_map, Finset.disjoint_left]
  intro i hi hi'
  rw [mem_amaxR] at hi hi'
  exact hne (Fin.ext (hi.symm.trans hi'))

theorem amaxSet_cover : Finset.univ.biUnion (amaxSet M) = M.view.set := by
  ext j
  simp only [Finset.mem_biUnion, Finset.mem_univ, true_and]
  constructor
  · rintro ⟨h, hj⟩
    rw [amaxSet_eq] at hj
    obtain ⟨i, -, rfl⟩ := Finset.mem_map.mp hj
    exact M.view.emb_mem_set i
  · intro hj
    obtain ⟨i, -, rfl⟩ := Finset.mem_map.mp hj
    refine ⟨⟨(i 0).val, (i 0).isLt⟩, ?_⟩
    rw [amaxSet_eq]
    exact Finset.mem_map_of_mem _ ((mem_amaxR _ _ i).mpr rfl)

/-- The word that is read of a landing place. -/
@[implicit_reducible] def amaxWordR (r : ℕ) (hr : r < 4) : Rect S4x8x128 := Rect.unit (s := S4x8x128) ![r, 0, 0] S1x1x1.size (inbAmaxWord r hr)

theorem amaxWord_subset (r : Fin 4) : (M.access (amaxWordR r.val r.isLt)).set ⊆ amaxSet M r := by
  rw [View.set_slice, amaxSet_eq]
  apply Finset.map_subset_map.mpr
  intro i hi
  rw [mem_amaxR]
  unfold amaxWordR at hi
  rw [Rect.mem_set_unit] at hi
  have h0 : r.val ≤ (i 0).val ∧ (i 0).val < r.val + 1 := hi 0
  omega

/-- The word of a landing place that holds copies of `a` is `a`. -/
theorem read_amaxWord (r : Fin 4) (f : M.view.ty.Contents (Elt F)) (a : F .f32)
    (h : (amaxM M r.val r.isLt).view.read (Elt F) f = copies a) :
    (M.access (amaxWordR r.val r.isLt)).read (Elt F) f = fun _ => a := by
  funext x
  have e := congrFun h (fun a => match a with | ⟨0, _⟩ => (⟨0, by decide⟩ : Fin 8) | ⟨1, _⟩ => (⟨0, by decide⟩ : Fin 128))
  have h0 : (x 0).val < 1 := (x 0).isLt
  have h1 : (x 1).val < 1 := (x 1).isLt
  have h2 : (x 2).val < 1 := (x 2).isLt
  refine Eq.trans ?_ (e.trans rfl)
  show M.view.read (Elt F) f ((amaxWordR r.val r.isLt).emb x) = M.view.read (Elt F) f ((amaxR r.val r.isLt).emb (Shape.reshapeEquiv _ _))
  refine congrArg (M.view.read (Elt F) f) ?_
  rw [show ∀ y, Shape.reshapeEquiv (s := S1x8x128) (s' := S8x128) squeezes_S1x8x128_S8x128.numel_eq y = Fin.cons ⟨0, Nat.one_pos⟩ y from
    fun y => Shape.reshapeEquiv_cons_one (d := ![8, 128]) _ y]
  funext a
  apply Fin.ext
  rw [Rect.emb_apply, Rect.emb_apply]
  fin_cases a
  · show r.val + 1 * (x 0).val = r.val + 1 * 0; omega
  · show 0 + 1 * (x 1).val = 0 + 1 * 0; omega
  · show 0 + 1 * (x 2).val = 0 + 1 * 0; omega

end Amax

end Cert.KernelIdeal.Memory

end
-- ==== Proof.KernelIdeal.Topology.lean ====
/-
  The two rings over the sixteen devices, and the partners of the exchange of the maxima.

  A device has a rank on the ring; one ring runs up the ranks (`false`), the other down (`true`). Row block `blk k j c` of the result is the one whose partial
  sum device `c` holds in slot `j` of ring `k`: it comes one device further with every step, and at slot 15 it is `c`'s own.
-/
module

public import proofs.«01_k».proof.KernelIdeal

@[expose] public section

namespace Cert.KernelIdeal.Ring

open Idealize.ShloMosaic
open Cert.KernelIdeal

/-- The device at a rank, and the rank of a device. -/
def devAt : Fin 16 → Dev nD := ![0, 1, 5, 4, 8, 9, 13, 12, 15, 14, 10, 11, 7, 6, 2, 3]
def rank : Dev nD → Fin 16 := ![0, 1, 14, 15, 3, 2, 13, 12, 4, 5, 10, 11, 7, 6, 9, 8]

theorem rank_devAt : ∀ a, rank (devAt a) = a := by decide
theorem devAt_rank : ∀ c, devAt (rank c) = c := by decide

/-- The device that `c` sends to on ring `k`. -/
def nxt : Bool → Dev nD → Dev nD
  | false, c => devAt (rank c + 1)
  | true, c => devAt (rank c - 1)

/-- The device that sends to `c` on ring `k`. -/
def prv (k : Bool) (c : Dev nD) : Dev nD := nxt (!k) c

theorem prv_nxt : ∀ k c, prv k (nxt k c) = c := by decide
theorem nxt_prv : ∀ k c, nxt k (prv k c) = c := by decide

/-- The row block that slot `j` of ring `k` is about. -/
def blk (k : Bool) (j : ℕ) (c : Dev nD) : Dev nD :=
  match k with
  | false => devAt (rank c - 1 - Fin.ofNat 16 j)
  | true => devAt (rank c + 1 + Fin.ofNat 16 j)

theorem blk_zero : ∀ k c, blk k 0 c = prv k c := by decide
theorem blk_last : ∀ k c, blk k 15 c = c := by decide
theorem blk_succ : ∀ k (j : Fin 15) c, blk k (j.val + 1) c = blk k j.val (prv k c) := by decide

/-- The device that `c` exchanges with in round `r`. -/
def mate (r : Fin 4) (c : Dev nD) : Dev nD := ![![1, 0, 3, 2, 5, 4, 7, 6, 9, 8, 11, 10, 13, 12, 15, 14], ![2, 3, 0, 1, 6, 7, 4, 5, 10, 11, 8, 9, 14, 15, 12, 13],
  ![4, 5, 6, 7, 0, 1, 2, 3, 12, 13, 14, 15, 8, 9, 10, 11], ![8, 9, 10, 11, 12, 13, 14, 15, 0, 1, 2, 3, 4, 5, 6, 7]] r c

theorem mate_mate : ∀ r c, mate r (mate r c) = c := by decide

/-- How many devices further on ring `false` the device is that `c` exchanges with in round `r`. -/
def dist (r : Fin 4) (c : Dev nD) : ℕ := (rank (mate r c) - rank c).val

theorem dist_pos : ∀ r c, 1 ≤ dist r c := by decide
theorem dist_le : ∀ r c, dist r c ≤ 15 := by decide
/-- The device `s + 1` ranks before `c` exchanges with `c` in round `r` exactly if its partner is `s + 1` further. -/
theorem dist_blk : ∀ r (s : Fin 15) c, dist r (blk false s.val c) = s.val + 1 ↔ blk false s.val c = mate r c := by decide

/-- The device that a word of the schedule names. -/
def named (c : Dev nD) (i : ℕ) : Dev nD :=
  if i = 0 then nxt false c else if i = 1 then nxt true c else if i < 17 then blk false (i - 1) c else if i < 32 then blk true (i - 16) c
  else mate (Fin.ofNat 4 (i - 32)) c

end Cert.KernelIdeal.Ring

end
-- ==== Proof.KernelIdeal.Protocol.lean ====
/-
  What the devices promise one another: the semaphores as cells with one round each, what every signal and every transfer hands over, and in what order a
  device pays what it owes.

  Ring `k` of a device has slots 0 to 15, each in two halves. At the barrier a device lends the halves of slots 1 to 15 of ring `k` to the device that sends
  to it on that ring. Step `s` brings half `p` of slot `s + 1`, holding the partial sum of the sender's slot `s`. The right to write a device's landing
  places of the exchange of the maxima travels up ring `false` with the first half of every step until it reaches the partner that needs it.
-/
module

public import proofs.«01_k».proof.Proof.Gen.KernelIdeal.Regions
public import proofs.«01_k».proof.Proof.KernelIdeal.Memory
public import proofs.«01_k».proof.Proof.KernelIdeal.Topology
public import Idealize.ShloMosaic.Lib.Rounds
public import Idealize.ShloMosaic.Lib.Pipeline.RegionTalk

@[expose] public section

set_option maxRecDepth 20000

noncomputable section

namespace Cert.KernelIdeal.Protocol

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring

variable {F : FTy → Type} [FloatOps F]

/-! ## Places of the two rings -/

/-- The buffer of a ring, its send and its receive semaphores. -/
def ringM : Bool → Memref sig .tc .vmem S16x256x1024 .f32
  | false => Memref.whole cc0_scratch0
  | true => Memref.whole cc0_scratch1
def sendS : Bool → DmaSems sig S15x2
  | false => cc0_scratch4
  | true => cc0_scratch6
def recvS : Bool → DmaSems sig S15x2
  | false => cc0_scratch5
  | true => cc0_scratch7
/-- Where a maximum is sent from, and where one lands. -/
abbrev outM : Memref sig .tc .vmem S8x128 .f32 := Memref.whole cc0_scratch2
abbrev inM : Memref sig .tc .vmem S4x8x128 .f32 := Memref.whole cc0_scratch3
abbrev hM (k : Bool) (s : Fin 16) (p : Fin 2) : Memref sig .tc .vmem S256x512 .f32 := halfM (ringM k) s.val p.val s.isLt p.isLt
abbrev aM (r : Fin 4) : Memref sig .tc .vmem S8x128 .f32 := amaxM inM r.val r.isLt

/-! ## Cells -/

/-- The barrier; of ring `k`, step `s`, half `p` the send (`false`) or the receive (`true`) semaphore; of an exchange round likewise. -/
abbrev Cell : Type := Option ((Bool × Bool × Fin 15 × Fin 2) ⊕ (Bool × Fin 4))
noncomputable instance cellEq : DecidableEq Cell := Classical.decEq _
noncomputable instance restEq : DecidableEq ((Bool × Bool × Fin 15 × Fin 2) ⊕ (Bool × Fin 4)) := Classical.decEq _
abbrev bar : Cell := none
abbrev snd (k : Bool) (s : Fin 15) (p : Fin 2) : Cell := some (.inl (false, k, s, p))
abbrev rcv (k : Bool) (s : Fin 15) (p : Fin 2) : Cell := some (.inl (true, k, s, p))
abbrev ams (r : Fin 4) : Cell := some (.inr (false, r))
abbrev amr (r : Fin 4) : Cell := some (.inr (true, r))

/-- The number of a semaphore that is not the barrier. -/
def numOf : (Bool × Bool × Fin 15 × Fin 2) ⊕ (Bool × Fin 4) → ℕ
  | .inl (v, k, s, p) => 4 + 60 * k.toNat + 30 * v.toNat + 2 * s.val + p.val
  | .inr (v, r) => 124 + 4 * v.toNat + r.val

theorem numOf_lt : ∀ x, numOf x < 132 := by decide +kernel

theorem toNat_inj : ∀ a b : Bool, a.toNat = b.toNat → a = b := by decide

theorem numOf_inj (x y : (Bool × Bool × Fin 15 × Fin 2) ⊕ (Bool × Fin 4)) (h : numOf x = numOf y) : x = y := by
  rcases x with ⟨v, k, s, p⟩ | ⟨v, r⟩ <;> rcases y with ⟨v', k', s', p'⟩ | ⟨v', r'⟩ <;> simp only [numOf] at h
  · have hs := s.isLt; have hs' := s'.isLt; have hp := p.isLt; have hp' := p'.isLt
    have hk := k.toNat_le; have hk' := k'.toNat_le; have hv := v.toNat_le; have hv' := v'.toNat_le
    have e1 : k = k' := toNat_inj _ _ (by omega)
    have e2 : v = v' := toNat_inj _ _ (by omega)
    have e3 : s = s' := Fin.ext (by omega)
    have e4 : p = p' := Fin.ext (by omega)
    rw [e1, e2, e3, e4]
  · have hs := s.isLt; have hp := p.isLt; have hk := k.toNat_le; have hv := v.toNat_le
    omega
  · have hs := s'.isLt; have hp := p'.isLt; have hk := k'.toNat_le; have hv := v'.toNat_le
    omega
  · have hr := r.isLt; have hr' := r'.isLt; have hv := v.toNat_le; have hv' := v'.toNat_le
    have e1 : v = v' := toNat_inj _ _ (by omega)
    have e2 : r = r' := Fin.ext (by omega)
    rw [e1, e2]

def cellSem : Cell → SemLoc sig
  | none => .reg barS
  | some x => .dma ⟨numOf x, numOf_lt x⟩

theorem cellSem_inj : Function.Injective cellSem := by
  intro a b h
  match a, b, h with
  | none, none, _ => rfl
  | none, some _, h => cases h
  | some _, none, h => cases h
  | some x, some y, h =>
    have h' : numOf x = numOf y := congrArg Fin.val (SemLoc.dma.inj h)
    rw [numOf_inj x y h']

theorem snd_sem : ∀ k (s : Fin 15) (p : Fin 2), SemLoc.dma (semAt (sendS k) s.val p.val s.isLt p.isLt) = cellSem (snd k s p) := by decide +kernel
theorem rcv_sem : ∀ k (s : Fin 15) (p : Fin 2), SemLoc.dma (semAt (recvS k) s.val p.val s.isLt p.isLt) = cellSem (rcv k s p) := by decide +kernel
theorem ams_sem : ∀ r : Fin 4, SemLoc.dma (amaxSem cc0_scratch8 r.val r.isLt) = cellSem (ams r) := by decide +kernel
theorem amr_sem : ∀ r : Fin 4, SemLoc.dma (amaxSem cc0_scratch9 r.val r.isLt) = cellSem (amr r) := by decide +kernel

abbrev cell (c : Dev nD) (x : Cell) : GSem nD τ sig := ((c : Thread nD τ), cellSem x)

/-- The cell a semaphore is. -/
def decode (sm : SemLoc sig) : Option Cell := Function.partialInv cellSem sm
theorem decode_cellSem (x : Cell) : decode (cellSem x) = some x := Function.partialInv_left cellSem_inj x

/-- What a half of a slot, and what a landing place, adds to its semaphore. -/
def Nh : ℕ := (hM false 0 0).view.dmaCredit
def Na : ℕ := (aM 0).view.dmaCredit
theorem Nh_pos : 0 < Nh := View.dmaCredit_pos _ (by decide +kernel)
theorem Na_pos : 0 < Na := View.dmaCredit_pos _ (by decide +kernel)
theorem credit_half (k : Bool) (s : Fin 16) (p : Fin 2) : (hM k s p).view.dmaCredit = Nh := by cases k <;> rfl
theorem credit_in (r : Fin 4) : (aM r).view.dmaCredit = Na := rfl
theorem credit_out : outM.view.dmaCredit = Na := rfl

def amountOf : Cell → ℕ
  | none => 1
  | some (.inl _) => Nh
  | some (.inr _) => Na
theorem amountOf_pos : ∀ x, 0 < amountOf x
  | none => Nat.one_pos
  | some (.inl _) => Nh_pos
  | some (.inr _) => Na_pos

/-! ## The resource algebra -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Values -/

variable (X : Dev nD → Vec F S4096x256 .f32) (W : Dev nD → Vec F S256x2048 .f32)

theorem inbRows (b : Dev nD) : ∀ a, (![256 * b.val, 0] : Fin 2 → Nat) a + S256x256.size a ≤ S4096x256.size a := by
  have hb : b.val < 16 := b.isLt
  intro a
  fin_cases a
  · show 256 * b.val + 256 ≤ 4096; omega
  · show 0 + 256 ≤ 256; omega
theorem inbCols (k : Bool) : ∀ a, (![0, 1024 * k.toNat] : Fin 2 → Nat) a + S256x1024.size a ≤ S256x2048.size a := by
  intro a
  fin_cases a
  · show 0 + 256 ≤ 256; omega
  · show 1024 * k.toNat + 1024 ≤ 2048; cases k <;> decide

/-- Row block `b` of a device's columns of `x`; half `k` of its rows of `w`. -/
def rowsOf (x : Vec F S4096x256 .f32) (b : Dev nD) : Vec F S256x256 .f32 :=
  fun i => x ((Rect.unit (s := S4096x256) ![256 * b.val, 0] S256x256.size (inbRows b)).emb i)
def colsOf (w : Vec F S256x2048 .f32) (k : Bool) : Vec F S256x1024 .f32 :=
  fun i => w ((Rect.unit (s := S256x2048) ![0, 1024 * k.toNat] S256x1024.size (inbCols k)).emb i)

/-- Device `c`'s own product for row block `b`, half `k`. -/
def part (k : Bool) (b c : Dev nD) : FVec F S256x1024 .f32 := prod (rowsOf (X c) b) (colsOf (W c) k)

/-- What slot `j` of ring `k` of device `c` holds once it is complete. -/
def slotV (k : Bool) : ℕ → Dev nD → FVec F S256x1024 .f32
  | 0, c => part X W k (blk k 0 c) c
  | j + 1, c => addf (slotV k j (prv k c)) (part X W k (blk k (j + 1) c) c)

/-- The last slot as it is loaded. -/
def lastV (k : Bool) (c : Dev nD) : Vec F S1x256x1024 .f32 := shapeCast S1x256x1024 (slotV X W k 15 c) shapeCasts_S256x1024_S1x256x1024

/-- The maximum that device `c` sends in round `r`. -/
def mx : ℕ → Dev nD → F .f32
  | 0, c => own (lastV X W false c) (lastV X W true c)
  | r + 1, c => join (mx r c) (fun _ => mx r (mate (Fin.ofNat 4 r) c))

/-! ## What is held -/

/-- Half `p` of slot `s` of ring `k` of device `c` reads `Y`; reads anything. -/
def half (k : Bool) (c : Dev nD) (s : Fin 16) (p : Fin 2) (Y : FVec F S256x512 .f32) : sProp 𝕄 :=
  iprop(∃ f, ⌜(hM k s p).view.read (Elt F) f = Y⌝ ∗ ((hM k s p).view.loc (c : Thread nD τ) ↦[(hM k s p).view.set]{fullShare} f))
def halfAny (k : Bool) (c : Dev nD) (s : Fin 16) (p : Fin 2) : sProp 𝕄 :=
  iprop(∃ f, ((hM k s p).view.loc (c : Thread nD τ) ↦[(hM k s p).view.set]{fullShare} f))
theorem half_any (k : Bool) (c : Dev nD) (s : Fin 16) (p : Fin 2) (Y : FVec F S256x512 .f32) : half k c s p Y ⊢ (halfAny k c s p : sProp 𝕄) := by
  unfold half halfAny
  iintro ⟨%f, -, H⟩
  iexists f; iexact H

/-- Half `p` of slot `s` once it is complete. -/
abbrev full (k : Bool) (c : Dev nD) (s : Fin 16) (p : Fin 2) : sProp 𝕄 := half k c s p (halfOf p.val p.isLt (slotV X W k s.val c))

/-- Landing place `r` of device `c` reads `Y`; reads anything. -/
def land (c : Dev nD) (r : Fin 4) (Y : FVec F S8x128 .f32) : sProp 𝕄 :=
  iprop(∃ f, ⌜(aM r).view.read (Elt F) f = Y⌝ ∗ ((aM r).view.loc (c : Thread nD τ) ↦[(aM r).view.set]{fullShare} f))
def landAny (c : Dev nD) (r : Fin 4) : sProp 𝕄 :=
  iprop(∃ f, ((aM r).view.loc (c : Thread nD τ) ↦[(aM r).view.set]{fullShare} f))
theorem land_any (c : Dev nD) (r : Fin 4) (Y : FVec F S8x128 .f32) : land c r Y ⊢ (landAny c r : sProp 𝕄) := by
  unfold land landAny
  iintro ⟨%f, -, H⟩
  iexists f; iexact H

/-- The place a maximum is sent from. -/
def outPt (c : Dev nD) (Y : FVec F S8x128 .f32) : sProp 𝕄 :=
  iprop(∃ f, ⌜outM.view.read (Elt F) f = Y⌝ ∗ (outM.view.loc (c : Thread nD τ) ↦[outM.view.set]{fullShare} f))
def outAny (c : Dev nD) : sProp 𝕄 := iprop(∃ f, (outM.view.loc (c : Thread nD τ) ↦[outM.view.set]{fullShare} f))

/-- The right to send to landing place `r` of device `d`. -/
def leave (d : Dev nD) (r : Fin 4) : sProp 𝕄 := iprop(landAny d r ∗ reached ER (cell d (amr r)) 0)
/-- The rights that come to device `c` with step `s`, and those that have come to it for itself before. -/
def bundle (c : Dev nD) (s : ℕ) : sProp 𝕄 := bigSep Finset.univ fun r : Fin 4 => if s + 1 ≤ dist r (blk false s c) then leave (blk false s c) r else iprop(emp)
def have_ (c : Dev nD) (s : ℕ) : sProp 𝕄 := bigSep Finset.univ fun r : Fin 4 => if dist r (mate r c) ≤ s then leave (mate r c) r else iprop(emp)

/-! ## The schedule -/

/-- What a device lends at the barrier: of ring `k` the half that step `s` fills, and that its receive cell is in use. -/
def lent (k : Bool) (c : Dev nD) (s : Fin 15) (p : Fin 2) : sProp 𝕄 :=
  iprop(halfAny k c s.succ p ∗ reached ER (cell c (rcv k s p)) 0)
def barPay (c : Dev nD) (k : Bool) : sProp 𝕄 :=
  bigSep Finset.univ fun s : Fin 15 => bigSep Finset.univ fun p : Fin 2 => lent k (nxt k c) s p

/-- The first half on ring `false` carries the rights. -/
def extra (k : Bool) (c : Dev nD) (s : ℕ) (p : Fin 2) : sProp 𝕄 := if k = false ∧ p = 0 then bundle c s else iprop(emp)

def rcvPay (c : Dev nD) (k : Bool) (s : Fin 15) (p : Fin 2) : sProp 𝕄 :=
  iprop(half k c s.succ p (halfOf p.val p.isLt (slotV X W k s.val (prv k c))) ∗ extra k c s.val p)

def pay (c : Dev nD) : Cell → Bool → sProp 𝕄
  | none, k => barPay c k
  | some (.inl (false, k, s, p)), _ => full X W k c s.castSucc p
  | some (.inl (true, k, s, p)), _ => rcvPay X W c k s p
  | some (.inr (false, r)), _ => outPt c (copies (mx X W r.val c))
  | some (.inr (true, r)), _ => land c r (copies (mx X W r.val (mate r c)))

def dutiesOf : Cell → Finset Bool
  | none => Finset.univ
  | some _ => {false}

def Rd : Rounds.Schedule (GSem nD τ sig) Bool (MT nD τ sig Unit (Elt F) ℕ UU ℕ) where
  duties g r := if r = 0 ∧ g.1.2 = .tc then (match decode g.2 with | some x => dutiesOf x | none => ∅) else ∅
  unitless _ := False
  amount g _ _ := match decode g.2 with | some x => amountOf x | none => 1
  payload g _ d := match decode g.2 with | some x => pay X W g.1.1 x d | none => iprop(emp)
  amount_pos g _ _ _ := by
    cases decode g.2 with
    | none => exact Nat.one_pos
    | some x => exact amountOf_pos x

section Storable

variable (E : UEmb (URounds (GSem nD τ sig) Bool) 𝕄)

instance half_storable (k : Bool) (c : Dev nD) (s : Fin 16) (p : Fin 2) (Y : FVec F S256x512 .f32) :
    BI.Storable (upEmb : UEmb _ 𝕄) (half k c s p Y) := by unfold half; infer_instance
instance halfAny_storable (k : Bool) (c : Dev nD) (s : Fin 16) (p : Fin 2) :
    BI.Storable (upEmb : UEmb _ 𝕄) (halfAny k c s p) := by unfold halfAny; infer_instance
instance land_storable (c : Dev nD) (r : Fin 4) (Y : FVec F S8x128 .f32) : BI.Storable (upEmb : UEmb _ 𝕄) (land c r Y) := by unfold land; infer_instance
instance leave_storable (c : Dev nD) (r : Fin 4) : BI.Storable (upEmb : UEmb _ 𝕄) (leave c r) := by unfold leave landAny; infer_instance
instance outPt_storable (c : Dev nD) (Y : FVec F S8x128 .f32) : BI.Storable (upEmb : UEmb _ 𝕄) (outPt c Y) := by unfold outPt; infer_instance
instance bundle_storable (c : Dev nD) (s : ℕ) : BI.Storable (upEmb : UEmb _ 𝕄) (bundle c s) := by
  unfold bundle
  have : ∀ r : Fin 4, BI.Storable (upEmb : UEmb _ 𝕄) (if s + 1 ≤ dist r (blk false s c) then leave (blk false s c) r else iprop(emp)) := fun r => by
    split <;> infer_instance
  infer_instance
instance extra_storable (k : Bool) (c : Dev nD) (s : ℕ) (p : Fin 2) : BI.Storable (upEmb : UEmb _ 𝕄) (extra k c s p) := by
  unfold extra; split <;> infer_instance
instance lent_storable (k : Bool) (c : Dev nD) (s : Fin 15) (p : Fin 2) : BI.Storable (upEmb : UEmb _ 𝕄) (lent k c s p) := by unfold lent; infer_instance
instance barPay_storable (c : Dev nD) (k : Bool) : BI.Storable (upEmb : UEmb _ 𝕄) (barPay c k) := by unfold barPay; infer_instance
instance rcvPay_storable (c : Dev nD) (k : Bool) (s : Fin 15) (p : Fin 2) : BI.Storable (upEmb : UEmb _ 𝕄) (rcvPay X W c k s p) := by unfold rcvPay; infer_instance
instance pay_storable (c : Dev nD) (x : Cell) (d : Bool) : BI.Storable (upEmb : UEmb _ 𝕄) (pay X W c x d) := by
  match x with
  | none => unfold pay; infer_instance
  | some (.inl (false, k, s, p)) => unfold pay; infer_instance
  | some (.inl (true, k, s, p)) => unfold pay; infer_instance
  | some (.inr (false, r)) => unfold pay; infer_instance
  | some (.inr (true, r)) => unfold pay; infer_instance

instance Rd_payload_storable (g : GSem nD τ sig) (r : ℕ) (d : Bool) : BI.Storable (upEmb : UEmb _ 𝕄) ((Rd X W).payload g r d) := by
  show BI.Storable upEmb (match decode g.2 with | some x => pay X W g.1.1 x d | none => iprop(emp))
  cases decode g.2 <;> infer_instance

end Storable

section Sched

variable (c : Dev nD) (x : Cell)

theorem duties_cell : (Rd X W).duties (cell c x) 0 = dutiesOf x := by
  dsimp only [Rd]; rw [if_pos ⟨rfl, rfl⟩, decode_cellSem]
theorem duties_later (g : GSem nD τ sig) : ∀ r, 1 ≤ r → (Rd X W).duties g r = ∅ := fun r hr => by
  dsimp only [Rd]; rw [if_neg (fun h => by omega)]
theorem amount_cell (d : Bool) : (Rd X W).amount (cell c x) 0 d = amountOf x := by
  dsimp only [Rd]; rw [decode_cellSem]
theorem payload_cell (d : Bool) : (Rd X W).payload (cell c x) 0 d = pay X W c x d := by
  dsimp only [Rd]; rw [decode_cellSem]
theorem mem_duties (y : (Bool × Bool × Fin 15 × Fin 2) ⊕ (Bool × Fin 4)) : false ∈ (Rd X W).duties (cell c (some y)) 0 := by
  rw [duties_cell]; exact Finset.mem_singleton_self _
theorem expect_bar : (Rd X W).expect (cell c bar) 0 = 2 := by
  unfold Schedule.expect Schedule.amountOf
  rw [duties_cell]
  simp only [amount_cell]
  rfl
theorem expect_cell (y : (Bool × Bool × Fin 15 × Fin 2) ⊕ (Bool × Fin 4)) : (Rd X W).expect (cell c (some y)) 0 = amountOf (some y) := by
  unfold Schedule.expect Schedule.amountOf
  rw [duties_cell]
  exact (Finset.sum_singleton _ _).trans (amount_cell X W c (some y) false)
theorem rest_bar : bigSep ((Rd X W).duties (cell c bar) 0 \ ∅) (fun d => (Rd X W).payload (cell c bar) 0 d) = iprop(barPay c false ∗ barPay c true) := by
  rw [Finset.sdiff_empty, duties_cell]
  simp only [payload_cell]
  show bigSep Finset.univ _ = _
  rw [show (Finset.univ : Finset Bool) = {false, true} by decide, bigSep_insert (by decide), bigSep_singleton]
  rfl
theorem rest_cell (y : (Bool × Bool × Fin 15 × Fin 2) ⊕ (Bool × Fin 4)) :
    bigSep ((Rd X W).duties (cell c (some y)) 0 \ ∅) (fun d => (Rd X W).payload (cell c (some y)) 0 d) = pay X W c (some y) false := by
  rw [Finset.sdiff_empty, duties_cell]
  simp only [payload_cell]
  exact bigSep_singleton

end Sched

/-! ## What a device owes, in the order in which it pays -/

/-- A signal to the device that sends to it on ring `k`; a transfer of the ring; a transfer of a maximum. -/
abbrev Debt : Type := Bool ⊕ (Bool × Fin 15 × Fin 2) ⊕ Fin 4

def ord : Debt → ℕ
  | .inl k => k.toNat
  | .inr (.inl (k, s, p)) => 2 + 4 * s.val + 2 * p.val + k.toNat
  | .inr (.inr r) => 62 + r.val

theorem ord_inj (a b : Debt) (h : ord a = ord b) : a = b := by
  rcases a with k | ⟨k, s, p⟩ | r <;> rcases b with k' | ⟨k', s', p'⟩ | r' <;> simp only [ord] at h
  · rw [toNat_inj _ _ h]
  · have := k.toNat_le; omega
  · have := k.toNat_le; omega
  · have := k'.toNat_le; omega
  · have hp := p.isLt; have hp' := p'.isLt; have hk := k.toNat_le; have hk' := k'.toNat_le
    have e1 : k = k' := toNat_inj _ _ (by omega)
    have e3 : s = s' := Fin.ext (by omega)
    have e4 : p = p' := Fin.ext (by omega)
    rw [e1, e3, e4]
  · have := s.isLt; have := p.isLt; have := k.toNat_le; omega
  · have := k'.toNat_le; omega
  · have := s'.isLt; have := p'.isLt; have := k'.toNat_le; omega
  · rw [Fin.ext (show r.val = r'.val by omega)]
theorem ord_lt : ∀ a, ord a < 66 := by decide +kernel

/-- The cell that a debt is owed to, and how much. -/
def debtCell (c : Dev nD) : Debt → Dev nD × Cell
  | .inl k => (prv k c, bar)
  | .inr (.inl (k, s, p)) => (nxt k c, rcv k s p)
  | .inr (.inr r) => (mate r c, amr r)

def debt (c : Dev nD) (o : Debt) : CellTallies nD τ sig Unit := tallyAt (cell (debtCell c o).1 (debtCell c o).2) () (amountOf (debtCell c o).2)

/-- What is still owed once the first `n` debts are paid. -/
def owe (c : Dev nD) (n : ℕ) : CellTallies nD τ sig Unit := ∑ o : Debt with n ≤ ord o, debt c o

theorem owe_pay (c : Dev nD) (o : Debt) : owe c (ord o) = owe c (ord o + 1) + debt c o := by
  unfold owe
  rw [← Finset.sum_erase_add _ _ (Finset.mem_filter.mpr ⟨Finset.mem_univ o, Nat.le_refl _⟩)]
  congr 1
  apply Finset.sum_congr _ fun _ _ => rfl
  ext a
  simp only [Finset.mem_erase, Finset.mem_filter, Finset.mem_univ, true_and]
  constructor
  · rintro ⟨h1, h2⟩
    have : ord a ≠ ord o := fun h => h1 (ord_inj _ _ h)
    omega
  · intro h
    refine ⟨fun e => ?_, by omega⟩
    rw [e] at h; omega

theorem owe_none (c : Dev nD) : owe c 66 = 0 := by
  unfold owe
  rw [Finset.filter_eq_empty_iff.mpr fun o _ => by have := ord_lt o; omega]
  rfl

/-- A debt is of a greater number than the waits that come before it is paid. -/
def lvx : Cell → ℕ
  | none => 1
  | some (.inl (false, _, _, _)) => 0
  | some (.inl (true, k, s, p)) => 2 + 4 * s.val + 2 * p.val + k.toNat
  | some (.inr (false, _)) => 0
  | some (.inr (true, r)) => 62 + r.val

def L (g : GSem nD τ sig) : Finset Unit := if g.1.2 = .tc then {()} else ∅
def lv (g : GSem nD τ sig) (_ : Unit) : ℕ := match decode g.2 with | some x => lvx x | none => 0

theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (x : Cell) (u : Unit) : lv (cell c x) u = lvx x := by
  dsimp only [lv]; rw [decode_cellSem]

theorem lvx_debt (c : Dev nD) (o : Debt) (h : 2 ≤ ord o) : lvx (debtCell c o).2 = ord o := by
  match o, h with
  | .inl k, h => exact absurd h (by revert k; decide)
  | .inr (.inl (k, s, p)), _ => rfl
  | .inr (.inr r), _ => rfl

/-- A cell that owes something of `owe c n` is a cell of one of the remaining debts. -/
theorem owe_pos (c : Dev nD) (n : ℕ) (g : GSem nD τ sig) (u : Unit) (h : 0 < owe c n g u) : ∃ o, n ≤ ord o ∧ g = cell (debtCell c o).1 (debtCell c o).2 := by
  unfold owe at h
  by_contra hn
  push Not at hn
  apply absurd h
  have : (∑ o : Debt with n ≤ ord o, debt c o) g u = 0 := by
    rw [Finset.sum_apply, Finsupp.finset_sum_apply]
    refine Finset.sum_eq_zero fun o ho => ?_
    unfold debt
    rw [tallyAt_apply, if_neg]
    exact fun hg => hn o (Finset.mem_filter.mp ho).2 hg.1
  omega

theorem mayWait (c : Dev nD) (x : Cell) (n : ℕ) (hn : 2 ≤ n) (hx : lvx x < n) : (levAts L lv : sProp 𝕄) ⊢ MayWait (c : Thread nD τ) (cellSem x) () (owe c n) :=
  MayOwe.of_cut (L := L) (lev := lv) (lvx x) (fun p hp => by rw [Finset.mem_singleton.mp hp, L_tc]; exact Finset.mem_singleton_self _)
    (fun g u hg => by
      obtain ⟨o, -, rfl⟩ := owe_pos c n g u hg
      rw [L_tc]; exact Finset.mem_singleton_self _)
    (fun p hp => by rw [Finset.mem_singleton.mp hp]; exact (lv_cell c x ()).le)
    (fun g u hg => by
      obtain ⟨o, ho, rfl⟩ := owe_pos c n g u hg
      rw [lv_cell, lvx_debt c o (by omega)]; omega)

end Cert.KernelIdeal.Protocol

end
-- ==== Proof.KernelIdeal.Host.lean ====
/-
  The schedule that @main's host lines compute for a device: word 0 is its right neighbour, word 1 its left one, words 2 to 16 and 17 to 31 the row blocks of
  the fifteen ring steps, words 32 to 35 its partners in the exchange of the maxima.

  The host lines are a first stretch, then thirty-two turns of three stretches each of which looks one word up: an argument, its remainder by sixteen, and the
  table's element there. `turn` says what a turn leaves in the word it writes; nothing later writes that word (`run_of`).
-/
module

public import proofs.«01_k».proof.Proof.Gen.KernelIdeal.Regions
public import proofs.«01_k».proof.Proof.KernelIdeal.Topology

@[expose] public section

set_option maxRecDepth 8000
set_option maxHeartbeats 4000000

noncomputable section

namespace Cert.KernelIdeal.Host

open Idealize.ShloMosaic Idealize.ShloMosaic.TcCoe Idealize.SL.Sem
open Idealize.ShloMosaic.StableHlo
open Cert.KernelIdeal Cert.KernelIdeal.Gen Cert.KernelIdeal.Ring

variable {F : FTy → Type} [FloatOps F]
variable (m : (ℓ : Loc nD τ sig) → Buf (Elt F) ℓ)

/-! ## What a turn computes -/

/-- A 32-bit host scalar, and a literal one. -/
abbrev Word : Type := IVec S_ 32
def lit (n : BitVec 32) : Word := constantI S_ 32 n

/-- The remainder with the divisor's sign, as the host spells it. -/
noncomputable def remV (x y0 : Word) : Word :=
  let y := select (cmpi .eq y0 (lit 0#32)) (lit 1#32) y0
  let r := Host.remsi x y
  select (andi (cmpi .ne (cmpi .slt r (lit 0#32)) (cmpi .slt y (lit 0#32))) (cmpi .ne r (lit 0#32))) (addi r y) r

/-- The element of a table of sixteen words. -/
noncomputable def lookV (tbl : IVec S16 32) (w : Word) : Word :=
  shapeCast S_ (Host.dynamicSlice S1 tbl (fun _ => ((select (cmpi .slt w (lit 0#32)) (addi w (lit 16#32)) w) (Shape.Idx.first h_S_)).toInt)
    sliceFits_S16_S1) shapeCasts_S1_S_

/-- What a turn takes the remainder of, from the device's rank. -/
noncomputable def argV (k : ℕ) (x : Word) : Word :=
  if k = 0 then addi x (lit 1#32) else if k = 1 then subi x (lit 1#32)
  else if k < 17 then subi (subi x (lit 2#32)) (lit (BitVec.ofNat 32 (k - 2))) else addi (addi x (lit 2#32)) (lit (BitVec.ofNat 32 (k - 17)))

/-! ## The stretches -/

/-- A host stretch with the buffers it writes. -/
structure Stretch (F : FTy → Type) [FloatOps F] where
  ops : List (HloOp τ sig (Elt F))
  W : List (Ref sig .tc)
  writes : ops.Forall fun op => op.writes ⊆ (W.map (Proc.devRef (τ := τ) .tc)).toFinset

/-- What the last stretch's first seven lines, the last word's, write. -/
abbrev lastW : List (Ref sig .tc) := [main_c_161, main_v259, main_c_162, main_v260, main_v261, main_v262, main_v263]

/-- The stretches after the first, the last one up to its word. -/
noncomputable def stretches : List (Stretch F) := [
  ⟨hostOps0_1, hostOps0_1_W, hostOps0_1_writes⟩,
  ⟨hostOps0_2, hostOps0_2_W, hostOps0_2_writes⟩,
  ⟨hostOps0_3, hostOps0_3_W, hostOps0_3_writes⟩,
  ⟨hostOps0_4, hostOps0_4_W, hostOps0_4_writes⟩,
  ⟨hostOps0_5, hostOps0_5_W, hostOps0_5_writes⟩,
  ⟨hostOps0_6, hostOps0_6_W, hostOps0_6_writes⟩,
  ⟨hostOps0_7, hostOps0_7_W, hostOps0_7_writes⟩,
  ⟨hostOps0_8, hostOps0_8_W, hostOps0_8_writes⟩,
  ⟨hostOps0_9, hostOps0_9_W, hostOps0_9_writes⟩,
  ⟨hostOps0_10, hostOps0_10_W, hostOps0_10_writes⟩,
  ⟨hostOps0_11, hostOps0_11_W, hostOps0_11_writes⟩,
  ⟨hostOps0_12, hostOps0_12_W, hostOps0_12_writes⟩,
  ⟨hostOps0_13, hostOps0_13_W, hostOps0_13_writes⟩,
  ⟨hostOps0_14, hostOps0_14_W, hostOps0_14_writes⟩,
  ⟨hostOps0_15, hostOps0_15_W, hostOps0_15_writes⟩,
  ⟨hostOps0_16, hostOps0_16_W, hostOps0_16_writes⟩,
  ⟨hostOps0_17, hostOps0_17_W, hostOps0_17_writes⟩,
  ⟨hostOps0_18, hostOps0_18_W, hostOps0_18_writes⟩,
  ⟨hostOps0_19, hostOps0_19_W, hostOps0_19_writes⟩,
  ⟨hostOps0_20, hostOps0_20_W, hostOps0_20_writes⟩,
  ⟨hostOps0_21, hostOps0_21_W, hostOps0_21_writes⟩,
  ⟨hostOps0_22, hostOps0_22_W, hostOps0_22_writes⟩,
  ⟨hostOps0_23, hostOps0_23_W, hostOps0_23_writes⟩,
  ⟨hostOps0_24, hostOps0_24_W, hostOps0_24_writes⟩,
  ⟨hostOps0_25, hostOps0_25_W, hostOps0_25_writes⟩,
  ⟨hostOps0_26, hostOps0_26_W, hostOps0_26_writes⟩,
  ⟨hostOps0_27, hostOps0_27_W, hostOps0_27_writes⟩,
  ⟨hostOps0_28, hostOps0_28_W, hostOps0_28_writes⟩,
  ⟨hostOps0_29, hostOps0_29_W, hostOps0_29_writes⟩,
  ⟨hostOps0_30, hostOps0_30_W, hostOps0_30_writes⟩,
  ⟨hostOps0_31, hostOps0_31_W, hostOps0_31_writes⟩,
  ⟨hostOps0_32, hostOps0_32_W, hostOps0_32_writes⟩,
  ⟨hostOps0_33, hostOps0_33_W, hostOps0_33_writes⟩,
  ⟨hostOps0_34, hostOps0_34_W, hostOps0_34_writes⟩,
  ⟨hostOps0_35, hostOps0_35_W, hostOps0_35_writes⟩,
  ⟨hostOps0_36, hostOps0_36_W, hostOps0_36_writes⟩,
  ⟨hostOps0_37, hostOps0_37_W, hostOps0_37_writes⟩,
  ⟨hostOps0_38, hostOps0_38_W, hostOps0_38_writes⟩,
  ⟨hostOps0_39, hostOps0_39_W, hostOps0_39_writes⟩,
  ⟨hostOps0_40, hostOps0_40_W, hostOps0_40_writes⟩,
  ⟨hostOps0_41, hostOps0_41_W, hostOps0_41_writes⟩,
  ⟨hostOps0_42, hostOps0_42_W, hostOps0_42_writes⟩,
  ⟨hostOps0_43, hostOps0_43_W, hostOps0_43_writes⟩,
  ⟨hostOps0_44, hostOps0_44_W, hostOps0_44_writes⟩,
  ⟨hostOps0_45, hostOps0_45_W, hostOps0_45_writes⟩,
  ⟨hostOps0_46, hostOps0_46_W, hostOps0_46_writes⟩,
  ⟨hostOps0_47, hostOps0_47_W, hostOps0_47_writes⟩,
  ⟨hostOps0_48, hostOps0_48_W, hostOps0_48_writes⟩,
  ⟨hostOps0_49, hostOps0_49_W, hostOps0_49_writes⟩,
  ⟨hostOps0_50, hostOps0_50_W, hostOps0_50_writes⟩,
  ⟨hostOps0_51, hostOps0_51_W, hostOps0_51_writes⟩,
  ⟨hostOps0_52, hostOps0_52_W, hostOps0_52_writes⟩,
  ⟨hostOps0_53, hostOps0_53_W, hostOps0_53_writes⟩,
  ⟨hostOps0_54, hostOps0_54_W, hostOps0_54_writes⟩,
  ⟨hostOps0_55, hostOps0_55_W, hostOps0_55_writes⟩,
  ⟨hostOps0_56, hostOps0_56_W, hostOps0_56_writes⟩,
  ⟨hostOps0_57, hostOps0_57_W, hostOps0_57_writes⟩,
  ⟨hostOps0_58, hostOps0_58_W, hostOps0_58_writes⟩,
  ⟨hostOps0_59, hostOps0_59_W, hostOps0_59_writes⟩,
  ⟨hostOps0_60, hostOps0_60_W, hostOps0_60_writes⟩,
  ⟨hostOps0_61, hostOps0_61_W, hostOps0_61_writes⟩,
  ⟨hostOps0_62, hostOps0_62_W, hostOps0_62_writes⟩,
  ⟨hostOps0_63, hostOps0_63_W, hostOps0_63_writes⟩,
  ⟨hostOps0_64.take 7, lastW, forall_writes_sub_of_map rfl⟩]

/-- The buffers' contents after stretches. -/
noncomputable def run (l : List (Stretch F)) (V : Valuation τ sig (Elt F)) : Valuation τ sig (Elt F) := l.foldl (fun V s => after s.ops V) V

theorem run_cons (s : Stretch F) (l : List (Stretch F)) (V : Valuation τ sig (Elt F)) : run (s :: l) V = run l (after s.ops V) := rfl
theorem run_append (l l' : List (Stretch F)) (V : Valuation τ sig (Elt F)) : run (l ++ l') V = run l' (run l V) := List.foldl_append

/-- A buffer that the stretches do not write is as before. -/
theorem run_of (l : List (Stretch F)) (V : Valuation τ sig (Elt F)) (r : Ref sig .tc) (h : ∀ W ∈ l.map Stretch.W, r ∉ W) : run l V r = V r := by
  induction l generalizing V with
  | nil => rfl
  | cons s l ih =>
    rw [run_cons, ih _ fun W hW => h W (List.mem_cons_of_mem _ hW)]
    exact after_of_writes_sub s.ops V s.writes (h _ List.mem_cons_self)

/-- The buffers written, stretch by stretch. -/
noncomputable def written : List (List (Ref sig .tc)) := [
  hostOps0_1_W, hostOps0_2_W, hostOps0_3_W, hostOps0_4_W, hostOps0_5_W, hostOps0_6_W, hostOps0_7_W, hostOps0_8_W,
  hostOps0_9_W, hostOps0_10_W, hostOps0_11_W, hostOps0_12_W, hostOps0_13_W, hostOps0_14_W, hostOps0_15_W, hostOps0_16_W,
  hostOps0_17_W, hostOps0_18_W, hostOps0_19_W, hostOps0_20_W, hostOps0_21_W, hostOps0_22_W, hostOps0_23_W, hostOps0_24_W,
  hostOps0_25_W, hostOps0_26_W, hostOps0_27_W, hostOps0_28_W, hostOps0_29_W, hostOps0_30_W, hostOps0_31_W, hostOps0_32_W,
  hostOps0_33_W, hostOps0_34_W, hostOps0_35_W, hostOps0_36_W, hostOps0_37_W, hostOps0_38_W, hostOps0_39_W, hostOps0_40_W,
  hostOps0_41_W, hostOps0_42_W, hostOps0_43_W, hostOps0_44_W, hostOps0_45_W, hostOps0_46_W, hostOps0_47_W, hostOps0_48_W,
  hostOps0_49_W, hostOps0_50_W, hostOps0_51_W, hostOps0_52_W, hostOps0_53_W, hostOps0_54_W, hostOps0_55_W, hostOps0_56_W,
  hostOps0_57_W, hostOps0_58_W, hostOps0_59_W, hostOps0_60_W, hostOps0_61_W, hostOps0_62_W, hostOps0_63_W, lastW]

theorem stretches_W : (stretches (F := F)).map Stretch.W = written := rfl

/-- What turn `k` takes the remainder of is in `argR k`; the word it writes is `wordR k`. -/
noncomputable def argR : Fin 32 → Ref sig .tc := ![
  main_v10, main_v17, main_v25, main_v33, main_v41, main_v49, main_v57, main_v65,
  main_v73, main_v81, main_v89, main_v97, main_v105, main_v113, main_v121, main_v129,
  main_v137, main_v145, main_v153, main_v161, main_v169, main_v177, main_v185, main_v193,
  main_v201, main_v209, main_v217, main_v225, main_v233, main_v241, main_v249, main_v257]
noncomputable def wordR : Fin 32 → Ref sig .tc := ![
  main_v16, main_v23, main_v31, main_v39, main_v47, main_v55, main_v63, main_v71,
  main_v79, main_v87, main_v95, main_v103, main_v111, main_v119, main_v127, main_v135,
  main_v143, main_v151, main_v159, main_v167, main_v175, main_v183, main_v191, main_v199,
  main_v207, main_v215, main_v223, main_v231, main_v239, main_v247, main_v255, main_v263]

/-- The two stretches of turn `k` after its argument, and the one before them from turn 1 on. -/
noncomputable def remOps (F : FTy → Type) [FloatOps F] : Fin 32 → List (HloOp τ sig (Elt F)) := ![
  hostOps0_1, hostOps0_3, hostOps0_5, hostOps0_7, hostOps0_9, hostOps0_11, hostOps0_13, hostOps0_15,
  hostOps0_17, hostOps0_19, hostOps0_21, hostOps0_23, hostOps0_25, hostOps0_27, hostOps0_29, hostOps0_31,
  hostOps0_33, hostOps0_35, hostOps0_37, hostOps0_39, hostOps0_41, hostOps0_43, hostOps0_45, hostOps0_47,
  hostOps0_49, hostOps0_51, hostOps0_53, hostOps0_55, hostOps0_57, hostOps0_59, hostOps0_61, hostOps0_63]
noncomputable def lookOps (F : FTy → Type) [FloatOps F] : Fin 32 → List (HloOp τ sig (Elt F)) := ![
  hostOps0_2, hostOps0_4, hostOps0_6, hostOps0_8, hostOps0_10, hostOps0_12, hostOps0_14, hostOps0_16,
  hostOps0_18, hostOps0_20, hostOps0_22, hostOps0_24, hostOps0_26, hostOps0_28, hostOps0_30, hostOps0_32,
  hostOps0_34, hostOps0_36, hostOps0_38, hostOps0_40, hostOps0_42, hostOps0_44, hostOps0_46, hostOps0_48,
  hostOps0_50, hostOps0_52, hostOps0_54, hostOps0_56, hostOps0_58, hostOps0_60, hostOps0_62, hostOps0_64.take 7]

/-- An operation that looks one index up, read at what it writes. -/
theorem lookup_result (a i y : Ref sig .tc) (T : BufTy)
    (f : a.ty.Contents (Elt F) → (Fin 1 → T.Contents (Elt F)) → y.ty.Contents (Elt F)) (hT ha hix hy) (V : Valuation τ sig (Elt F)) :
    (unaryIndexed (τ := τ) a ![i] T y f hT ha hix hy).result V (Proc.devRef .tc y)
      = f (V (Proc.devRef .tc a)) (fun _ => cast (congrArg (fun U : BufTy => U.Contents (Elt F)) (show i.ty = T from hT 0)) (V (Proc.devRef .tc i))) := by
  rw [unaryIndexed_result]
  congr 1
  funext k
  obtain rfl := Subsingleton.elim 0 k
  rfl

/-- A scalar buffer's contents. -/
def get (V : Valuation τ sig (Elt F)) (r : Ref sig .tc) (h : r.ty = ⟨S_, .i32⟩) : Word :=
  cast (congrArg (fun U : BufTy => U.Contents (Elt F)) h) (V (Proc.devRef .tc r))

theorem argR_ty : ∀ k, (argR k).ty = ⟨S_, .i32⟩ := by decide
theorem wordR_ty : ∀ k, (wordR k).ty = ⟨S_, .i32⟩ := by decide

theorem get_of_eq {V V' : Valuation τ sig (Elt F)} {r : Ref sig .tc} (h : r.ty = ⟨S_, .i32⟩) (e : V (Proc.devRef .tc r) = V' (Proc.devRef .tc r)) :
    get V r h = get V' r h := by
  unfold get; rw [e]

/-- One turn after the first: the word it writes. -/
theorem turn (k : Fin 31) (V : Valuation τ sig (Elt F)) :
    get (after (lookOps F k.succ) (after (remOps F k.succ) (after (lookOps F k.castSucc) V))) (wordR k.succ) (wordR_ty _)
      = lookV (V (Proc.devRef .tc main_c)) (remV (argV (k.val + 1) (get V main_v9 rfl)) (lit 16#32)) := by
  fin_cases k
  all_goals
    dsimp only [get, argV]
    dsimp [lookOps, remOps, wordR]
    refine (cast_eq (α := (⟨S_, .i32⟩ : BufTy).Contents (Elt F)) _ _).trans ?_
    repeat (first | (rw [nullary_result_ne]; rotate_left; decide) | (rw [binary_result_ne]; rotate_left; decide) | (rw [unary_result_ne]; rotate_left; decide) | (rw [nary_result_ne]; rotate_left; decide))
    rw [reshape_result, lookup_result]
    after_results
    simp only [TRef.ofBuf_toBuf]
    rfl

/-- The first turn, whose argument the first stretch computes. -/
theorem turn_zero (V : Valuation τ sig (Elt F)) (h : V (Proc.devRef .tc main_c_6) = lit 16#32) :
    get (after (lookOps F 0) (after (remOps F 0) V)) (wordR 0) (wordR_ty _)
      = lookV (V (Proc.devRef .tc main_c)) (remV (get V main_v10 rfl) (lit 16#32)) := by
  dsimp only [get]
  dsimp [lookOps, remOps, wordR]
  refine (cast_eq (α := (⟨S_, .i32⟩ : BufTy).Contents (Elt F)) _ _).trans ?_
  repeat (first | (rw [nullary_result_ne]; rotate_left; decide) | (rw [binary_result_ne]; rotate_left; decide))
  rw [reshape_result, lookup_result]
  after_results
  simp only [TRef.ofBuf_toBuf]
  rw [h]
  rfl

end Cert.KernelIdeal.Host

end
-- ==== Proof.KernelIdeal.Table.lean ====
/-
  The table of thirty-six words that @main hands the kernel: word `j` names device `named c j` (`table`).
-/
module

public import proofs.«01_k».proof.Proof.KernelIdeal.Host

@[expose] public section

set_option maxRecDepth 100000
set_option maxHeartbeats 4000000

noncomputable section

namespace Cert.KernelIdeal.Host

open Idealize.ShloMosaic Idealize.ShloMosaic.TcCoe Idealize.SL.Sem
open Idealize.ShloMosaic.StableHlo
open Cert.KernelIdeal Cert.KernelIdeal.Gen Cert.KernelIdeal.Ring

variable {F : FTy → Type} [FloatOps F]
variable (m : (ℓ : Loc nD τ sig) → Buf (Elt F) ℓ)

/-! ## The packing -/

/-- The host's packing of the thirty-six words. -/
noncomputable def pack (w : Fin 36 → Word) : IVec S36 32 :=
  concatenate S36 0 [
    ⟨S16, concatenate S16 0 [
      ⟨S1, broadcastInDim S1 ![] bcast_S_S1 (w 0)⟩, ⟨S1, broadcastInDim S1 ![] bcast_S_S1 (w 1)⟩, ⟨S1, broadcastInDim S1 ![] bcast_S_S1 (w 2)⟩, ⟨S1, broadcastInDim S1 ![] bcast_S_S1 (w 3)⟩,
      ⟨S1, broadcastInDim S1 ![] bcast_S_S1 (w 4)⟩, ⟨S1, broadcastInDim S1 ![] bcast_S_S1 (w 5)⟩, ⟨S1, broadcastInDim S1 ![] bcast_S_S1 (w 6)⟩, ⟨S1, broadcastInDim S1 ![] bcast_S_S1 (w 7)⟩,
      ⟨S1, broadcastInDim S1 ![] bcast_S_S1 (w 8)⟩, ⟨S1, broadcastInDim S1 ![] bcast_S_S1 (w 9)⟩, ⟨S1, broadcastInDim S1 ![] bcast_S_S1 (w 10)⟩, ⟨S1, broadcastInDim S1 ![] bcast_S_S1 (w 11)⟩,
      ⟨S1, broadcastInDim S1 ![] bcast_S_S1 (w 12)⟩, ⟨S1, broadcastInDim S1 ![] bcast_S_S1 (w 13)⟩, ⟨S1, broadcastInDim S1 ![] bcast_S_S1 (w 14)⟩, ⟨S1, broadcastInDim S1 ![] bcast_S_S1 (w 15)⟩]
      concatenates_S1_S1_S1_S1_S1_S1_S1_S1_S1_S1_S1_S1_S1_S1_S1_S1_S16_d0⟩,
    ⟨S16, concatenate S16 0 [
      ⟨S1, broadcastInDim S1 ![] bcast_S_S1 (w 16)⟩, ⟨S1, broadcastInDim S1 ![] bcast_S_S1 (w 17)⟩, ⟨S1, broadcastInDim S1 ![] bcast_S_S1 (w 18)⟩, ⟨S1, broadcastInDim S1 ![] bcast_S_S1 (w 19)⟩,
      ⟨S1, broadcastInDim S1 ![] bcast_S_S1 (w 20)⟩, ⟨S1, broadcastInDim S1 ![] bcast_S_S1 (w 21)⟩, ⟨S1, broadcastInDim S1 ![] bcast_S_S1 (w 22)⟩, ⟨S1, broadcastInDim S1 ![] bcast_S_S1 (w 23)⟩,
      ⟨S1, broadcastInDim S1 ![] bcast_S_S1 (w 24)⟩, ⟨S1, broadcastInDim S1 ![] bcast_S_S1 (w 25)⟩, ⟨S1, broadcastInDim S1 ![] bcast_S_S1 (w 26)⟩, ⟨S1, broadcastInDim S1 ![] bcast_S_S1 (w 27)⟩,
      ⟨S1, broadcastInDim S1 ![] bcast_S_S1 (w 28)⟩, ⟨S1, broadcastInDim S1 ![] bcast_S_S1 (w 29)⟩, ⟨S1, broadcastInDim S1 ![] bcast_S_S1 (w 30)⟩, ⟨S1, broadcastInDim S1 ![] bcast_S_S1 (w 31)⟩]
      concatenates_S1_S1_S1_S1_S1_S1_S1_S1_S1_S1_S1_S1_S1_S1_S1_S1_S16_d0⟩,
    ⟨S4, concatenate S4 0 [
      ⟨S1, broadcastInDim S1 ![] bcast_S_S1 (w 32)⟩, ⟨S1, broadcastInDim S1 ![] bcast_S_S1 (w 33)⟩, ⟨S1, broadcastInDim S1 ![] bcast_S_S1 (w 34)⟩, ⟨S1, broadcastInDim S1 ![] bcast_S_S1 (w 35)⟩]
      concatenates_S1_S1_S1_S1_S4_d0⟩] concatenates_S16_S16_S4_S36_d0

/-- Element `j` of the table. -/
def ix (j : Fin 36) : S36.Idx := fun a => match a with | ⟨0, _⟩ => j

theorem pack_at (w : Fin 36 → Word) (j : Fin 36) : pack w (ix j) = w j (Shape.Idx.first h_S_) := by
  fin_cases j
  all_goals
    refine Eq.trans (b := w _ _) rfl (congrArg (w _) (Subsingleton.elim _ _))

/-- Three operands, or two lists of them, that agree. -/
theorem cat_three {a b c a' b' c'} (ha : a = a') (hb : b = b') (hc : c = c') :
    concatenate (α := BitVec 32) S36 0 [⟨S16, a⟩, ⟨S16, b⟩, ⟨S4, c⟩] concatenates_S16_S16_S4_S36_d0
      = concatenate S36 0 [⟨S16, a'⟩, ⟨S16, b'⟩, ⟨S4, c'⟩] concatenates_S16_S16_S4_S36_d0 := by
  subst ha hb hc; rfl

/-- The four last lines, from the thirty-six one-element arrays. -/
theorem packed (W : Valuation τ sig (Elt F)) : after (hostOps0_64.drop 51) W (Proc.devRef .tc main_v307)
    = concatenate S36 0 [
      ⟨S16, concatenate S16 0 [
        ⟨S1, W (Proc.devRef .tc main_v268)⟩, ⟨S1, W (Proc.devRef .tc main_v269)⟩, ⟨S1, W (Proc.devRef .tc main_v270)⟩, ⟨S1, W (Proc.devRef .tc main_v271)⟩,
        ⟨S1, W (Proc.devRef .tc main_v272)⟩, ⟨S1, W (Proc.devRef .tc main_v273)⟩, ⟨S1, W (Proc.devRef .tc main_v274)⟩, ⟨S1, W (Proc.devRef .tc main_v275)⟩,
        ⟨S1, W (Proc.devRef .tc main_v276)⟩, ⟨S1, W (Proc.devRef .tc main_v277)⟩, ⟨S1, W (Proc.devRef .tc main_v278)⟩, ⟨S1, W (Proc.devRef .tc main_v279)⟩,
        ⟨S1, W (Proc.devRef .tc main_v280)⟩, ⟨S1, W (Proc.devRef .tc main_v281)⟩, ⟨S1, W (Proc.devRef .tc main_v282)⟩, ⟨S1, W (Proc.devRef .tc main_v283)⟩]
        concatenates_S1_S1_S1_S1_S1_S1_S1_S1_S1_S1_S1_S1_S1_S1_S1_S1_S16_d0⟩,
      ⟨S16, concatenate S16 0 [
        ⟨S1, W (Proc.devRef .tc main_v284)⟩, ⟨S1, W (Proc.devRef .tc main_v285)⟩, ⟨S1, W (Proc.devRef .tc main_v286)⟩, ⟨S1, W (Proc.devRef .tc main_v287)⟩,
        ⟨S1, W (Proc.devRef .tc main_v288)⟩, ⟨S1, W (Proc.devRef .tc main_v289)⟩, ⟨S1, W (Proc.devRef .tc main_v290)⟩, ⟨S1, W (Proc.devRef .tc main_v291)⟩,
        ⟨S1, W (Proc.devRef .tc main_v292)⟩, ⟨S1, W (Proc.devRef .tc main_v293)⟩, ⟨S1, W (Proc.devRef .tc main_v294)⟩, ⟨S1, W (Proc.devRef .tc main_v295)⟩,
        ⟨S1, W (Proc.devRef .tc main_v296)⟩, ⟨S1, W (Proc.devRef .tc main_v297)⟩, ⟨S1, W (Proc.devRef .tc main_v298)⟩, ⟨S1, W (Proc.devRef .tc main_v299)⟩]
        concatenates_S1_S1_S1_S1_S1_S1_S1_S1_S1_S1_S1_S1_S1_S1_S1_S1_S16_d0⟩,
      ⟨S4, concatenate S4 0 [
        ⟨S1, W (Proc.devRef .tc main_v300)⟩, ⟨S1, W (Proc.devRef .tc main_v301)⟩, ⟨S1, W (Proc.devRef .tc main_v302)⟩, ⟨S1, W (Proc.devRef .tc main_v303)⟩]
        concatenates_S1_S1_S1_S1_S4_d0⟩] concatenates_S16_S16_S4_S36_d0 := by
  simp only [hostOps0_64, List.drop_succ_cons, List.drop_zero, after_cons, after_nil]
  rw [nary_result]
  refine cat_three ?_ ?_ ?_
  · change HloOp.result _ _ (Proc.devRef .tc main_v304) = _
    rw [nary_result_ne, nary_result_ne, nary_result]; rotate_left; decide; decide
    rfl
  · change HloOp.result _ _ (Proc.devRef .tc main_v305) = _
    rw [nary_result_ne, nary_result]; rotate_left; decide
    rfl
  · change HloOp.result _ _ (Proc.devRef .tc main_v306) = _
    rw [nary_result]
    rfl

theorem after_append (l l' : List (HloOp τ sig (Elt F))) (V : Valuation τ sig (Elt F)) : after (l ++ l') V = after l' (after l V) := by
  induction l generalizing V with
  | nil => rfl
  | cons op l ih => exact ih _

/-- The last stretch after the lines of its word. -/
theorem packed_words (W : Valuation τ sig (Elt F)) : after (hostOps0_64.drop 7) W (Proc.devRef .tc main_v307)
    = pack ![W (Proc.devRef .tc main_v16), W (Proc.devRef .tc main_v23), W (Proc.devRef .tc main_v31), W (Proc.devRef .tc main_v39), W (Proc.devRef .tc main_v47),
      W (Proc.devRef .tc main_v55), W (Proc.devRef .tc main_v63), W (Proc.devRef .tc main_v71), W (Proc.devRef .tc main_v79), W (Proc.devRef .tc main_v87),
      W (Proc.devRef .tc main_v95), W (Proc.devRef .tc main_v103), W (Proc.devRef .tc main_v111), W (Proc.devRef .tc main_v119), W (Proc.devRef .tc main_v127),
      W (Proc.devRef .tc main_v135), W (Proc.devRef .tc main_v143), W (Proc.devRef .tc main_v151), W (Proc.devRef .tc main_v159), W (Proc.devRef .tc main_v167),
      W (Proc.devRef .tc main_v175), W (Proc.devRef .tc main_v183), W (Proc.devRef .tc main_v191), W (Proc.devRef .tc main_v199), W (Proc.devRef .tc main_v207),
      W (Proc.devRef .tc main_v215), W (Proc.devRef .tc main_v223), W (Proc.devRef .tc main_v231), W (Proc.devRef .tc main_v239), W (Proc.devRef .tc main_v247),
      W (Proc.devRef .tc main_v255), W (Proc.devRef .tc main_v263), xori (W (Proc.devRef .tc main_v4)) (lit 1#32), xori (W (Proc.devRef .tc main_v4)) (lit 2#32),
      xori (W (Proc.devRef .tc main_v4)) (lit 4#32), xori (W (Proc.devRef .tc main_v4)) (lit 8#32)] := by
  have e : (hostOps0_64 (F := F)).drop 7 = (hostOps0_64.drop 7).take 44 ++ hostOps0_64.drop 51 := rfl
  rw [e, after_append]
  obtain ⟨X, hX⟩ : ∃ X, X = after ((hostOps0_64.drop 7).take 44) W := ⟨_, rfl⟩
  rw [← hX, packed]
  simp only [hostOps0_64, List.drop_succ_cons, List.drop_zero, List.take_succ_cons, List.take_zero, after_cons, after_nil] at hX
  subst hX
  simp only [↓ readResult, ↓ readPieces, -eq_self]
  rfl

/-! ## The first stretch -/

/-- The two tables of the first stretch: device of a rank, rank of a device. -/
def tbl0 : IVec S16 32 := fun i => lit0 (S16.rowMajor i)
def tbl1 : IVec S16 32 := fun i => lit1 (S16.rowMajor i)

/-- The device's word, and its rank's. -/
def devV (c : Dev nD) : Word := Host.remui (Host.divui (lit (Dev.word c)) (lit 1#32)) (lit 16#32)

theorem V1_table (c : Dev nD) : V1 m c (Proc.devRef .tc main_c) = tbl0 := by
  after_results; rfl
theorem V1_sixteen (c : Dev nD) : V1 m c (Proc.devRef .tc main_c_6) = lit 16#32 := by
  after_results; rfl
theorem V1_dev (c : Dev nD) : V1 m c (Proc.devRef .tc main_v4) = devV c := by
  after_results; rfl
theorem V1_rank (c : Dev nD) : V1 m c (Proc.devRef .tc main_v9) = lookV tbl1 (devV c) := by
  simp only [after_cons, after_nil]
  repeat (first | (rw [nullary_result_ne]; rotate_left; decide) | (rw [binary_result_ne]; rotate_left; decide))
  rw [reshape_result, lookup_result]
  after_results
  rfl
theorem V1_next (c : Dev nD) : V1 m c (Proc.devRef .tc main_v10) = addi (lookV tbl1 (devV c)) (lit 1#32) := by
  rw [← V1_rank m c]
  simp only [after_cons, after_nil]
  repeat (first | (rw [nullary_result_ne]; rotate_left; decide))
  rw [binary_result]
  repeat (first | (rw [nullary_result_ne]; rotate_left; decide) | (rw [binary_result_ne]; rotate_left; decide) | rw [nullary_result])
  rfl

/-! ## The words -/

/-- Word `j` as computed. -/
def wordV (c : Dev nD) (j : Fin 36) : Word :=
  if j.val < 32 then lookV tbl0 (remV (argV j.val (lookV tbl1 (devV c))) (lit 16#32))
  else xori (devV c) (lit (BitVec.ofNat 32 (2 ^ (j.val - 32))))

theorem stretches_length : (stretches (F := F)).length = 64 := rfl

theorem split_ops (k : Fin 31) : ((stretches (F := F))[2 * k.val + 1]'(by rw [stretches_length]; omega)).ops = lookOps F k.castSucc
    ∧ ((stretches (F := F))[2 * k.val + 2]'(by rw [stretches_length]; omega)).ops = remOps F k.succ ∧ ((stretches (F := F))[2 * k.val + 3]'(by rw [stretches_length]; omega)).ops = lookOps F k.succ := by
  fin_cases k
  all_goals exact ⟨rfl, rfl, rfl⟩

theorem split (k : Fin 31) : ∃ (l l' : List (Stretch F)) (a b d : Stretch F), stretches = l ++ a :: b :: d :: l'
    ∧ a.ops = lookOps F k.castSucc ∧ b.ops = remOps F k.succ ∧ d.ops = lookOps F k.succ
    ∧ l.map Stretch.W = written.take (2 * k.val + 1) ∧ l'.map Stretch.W = written.drop (2 * k.val + 4) := by
  have hn : ∀ i, i < 4 → 2 * k.val + i < (stretches (F := F)).length := fun i hi => by rw [stretches_length]; omega
  obtain ⟨h1, h2, h3⟩ := split_ops (F := F) k
  refine ⟨stretches.take (2 * k.val + 1), stretches.drop (2 * k.val + 4), _, _, _, ?_, h1, h2, h3, ?_, ?_⟩
  · conv_lhs => rw [← List.take_append_drop (2 * k.val + 1) stretches]
    rw [List.drop_eq_getElem_cons (hn 1 (by omega)), List.drop_eq_getElem_cons (hn 2 (by omega)), List.drop_eq_getElem_cons (hn 3 (by omega))]
  · rw [List.map_take, stretches_W]
  · rw [List.map_drop, stretches_W]

/-- No later stretch writes a word. -/
theorem later : ∀ k : Fin 31, ∀ W ∈ written.drop (2 * k.val + 4), wordR k.succ ∉ W := by decide +kernel

/-- The words but the partners, before the packing. -/
theorem run_word (V : Valuation τ sig (Elt F)) (h10 : get V main_v10 rfl = addi (get V main_v9 rfl) (lit 1#32))
    (h16 : V (Proc.devRef .tc main_c_6) = lit 16#32) (k : Fin 32) :
    get (run stretches V) (wordR k) (wordR_ty _)
      = lookV (V (Proc.devRef .tc main_c)) (remV (argV k.val (get V main_v9 rfl)) (lit 16#32)) := by
  induction k using Fin.cases with
  | zero =>
    have hs : (stretches (F := F)) = stretches.take 2 ++ stretches.drop 2 := rfl
    have h2 : run ((stretches (F := F)).take 2) V = after (lookOps F 0) (after (remOps F 0) V) := rfl
    rw [hs, run_append, get_of_eq _ (run_of _ _ _ _), h2, turn_zero V h16, h10]
    · rfl
    · have e : ((stretches (F := F)).drop 2).map Stretch.W = written.drop 2 := rfl
      rw [e]; decide +kernel
  | succ k =>
    obtain ⟨l, l', a, b, d, hs, ha, hb, hd, hl, hl'⟩ := split (F := F) k
    have hf : ∀ r, (∀ W ∈ written, r ∉ W) → run l V (Proc.devRef .tc r) = V (Proc.devRef .tc r) := fun r hr =>
      run_of _ _ _ (by rw [hl]; exact fun W hW => hr W (List.mem_of_mem_take hW))
    rw [hs, run_append, run_cons, run_cons, run_cons, get_of_eq _ (run_of _ _ _ _), ha, hb, hd, turn, hf main_c (by decide +kernel),
      get_of_eq _ (hf main_v9 (by decide +kernel))]
    · rfl
    · rw [hl']; exact later k

/-- The table's entries are the words' buffers. -/
theorem entries (X : Valuation τ sig (Elt F)) (w : Fin 36 → Word)
    (h : ∀ j : Fin 32, get X (wordR j) (wordR_ty _) = w (j.castLE (by decide)))
    (h' : ∀ j : Fin 4, xori (get X main_v4 rfl) (lit (BitVec.ofNat 32 (2 ^ j.val))) = w (j.natAdd 32)) :
    after (hostOps0_64.drop 7) X (Proc.devRef .tc main_v307) = pack w := by
  rw [packed_words]
  congr 1
  funext j
  by_cases hj : j.val < 32
  · refine Eq.trans ?_ (h ⟨j.val, hj⟩)
    clear h h'
    fin_cases j
    all_goals first | rfl | (exact absurd hj (by decide))
  · have hlt : j.val - 32 < 4 := by omega
    have e : j = (⟨j.val - 32, hlt⟩ : Fin 4).natAdd 32 := Fin.ext (by simp; omega)
    refine Eq.trans ?_ ((h' ⟨j.val - 32, hlt⟩).trans (congrArg w e.symm))
    clear h h' e
    fin_cases j
    all_goals first | rfl | (exact absurd (by decide) hj)

theorem run_stretches (c : Dev nD) : run stretches (V1 m c) = after (hostOps0_64.take 7) (V64 m c) := by
  simp only [run, stretches, List.foldl_cons, List.foldl_nil]

theorem last_split (X : Valuation τ sig (Elt F)) : after hostOps0_64 X = after (hostOps0_64.drop 7) (after (hostOps0_64.take 7) X) := by
  rw [← after_append, List.take_append_drop]

theorem split_at (X Y : Valuation τ sig (Elt F)) (h : Y = after (hostOps0_64.take 7) X) : after hostOps0_64 X = after (hostOps0_64.drop 7) Y := by
  rw [h, last_split]

theorem V65_table (c : Dev nD) : V65 m c (Proc.devRef .tc main_v307) = pack (wordV c) := by
  have e : V65 m c = after (hostOps0_64.drop 7) (run stretches (V1 m c)) := by
    delta V65
    exact split_at (V64 m c) _ (run_stretches m c)
  have h9 : get (V1 m c) main_v9 rfl = lookV tbl1 (devV c) := V1_rank m c
  have hw := fun k => run_word (V1 m c) ((V1_next m c).trans (by rw [h9])) (V1_sixteen m c) k
  have h4 : get (run stretches (V1 m c)) main_v4 rfl = devV c :=
    (run_of _ _ main_v4 (by rw [stretches_W]; decide +kernel)).trans (V1_dev m c)
  rw [h9, V1_table m c] at hw
  rw [e]
  refine entries _ _ (fun j => (hw j).trans ?_) fun j => ?_
  · unfold wordV
    rw [if_pos (by exact j.isLt)]; rfl
  · unfold wordV
    rw [if_neg (by simp), h4]; simp

theorem wordV_named (c : Dev nD) (j : Fin 36) : wordV c j (Shape.Idx.first h_S_) = BitVec.ofNat 32 (named c j.val).val := by
  revert c j
  decide +kernel

/-- Word `j` of device `c`'s table names `named c j`. -/
theorem table (c : Dev nD) (j : Fin 36) :
    (V65 m c (Proc.devRef .tc main_v307) : IVec S36 32) (ix j) = BitVec.ofNat 32 (named c j.val).val := by
  rw [V65_table]
  exact (pack_at _ _).trans (wordV_named c j)

end Cert.KernelIdeal.Host

end
-- ==== Proof.KernelIdeal.Blocks.lean ====
/-
  What the pieces of the kernel do, one lemma each: a wait, a transfer of the ring, an addition, a word of the schedule, the own products.
-/
module

public import proofs.«01_k».proof.Proof.KernelIdeal.Protocol
public import proofs.«01_k».proof.Proof.KernelIdeal.Table

@[expose] public section

set_option maxRecDepth 20000

noncomputable section

namespace Cert.KernelIdeal.Blocks

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol

variable {F : FTy → Type} [FloatOps F]

abbrev 𝒱₀ : Variants := Variants.none

local notation "𝕄" => MT nD τ sig Unit (Elt F) ℕ UU ℕ

variable (X : Dev nD → Vec F S4096x256 .f32) (W : Dev nD → Vec F S256x2048 .f32)

/-! ## What is known throughout -/

/-- Every cell's invariant. -/
def invs (K : GSem nD τ sig → ℕ) : sProp 𝕄 :=
  bigSep Finset.univ fun cx : Dev nD × Cell => cellInv ER (Rd X W) (K (cell cx.1 cx.2)) (cell cx.1 cx.2)

instance invs_persistent (K : GSem nD τ sig → ℕ) : BI.Persistent (invs X W K) := by unfold invs; infer_instance

theorem inv_at (K : GSem nD τ sig → ℕ) (c : Dev nD) (x : Cell) : invs X W K ⊢ cellInv ER (Rd X W) (K (cell c x)) (cell c x) :=
  bigSep_elim (Φ := fun cx : Dev nD × Cell => cellInv ER (Rd X W) (K (cell cx.1 cx.2)) (cell cx.1 cx.2)) (Finset.mem_univ (c, x))

/-- The device's own cells but the barrier are in use. -/
def inUse (c : Dev nD) : sProp 𝕄 := bigSep Finset.univ fun y : (Bool × Bool × Fin 15 × Fin 2) ⊕ (Bool × Fin 4) => reached ER (cell c (some y)) 0
instance inUse_persistent (c : Dev nD) : BI.Persistent (inUse c : sProp 𝕄) := by unfold inUse; infer_instance
theorem inUse_at (c : Dev nD) (y : (Bool × Bool × Fin 15 × Fin 2) ⊕ (Bool × Fin 4)) : (inUse c : sProp 𝕄) ⊢ reached ER (cell c (some y)) 0 :=
  bigSep_elim (Φ := fun y : (Bool × Bool × Fin 15 × Fin 2) ⊕ (Bool × Fin 4) => reached ER (cell c (some y)) 0) (Finset.mem_univ y)

/-- The invariants, the order, and the cells in use. -/
def ctx (K : GSem nD τ sig → ℕ) (c : Dev nD) : sProp 𝕄 := iprop(invs X W K ∗ levAts L lv ∗ inUse c)
instance ctx_persistent (K : GSem nD τ sig → ℕ) (c : Dev nD) : BI.Persistent (ctx X W K c) := by unfold ctx; infer_instance

/-- What is still owed after `n` payments. -/
def ow (c : Dev nD) (n : ℕ) : sProp 𝕄 := iprop(∃ Ws, owes (c : Thread nD τ) (owe c n) Ws)

/-! ## A wait -/

/-- The credit of a cell's round, and the place before it; after it. -/
def expected (c : Dev nD) (y : (Bool × Bool × Fin 15 × Fin 2) ⊕ (Bool × Fin 4)) : sProp 𝕄 :=
  iprop(cred (tallyAt (cell c (some y)) () (amountOf (some y))) ∗ atPos ER (cell c (some y)) 0 ∅ 0)
abbrev spent (c : Dev nD) (y : (Bool × Bool × Fin 15 × Fin 2) ⊕ (Bool × Fin 4)) : sProp 𝕄 := atPos ER (cell c (some y)) (0 + 1) ∅ 0

theorem wait_cell (K : GSem nD τ sig → ℕ) (c : Dev nD) (y : (Bool × Bool × Fin 15 × Fin 2) ⊕ (Bool × Fin 4)) (n : ℕ) (hn : 2 ≤ n) (hx : lvx (some y) < n)
    (w : TpuEff nD τ sig (Elt F) Λ₀ .tc PUnit)
    (hw : ∀ Kt : PUnit → sProp 𝕄, wpE (defs₀ (F := F)) 𝒱₀ (c : Thread nD τ) none Set.univ w Kt
      = waitSpec (c : Thread nD τ) Set.univ (cellSem (some y)) (amountOf (some y)) Kt)
    (k : Prog (TpuEff nD τ sig (Elt F) Λ₀ .tc) PUnit) (Q : PUnit → sProp 𝕄) :
    iprop(ctx X W K c ∗ ow c n ∗ expected c y ∗ (ow c n -∗ spent c y -∗ pay X W c (some y) false -∗ wp frame (wpE (defs₀ (F := F)) 𝒱₀ (c : Thread nD τ) none) Set.univ k Q))
      ⊢ wp frame (wpE (defs₀ (F := F)) 𝒱₀ (c : Thread nD τ) none) Set.univ (.op w fun _ => k) Q := by
  unfold ctx ow expected
  iintro ⟨⟨#HI, #Hlev, -⟩, ⟨%Ws, HO⟩, ⟨Hc, Hat⟩, Hk⟩
  iapply (Rounds.wp_wait_rest_token 𝒱₀ ER (Rd X W) (c : Thread nD τ) none (κ := K (cell c (some y))) hw (Set.mem_univ _) () (O := owe c n) (W := Ws)
      (R := 0) (m := 0) (T := ∅) ((Nat.zero_add _).trans (expect_cell X W c y).symm)) $$ [Hc HO Hat]
  · isplitr; · iapply (inv_at X W K c (some y)); iexact HI
    isplitl [Hc]; · iexact Hc
    isplitl [HO]; · iexact HO
    isplitr; · iapply (mayWait c (some y) n hn hx); iexact Hlev
    iexact Hat
  iintro ⟨HO, Hat, -, Hpay⟩
  ihave Hp := (Entails.of_eq (rest_cell X W c y)) $$ Hpay
  iapply Hk $$ [HO] [Hat] [Hp]
  · iexists _; iexact HO
  · iexact Hat
  · iexact Hp

theorem wait_recv (K : GSem nD τ sig → ℕ) (c : Dev nD) (k : Bool) (s : Fin 15) (p : Fin 2) (n : ℕ) (hn : 2 + 4 * s.val + 2 * p.val + k.toNat < n)
    (kt : Prog (TpuEff nD τ sig (Elt F) Λ₀ .tc) PUnit) (Q : PUnit → sProp 𝕄) :
    iprop(ctx X W K c ∗ ow c n ∗ expected c (.inl (true, k, s, p)) ∗ (ow c n -∗ spent c (.inl (true, k, s, p)) -∗ rcvPay X W c k s p
        -∗ wp frame (wpE (defs₀ (F := F)) 𝒱₀ (c : Thread nD τ) none) Set.univ kt Q))
      ⊢ wp frame (wpE (defs₀ (F := F)) 𝒱₀ (c : Thread nD τ) none) Set.univ (waitRecv (ringM k) (recvS k) s.val p.val s.isLt p.isLt kt) Q :=
  wait_cell X W K c (.inl (true, k, s, p)) n (by omega) hn _ (fun Kt => by
    rw [← rcv_sem]
    show waitSpec _ _ _ _ _ = waitSpec _ _ _ Nh _
    exact congrArg (fun n => waitSpec _ _ _ n _) (credit_half k s.succ p)) kt Q

theorem wait_send (K : GSem nD τ sig → ℕ) (c : Dev nD) (k : Bool) (s : Fin 15) (p : Fin 2) (n : ℕ) (hn : 2 ≤ n)
    (kt : Prog (TpuEff nD τ sig (Elt F) Λ₀ .tc) PUnit) (Q : PUnit → sProp 𝕄) :
    iprop(ctx X W K c ∗ ow c n ∗ expected c (.inl (false, k, s, p)) ∗ (ow c n -∗ spent c (.inl (false, k, s, p)) -∗ full X W k c s.castSucc p
        -∗ wp frame (wpE (defs₀ (F := F)) 𝒱₀ (c : Thread nD τ) none) Set.univ kt Q))
      ⊢ wp frame (wpE (defs₀ (F := F)) 𝒱₀ (c : Thread nD τ) none) Set.univ (waitSend (ringM k) (sendS k) s.val p.val s.isLt p.isLt kt) Q :=
  wait_cell X W K c (.inl (false, k, s, p)) n hn (by show 0 < n; omega) _ (fun Kt => by
    rw [← snd_sem]
    show waitSpec _ _ _ _ _ = waitSpec _ _ _ Nh _
    exact congrArg (fun n => waitSpec _ _ _ n _) (credit_half k s.castSucc p)) kt Q

/-! ## A transfer of the ring -/

/-- What a transfer of step `s` needs beside the half itself: the destination, and the right to use both semaphores. -/
def ticket (k : Bool) (c : Dev nD) (s : Fin 15) (p : Fin 2) : sProp 𝕄 :=
  iprop(dutyTok ER (cell c (snd k s p)) 0 false ∗ dutyTok ER (cell (nxt k c) (rcv k s p)) 0 false ∗ lent k (nxt k c) s p)

/-- What the transfer leaves with the sender's semaphore, and with the receiver's. -/
theorem pay_snd (c : Dev nD) (k : Bool) (s : Fin 15) (p : Fin 2) (fs : Buf (Elt F) ((hM k s.castSucc p).view.loc (c : Thread nD τ)))
    (hfs : (hM k s.castSucc p).view.read (Elt F) fs = halfOf p.val p.isLt (slotV X W k s.castSucc.val c)) :
    ((hM k s.castSucc p).view.loc (c : Thread nD τ) ↦[(hM k s.castSucc p).view.set]{fullShare} fs : sProp 𝕄)
      ⊢ (Rd X W).payload (cell c (snd k s p)) 0 false := by
  rw [payload_cell]
  show _ ⊢ iprop(∃ f, ⌜(hM k s.castSucc p).view.read (Elt F) f = _⌝ ∗ _)
  iintro H; iexists fs
  isplitr; · ipureintro; exact hfs
  iexact H

theorem pay_rcv (c : Dev nD) (k : Bool) (s : Fin 15) (p : Fin 2) (Y : FVec F S256x512 .f32)
    (hY : Y = halfOf p.val p.isLt (slotV X W k s.castSucc.val c)) (fd : Buf (Elt F) ((hM k s.succ p).view.loc (nxt k c : Thread nD τ))) :
    iprop(((hM k s.succ p).view.loc (nxt k c : Thread nD τ) ↦[(hM k s.succ p).view.set]{fullShare}
        ((hM k s.succ p).view.write (Elt F) fd Y Finset.univ)) ∗ extra k (nxt k c) s.val p : sProp 𝕄)
      ⊢ (Rd X W).payload (cell (nxt k c) (rcv k s p)) 0 false := by
  rw [payload_cell]
  show _ ⊢ rcvPay X W (nxt k c) k s p
  unfold rcvPay half
  rw [prv_nxt]
  iintro ⟨H, Hx⟩
  isplitl [H]
  · iexists ((hM k s.succ p).view.write (Elt F) fd Y Finset.univ)
    isplitr; · ipureintro; exact (View.read_write_univ (v := (hM k s.succ p).view) fd Y).trans hY
    iexact H
  iexact Hx

theorem send_cell (K : GSem nD τ sig → ℕ) (c : Dev nD) (k : Bool) (s : Fin 15) (p : Fin 2) (n : ℕ) (hn : n = 2 + 4 * s.val + 2 * p.val + k.toNat)
    (sS sem : SemLoc sig) (eS : sS = cellSem (snd k s p)) (eR : sem = cellSem (rcv k s p))
    (hsc : (hM k s.succ p).view.ref.isScScratch = false)
    (hsrc : (hM k s.castSucc p).view.WordExact) (hdst : (hM k s.succ p).view.WordExact)
    (hsem : DmaTarget.Typed .vmem sem (.remote (p := .tc) (Dev.tc (nxt k c) : Thread nD τ) (hM k s.succ p) sS hsc))
    (hN : (hM k s.succ p).view.amount sem = Nh)
    (kt : Prog (TpuEff nD τ sig (Elt F) Λ₀ .tc) PUnit) (Q : PUnit → sProp 𝕄) :
    iprop(ctx X W K c ∗ ow c n ∗ ticket k c s p ∗ full X W k c s.castSucc p ∗ extra k (nxt k c) s.val p
        ∗ (ow c (n + 1) -∗ cred (tallyAt (cell c (snd k s p)) () Nh) -∗ wp frame (wpE (defs₀ (F := F)) 𝒱₀ (c : Thread nD τ) none) Set.univ kt Q))
      ⊢ wp frame (wpE (defs₀ (F := F)) 𝒱₀ (c : Thread nD τ) none) Set.univ
          (.op (.enqueueDma (hM k s.castSucc p) (.remote (Dev.tc (nxt k c)) (hM k s.succ p) sS hsc) sem hsrc hdst hsem) fun _ => kt) Q := by
  subst eS eR
  have hO : owe c n = owe c (n + 1) + tallyAt (cell (nxt k c) (rcv k s p)) () Nh := by rw [hn]; exact owe_pay c (.inr (.inl (k, s, p)))
  unfold ctx ow ticket lent full half halfAny
  iintro ⟨⟨#HI, -, #Hu⟩, ⟨%Ws, HO⟩, ⟨Ht1, Ht2, ⟨⟨%fd, Hd⟩, Hr2⟩⟩, ⟨%fs, %hfs, Hs⟩, Hx, Hk⟩
  iapply (Rounds.wp_send_pointsTo_with 𝒱₀ ER (Rd X W) (c : Thread nD τ) none (c' := (nxt k c : Thread nD τ)) (src := hM k s.castSucc p) (dst := hM k s.succ p)
      (sS := cellSem (snd k s p)) (sem := cellSem (rcv k s p)) (q := fullShare) (fs := fs) (κ₁ := K (cell c (snd k s p))) (κ₂ := K (cell (nxt k c) (rcv k s p)))
      (r₁ := 0) (r₂ := 0) (d₁ := false) (d₂ := false) (fd := fd) (F := extra k (nxt k c) s.val p)
      (mem_duties X W c _) (mem_duties X W (nxt k c) _) () () Nh hN (amount_cell X W c (snd k s p) false) (amount_cell X W (nxt k c) (rcv k s p) false)
      (owe c (n + 1)) hO (W := Ws)
      (pay_snd X W c k s p fs hfs) (pay_rcv X W c k s p _ hfs fd)) $$ [Hs Hd Hx HO Ht1 Ht2 Hr2]
  · isplitr; · iapply (inv_at X W K c _); iexact HI
    isplitr; · iapply (inv_at X W K (nxt k c) _); iexact HI
    isplitl [Hs]; · iexact Hs
    isplitl [Hd Hx]
    · isplitl [Hd]; · iexact Hd
      iexact Hx
    isplitl [HO]; · iexact HO
    isplitl [Ht1]; · iexact Ht1
    isplitr; · iapply (inUse_at c _); iexact Hu
    isplitl [Ht2]; · iexact Ht2
    iexact Hr2
  iintro ⟨Hc, HO⟩
  iapply Hk $$ [HO] [Hc]
  · iexists _; iexact HO
  · iexact Hc

theorem send_half (K : GSem nD τ sig → ℕ) (c : Dev nD) (k : Bool) (s : Fin 15) (p : Fin 2) (n : ℕ) (hn : n = 2 + 4 * s.val + 2 * p.val + k.toNat)
    (kt : Prog (TpuEff nD τ sig (Elt F) Λ₀ .tc) PUnit) (Q : PUnit → sProp 𝕄) :
    iprop(ctx X W K c ∗ ow c n ∗ ticket k c s p ∗ full X W k c s.castSucc p ∗ extra k (nxt k c) s.val p
        ∗ (ow c (n + 1) -∗ cred (tallyAt (cell c (snd k s p)) () Nh) -∗ wp frame (wpE (defs₀ (F := F)) 𝒱₀ (c : Thread nD τ) none) Set.univ kt Q))
      ⊢ wp frame (wpE (defs₀ (F := F)) 𝒱₀ (c : Thread nD τ) none) Set.univ
          (send (ringM k) (sendS k) (recvS k) (nxt k c) s.val p.val s.isLt p.isLt kt) Q :=
  send_cell X W K c k s p n hn _ _ (snd_sem k s p) (rcv_sem k s p) _ _ _ _ (credit_half k s.succ p) kt Q

/-! ## An addition -/

/-- A load of a half, and a store. -/
theorem load_half (c : Dev nD) (M : Memref sig .tc .vmem S16x256x1024 .f32) (s p : ℕ) (hs : s < 16) (hp : p < 2)
    (hl : M.view.LoadsAt (halfR s p hs hp).toLoadRect) (f : Buf (Elt F) (M.view.loc (c : Thread nD τ)))
    (kt : Vec F S1x256x512 .f32 → Prog (TpuEff nD τ sig (Elt F) Λ₀ .tc) PUnit) (Q : PUnit → sProp 𝕄) :
    ((halfM M s p hs hp).view.loc (c : Thread nD τ) ↦[(halfM M s p hs hp).view.set]{fullShare} f)
      ⊢ iprop((((halfM M s p hs hp).view.loc (c : Thread nD τ) ↦[(halfM M s p hs hp).view.set]{fullShare} f)
          -∗ wp frame (wpE (defs₀ (F := F)) 𝒱₀ (c : Thread nD τ) none) Set.univ
            (kt (shapeCast S1x256x512 ((halfM M s p hs hp).view.read (Elt F) f) shapeCasts_S256x512_S1x256x512)) Q)
        -∗ wp frame (wpE (defs₀ (F := F)) 𝒱₀ (c : Thread nD τ) none) Set.univ (.op (.load M (halfR s p hs hp).toLoadRect hl) kt) Q) := by
  have h := wp_load_rect (defs := defs₀ (F := F)) (Name := ℕ) (U := UU) (Lvl := ℕ) (Ix := Unit) 𝒱₀ (c : Thread nD τ) none Set.univ (m := M) (r := halfR s p hs hp) (hl := hl) (k := kt) (Q := Q)
    (S := (M.access (halfR s p hs hp)).set) (q := fullShare) (f := f) (Γ := ∅) subset_rfl
  rw [read_half M s p hs hp f, ← half_set M s p hs hp] at h
  exact h

theorem store_half (c : Dev nD) (M : Memref sig .tc .vmem S16x256x1024 .f32) (s p : ℕ) (hs : s < 16) (hp : p < 2) (w : FVec F S1x256x512 .f32)
    (hx : (M.access (halfR s p hs hp)).Stores Finset.univ) (hm : Finset.univ = Finset.univ ∨ ∀ a, (halfR s p hs hp).stride a = 1)
    (f : Buf (Elt F) (M.view.loc (c : Thread nD τ)))
    (kt : PUnit → Prog (TpuEff nD τ sig (Elt F) Λ₀ .tc) PUnit) (Q : PUnit → sProp 𝕄) :
    ((halfM M s p hs hp).view.loc (c : Thread nD τ) ↦[(halfM M s p hs hp).view.set]{fullShare} f)
      ⊢ iprop((((halfM M s p hs hp).view.loc (c : Thread nD τ) ↦[(halfM M s p hs hp).view.set]{fullShare} ((M.access (halfR s p hs hp)).write (Elt F) f w Finset.univ))
          -∗ wp frame (wpE (defs₀ (F := F)) 𝒱₀ (c : Thread nD τ) none) Set.univ (kt ⟨⟩) Q)
        -∗ wp frame (wpE (defs₀ (F := F)) 𝒱₀ (c : Thread nD τ) none) Set.univ (.op (.store M (halfR s p hs hp) w Finset.univ hx hm) kt) Q) := by
  have h := wp_store (defs := defs₀ (F := F)) (Name := ℕ) (U := UU) (Lvl := ℕ) (Ix := Unit) 𝒱₀ (c : Thread nD τ) none Set.univ (m := M) (r := halfR s p hs hp) (w := w) (Mk := Finset.univ) (hx := hx) (hm := hm) (k := kt) (Q := Q)
    (S := (M.access (halfR s p hs hp)).set) (f := f) (Γ := ∅) subset_rfl
  rw [← half_set M s p hs hp] at h
  exact h

theorem add_half (c : Dev nD) (k : Bool) (s : Fin 15) (p : Fin 2) (Y : FVec F S256x512 .f32) (v : FVec F S256x1024 .f32)
    (kt : Prog (TpuEff nD τ sig (Elt F) Λ₀ .tc) PUnit) (Q : PUnit → sProp 𝕄) :
    iprop(half k c s.succ p Y
        ∗ (half k c s.succ p (addf Y (halfOf p.val p.isLt v)) -∗ wp frame (wpE (defs₀ (F := F)) 𝒱₀ (c : Thread nD τ) none) Set.univ kt Q))
      ⊢ wp frame (wpE (defs₀ (F := F)) 𝒱₀ (c : Thread nD τ) none) Set.univ (addTo (ringM k) v s.val p.val s.isLt p.isLt kt) Q := by
  unfold half addTo
  iintro ⟨⟨%f, %hf, H⟩, Hk⟩
  iapply (load_half c (ringM k) (s.val + 1) p.val (by omega) p.isLt _ f) $$ [H]
  · iexact H
  iintro H
  iapply (load_half c (ringM k) (s.val + 1) p.val (by omega) p.isLt _ f) $$ [H]
  · iexact H
  iintro H
  iapply (store_half c (ringM k) (s.val + 1) p.val (by omega) p.isLt _ _ _ f) $$ [H]
  · iexact H
  iintro H
  iapply Hk
  iexists _
  isplitr
  swap
  · iexact H
  ipureintro
  refine (read_store_half (ringM k) _ _ _ _ f _).trans ?_
  unfold accum
  rw [shapeCast_shapeCast, shapeCast_shapeCast]
  exact congrArg (fun u => addf u (halfOf p.val p.isLt v)) hf

/-! ## What arrives, added to -/

theorem arrive_half (K : GSem nD τ sig → ℕ) (c : Dev nD) (k : Bool) (s : Fin 15) (p : Fin 2) (n : ℕ) (hn : 2 + 4 * s.val + 2 * p.val + k.toNat < n)
    (kt : Prog (TpuEff nD τ sig (Elt F) Λ₀ .tc) PUnit) (Q : PUnit → sProp 𝕄) :
    iprop(ctx X W K c ∗ ow c n ∗ expected c (.inl (true, k, s, p)) ∗ (ow c n -∗ spent c (.inl (true, k, s, p)) -∗ full X W k c s.succ p -∗ extra k c s.val p
        -∗ wp frame (wpE (defs₀ (F := F)) 𝒱₀ (c : Thread nD τ) none) Set.univ kt Q))
      ⊢ wp frame (wpE (defs₀ (F := F)) 𝒱₀ (c : Thread nD τ) none) Set.univ
          (waitRecv (ringM k) (recvS k) s.val p.val s.isLt p.isLt (addTo (ringM k) (part X W k (blk k (s.val + 1) c) c) s.val p.val s.isLt p.isLt kt)) Q := by
  iintro ⟨#Hctx, HO, He, Hk⟩
  iapply (wait_recv X W K c k s p n hn)
  isplitr; · iexact Hctx
  isplitl [HO]; · iexact HO
  isplitl [He]; · iexact He
  iintro HO Hs Hp
  unfold rcvPay
  icases Hp with ⟨Hh, Hx⟩
  iapply (add_half c k s p)
  isplitl [Hh]; · iexact Hh
  iintro Hh
  iapply Hk $$ [HO] [Hs] [Hh] [Hx]
  · iexact HO
  · iexact Hs
  · iexact Hh
  · iexact Hx

end Cert.KernelIdeal.Blocks

end
-- ==== Proof.KernelIdeal.Words.lean ====
/-
  Reading the schedule and the operands: a word names a device, a row block is loaded by its name, and the products of a step are the ones it adds.
-/
module

public import proofs.«01_k».proof.Proof.KernelIdeal.Blocks

@[expose] public section

set_option maxRecDepth 20000

noncomputable section

namespace Cert.KernelIdeal.Words

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks

variable {F : FTy → Type} [FloatOps F]

local notation "𝕄" => MT nD τ sig Unit (Elt F) ℕ UU ℕ

variable (X : Dev nD → Vec F S4096x256 .f32) (W : Dev nD → Vec F S256x2048 .f32)

/-- The operands as the kernel addresses them. -/
abbrev tblM : Memref sig .tc .smem S36 .i32 := Memref.whole cc0_stg0_0
abbrev xM : Memref sig .tc .vmem S4096x256 .f32 := Memref.whole cc0_stg1_0
abbrev wM : Memref sig .tc .vmem S256x2048 .f32 := Memref.whole cc0_stg2_0
abbrev resM : Memref sig .tc .vmem S256x2048 .f32 := Memref.whole cc0_stg3_0

/-- The word that names a device. -/
abbrev wd (d : Dev nD) : BitVec 32 := BitVec.ofNat 32 d.val

theorem chk3_wd : ∀ d : Dev nD, k0_chk3 (wd d) := by decide +kernel
theorem chk33_wd : ∀ d : Dev nD, k0_chk33 (wd d) := by decide +kernel
theorem chk1_wd : ∀ d : Dev nD, k0_chk1 (wd d) := by decide +kernel
theorem chk2_wd : ∀ d : Dev nD, k0_chk2 (wd d) := by decide +kernel
theorem dev63_wd : ∀ d : Dev nD, k0_dev63 (wd d) = d.val := by decide +kernel
theorem off3_wd : ∀ (d : Dev nD) (a : Fin 2), k0_off3 (wd d) a = (![256 * d.val, 0] : Fin 2 → ℕ) a := by decide +kernel
theorem devOf_wd (d : Dev nD) (h : DevOk (wd d)) : devOf (wd d) h = d := Fin.ext (dev63_wd d)

/-- What a schedule is: word `j` names `named c j`. -/
def IsTable (c : Dev nD) (T : IVec S36 32) : Prop := ∀ j : Fin 36, T (Host.ix j) = wd (named c j.val)

/-- The operands in the kernel's windows. -/
def ins (c : Dev nD) (T : IVec S36 32) : sProp 𝕄 :=
  iprop((tblM.view.loc (c : Thread nD τ) ↦{fullShare} (T : Buf (Elt F) (tblM.view.loc (c : Thread nD τ))))
    ∗ (xM.view.loc (c : Thread nD τ) ↦{fullShare} (X c : Buf (Elt F) (xM.view.loc (c : Thread nD τ))))
    ∗ (wM.view.loc (c : Thread nD τ) ↦{fullShare} (W c : Buf (Elt F) (wM.view.loc (c : Thread nD τ)))))

/-- A load of a buffer held whole. -/
theorem load_all {sp : CoreSpace} {s : Shape} {e : EltTy} (c : Dev nD) (M : Memref sig .tc sp s e) (r : Rect s) (hl : M.view.LoadsAt r.toLoadRect)
    (f : Buf (Elt F) (M.view.loc (c : Thread nD τ))) (kt : (r.shape.Idx → Elt F e) → Prog (TpuEff nD τ sig (Elt F) Λ₀ .tc) PUnit) (Q : PUnit → sProp 𝕄) :
    (M.view.loc (c : Thread nD τ) ↦{fullShare} f)
      ⊢ iprop(((M.view.loc (c : Thread nD τ) ↦{fullShare} f) -∗ wp frame (wpE (defs₀ (F := F)) 𝒱₀ (c : Thread nD τ) none) Set.univ (kt ((M.access r).read (Elt F) f)) Q)
        -∗ wp frame (wpE (defs₀ (F := F)) 𝒱₀ (c : Thread nD τ) none) Set.univ (.op (.load M r.toLoadRect hl) kt) Q) :=
  wp_load_rect (defs := defs₀ (F := F)) (Name := ℕ) (U := UU) (Lvl := ℕ) (Ix := Unit) 𝒱₀ (c : Thread nD τ) none Set.univ (m := M) (r := r) (hl := hl) (k := kt) (Q := Q)
    (S := Finset.univ) (q := fullShare) (f := f) (Γ := ∅) (Finset.subset_univ _)

theorem store_all {sp : CoreSpace} {s : Shape} {e : EltTy} (c : Dev nD) (M : Memref sig .tc sp s e) (r : Rect s) (w : r.shape.Idx → Elt F e)
    (hx : (M.access r).Stores Finset.univ) (hm : Finset.univ = Finset.univ ∨ ∀ a, r.stride a = 1)
    (f : Buf (Elt F) (M.view.loc (c : Thread nD τ))) (kt : PUnit → Prog (TpuEff nD τ sig (Elt F) Λ₀ .tc) PUnit) (Q : PUnit → sProp 𝕄) :
    (M.view.loc (c : Thread nD τ) ↦{fullShare} f)
      ⊢ iprop(((M.view.loc (c : Thread nD τ) ↦{fullShare} ((M.access r).write (Elt F) f w Finset.univ)) -∗ wp frame (wpE (defs₀ (F := F)) 𝒱₀ (c : Thread nD τ) none) Set.univ (kt ⟨⟩) Q)
        -∗ wp frame (wpE (defs₀ (F := F)) 𝒱₀ (c : Thread nD τ) none) Set.univ (.op (.store M r w Finset.univ hx hm) kt) Q) :=
  wp_store (defs := defs₀ (F := F)) (Name := ℕ) (U := UU) (Lvl := ℕ) (Ix := Unit) 𝒱₀ (c : Thread nD τ) none Set.univ (m := M) (r := r) (w := w) (Mk := Finset.univ) (hx := hx) (hm := hm) (k := kt) (Q := Q)
    (S := Finset.univ) (f := f) (Γ := ∅) (Finset.subset_univ _)

theorem word_at (c : Dev nD) (T : IVec S36 32) (hT : IsTable c T) (i : ℕ) (hi : i < 36) :
    ((tblM.access (Rect.unit (s := S36) ![i] S1.size (inbWord i hi))).read (Elt F) (T : Buf (Elt F) (tblM.view.loc (c : Thread nD τ))))
      (Shape.Idx.first (numel1_S1.symm ▸ Nat.one_pos)) = wd (named c i) := by
  refine Eq.trans (congrArg T ?_) (hT ⟨i, hi⟩)
  funext a
  apply Fin.ext
  fin_cases a
  show i + 1 * ((Shape.Idx.first (numel1_S1.symm ▸ Nat.one_pos) : S1.Idx) 0).val = i
  have := ((Shape.Idx.first (numel1_S1.symm ▸ Nat.one_pos) : S1.Idx) 0).isLt
  have h1 : S1.size 0 = 1 := rfl
  omega

theorem read_word (c : Dev nD) (T : IVec S36 32) (hT : IsTable c T) (i : ℕ) (hi : i < 36)
    (kt : BitVec 32 → Prog (TpuEff nD τ sig (Elt F) Λ₀ .tc) PUnit) (Q : PUnit → sProp 𝕄) :
    iprop(ins X W c T ∗ (ins X W c T -∗ wp frame (wpE (defs₀ (F := F)) 𝒱₀ (c : Thread nD τ) none) Set.univ (kt (wd (named c i))) Q)) ⊢ wp frame (wpE (defs₀ (F := F)) 𝒱₀ (c : Thread nD τ) none) Set.univ (word tblM i hi kt) Q := by
  unfold ins word
  iintro ⟨⟨HT, HX, HW⟩, Hk⟩
  iapply (load_all c tblM (Rect.unit (s := S36) ![i] S1.size (inbWord i hi)) _ T) $$ [HT]
  · iexact HT
  iintro HT
  rw [word_at (F := F) c T hT i hi]
  iapply Hk
  isplitl [HT]; · iexact HT
  isplitl [HX] <;> iassumption

theorem rows_at (x : Vec F S4096x256 .f32) (d : Dev nD) (off : Fin 2 → ℕ) (h : off = ![256 * d.val, 0]) (hb : ∀ a, off a + S256x256.size a ≤ S4096x256.size a) :
    (fun i => x ((Rect.unit (s := S4096x256) off S256x256.size hb).emb i)) = rowsOf x d := by
  subst h; rfl

theorem read_rows (c : Dev nD) (T : IVec S36 32) (d : Dev nD) (hv : k0_chk3 (wd d))
    (kt : Vec F S256x256 .f32 → Prog (TpuEff nD τ sig (Elt F) Λ₀ .tc) PUnit) (Q : PUnit → sProp 𝕄) :
    iprop(ins X W c T ∗ (ins X W c T -∗ wp frame (wpE (defs₀ (F := F)) 𝒱₀ (c : Thread nD τ) none) Set.univ (kt (rowsOf (X c) d)) Q)) ⊢ wp frame (wpE (defs₀ (F := F)) 𝒱₀ (c : Thread nD τ) none) Set.univ (rows xM (wd d) hv kt) Q := by
  have e : (xM.access (Rect.unit (s := S4096x256) (k0_off3 (wd d)) S256x256.size (k0_off3_inb (wd d) hv))).read (Elt F) (X c : Buf (Elt F) (xM.view.loc (c : Thread nD τ)))
      = rowsOf (X c) d := rows_at (X c) d _ (funext fun a => off3_wd d a) _
  unfold ins rows
  iintro ⟨⟨HT, HX, HW⟩, Hk⟩
  iapply (load_all c xM (Rect.unit (s := S4096x256) (k0_off3 (wd d)) S256x256.size (k0_off3_inb (wd d) hv)) _ (X c)) $$ [HX]
  · iexact HX
  iintro HX
  rw [e]
  iapply Hk
  isplitl [HT]; · iexact HT
  isplitl [HX] <;> iassumption

/-- The load of half `k` of the rows of `w`. -/
def colsAt (k : Bool) (kt : Vec F S256x1024 .f32 → Prog (TpuEff nD τ sig (Elt F) Λ₀ .tc) PUnit) : Prog (TpuEff nD τ sig (Elt F) Λ₀ .tc) PUnit :=
  match k with
  | false => cols0 wM kt
  | true => cols1 wM kt

theorem read_cols (k : Bool) (c : Dev nD) (T : IVec S36 32)
    (kt : Vec F S256x1024 .f32 → Prog (TpuEff nD τ sig (Elt F) Λ₀ .tc) PUnit) (Q : PUnit → sProp 𝕄) :
    iprop(ins X W c T ∗ (ins X W c T -∗ wp frame (wpE (defs₀ (F := F)) 𝒱₀ (c : Thread nD τ) none) Set.univ (kt (colsOf (W c) k)) Q)) ⊢ wp frame (wpE (defs₀ (F := F)) 𝒱₀ (c : Thread nD τ) none) Set.univ (colsAt k kt) Q := by
  unfold ins
  iintro ⟨⟨HT, HX, HW⟩, Hk⟩
  cases k with
  | false =>
    iapply (load_all c wM (Rect.unit (s := S256x2048) ![0, 0] S256x1024.size inb_S256x2048_S256x1024_0_0) (View.loadsAt_vmem h_S256x1024) (W c)) $$ [HW]
    · iexact HW
    iintro HW
    iapply Hk
    isplitl [HT]; · iexact HT
    isplitl [HX] <;> iassumption
  | true =>
    iapply (load_all c wM (Rect.unit (s := S256x2048) ![0, 1024] S256x1024.size inb_S256x2048_S256x1024_0_1024) (View.loadsAt_vmem h_S256x1024) (W c)) $$ [HW]
    · iexact HW
    iintro HW
    iapply Hk
    isplitl [HT]; · iexact HT
    isplitl [HX] <;> iassumption

theorem named_left (c : Dev nD) : ∀ s : ℕ, s < 15 → named c (2 + s) = blk false (s + 1) c := by
  intro s hs
  have : ∀ (c : Dev nD) (s : Fin 15), named c (2 + s.val) = blk false (s.val + 1) c := by decide +kernel
  exact this c ⟨s, hs⟩
theorem named_right (c : Dev nD) : ∀ s : ℕ, s < 15 → named c (17 + s) = blk true (s + 1) c := by
  intro s hs
  have : ∀ (c : Dev nD) (s : Fin 15), named c (17 + s.val) = blk true (s.val + 1) c := by decide +kernel
  exact this c ⟨s, hs⟩
theorem named_mate : ∀ (c : Dev nD) (r : Fin 4), named c (32 + r.val) = mate r c := by decide +kernel
theorem named_zero : ∀ (c : Dev nD), named c 0 = nxt false c := by decide +kernel
theorem named_one : ∀ (c : Dev nD), named c 1 = nxt true c := by decide +kernel

theorem read_products (c : Dev nD) (T : IVec S36 32) (hT : IsTable c T) (s : ℕ) (hs : s < 15)
    (kt : FVec F S256x1024 .f32 → FVec F S256x1024 .f32 → Prog (TpuEff nD τ sig (Elt F) Λ₀ .tc) PUnit) (Q : PUnit → sProp 𝕄) :
    iprop(ins X W c T ∗ (ins X W c T -∗ wp frame (wpE (defs₀ (F := F)) 𝒱₀ (c : Thread nD τ) none) Set.univ (kt (part X W false (blk false (s + 1) c) c) (part X W true (blk true (s + 1) c) c)) Q))
      ⊢ wp frame (wpE (defs₀ (F := F)) 𝒱₀ (c : Thread nD τ) none) Set.univ (products tblM xM wM s hs kt) Q := by
  unfold products
  iintro ⟨HI, Hk⟩
  iapply (read_word X W c T hT (2 + s) _)
  isplitl [HI]; · iexact HI
  iintro HI
  rw [named_left c s hs]
  iapply (wp_assume 𝒱₀ (c : Thread nD τ) none Set.univ (chk3_wd _))
  iapply (read_rows X W c T)
  isplitl [HI]; · iexact HI
  iintro HI
  iapply (read_cols X W false c T)
  isplitl [HI]; · iexact HI
  iintro HI
  iapply (read_word X W c T hT (17 + s) _)
  isplitl [HI]; · iexact HI
  iintro HI
  rw [named_right c s hs]
  iapply (wp_assume 𝒱₀ (c : Thread nD τ) none Set.univ (chk3_wd _))
  iapply (read_rows X W c T)
  isplitl [HI]; · iexact HI
  iintro HI
  iapply (read_cols X W true c T)
  isplitl [HI]; · iexact HI
  iintro HI
  iapply Hk
  iexact HI

/-! ## The slots whole -/

theorem join_slot (k : Bool) (c : Dev nD) (s : Fin 16) (Y0 Y1 : FVec F S256x512 .f32) :
    iprop(half k c s 0 Y0 ∗ half k c s 1 Y1) ⊢ (iprop(∃ f : Buf (Elt F) ((ringM k).view.loc (c : Thread nD τ)),
      ⌜(hM k s 0).view.read (Elt F) f = Y0 ∧ (hM k s 1).view.read (Elt F) f = Y1⌝
        ∗ ((ringM k).view.loc (c : Thread nD τ) ↦[((ringM k).access (slotR s.val s.isLt)).set]{fullShare} f)) : sProp 𝕄) := by
  have hd := slot_disjoint (ringM k) s
  unfold half
  iintro ⟨⟨%f, %hf, Hf⟩, ⟨%g, %hg, Hg⟩⟩
  ihave H := (pointsTo_join (ℓ := (ringM k).view.loc (c : Thread nD τ)) (q := fullShare) (f := f) (g := g) hd) $$ [Hf Hg]
  · isplitl [Hf]; · iexact Hf
    iexact Hg
  iexists ((halfSet (ringM k) (s, 1)).piecewise g f : Buf (Elt F) ((ringM k).view.loc (c : Thread nD τ)))
  isplitr
  · ipureintro
    constructor
    · rw [← hf]
      exact View.read_congr (v := (hM k s 0).view) fun i hi => Finset.piecewise_eq_of_notMem _ _ _ (Finset.disjoint_left.mp hd hi)
    · rw [← hg]
      exact View.read_congr (v := (hM k s 1).view) fun i hi => Finset.piecewise_eq_of_mem _ _ _ hi
  rw [slot_set]
  iexact H

theorem split_slot (k : Bool) (c : Dev nD) (s : Fin 16) (f : Buf (Elt F) ((ringM k).view.loc (c : Thread nD τ))) :
    ((ringM k).view.loc (c : Thread nD τ) ↦[((ringM k).access (slotR s.val s.isLt)).set]{fullShare} f : sProp 𝕄)
      ⊢ iprop(half k c s 0 ((hM k s 0).view.read (Elt F) f) ∗ half k c s 1 ((hM k s 1).view.read (Elt F) f)) := by
  rw [slot_set]
  refine (pointsTo_union (slot_disjoint (ringM k) s)).1.trans ?_
  unfold half
  iintro ⟨H0, H1⟩
  isplitl [H0]
  · iexists f
    isplitr; · ipureintro; rfl
    iexact H0
  · iexists f
    isplitr; · ipureintro; rfl
    iexact H1

/-- A load of a slot, and a store. -/
theorem load_slot (c : Dev nD) (M : Memref sig .tc .vmem S16x256x1024 .f32) (s : ℕ) (hs : s < 16)
    (hl : M.view.LoadsAt (slotR s hs).toLoadRect) (f : Buf (Elt F) (M.view.loc (c : Thread nD τ)))
    (kt : Vec F S1x256x1024 .f32 → Prog (TpuEff nD τ sig (Elt F) Λ₀ .tc) PUnit) (Q : PUnit → sProp 𝕄) :
    (M.view.loc (c : Thread nD τ) ↦[(M.access (slotR s hs)).set]{fullShare} f)
      ⊢ iprop(((M.view.loc (c : Thread nD τ) ↦[(M.access (slotR s hs)).set]{fullShare} f) -∗ wp frame (wpE (defs₀ (F := F)) 𝒱₀ (c : Thread nD τ) none) Set.univ (kt ((M.access (slotR s hs)).read (Elt F) f)) Q)
        -∗ wp frame (wpE (defs₀ (F := F)) 𝒱₀ (c : Thread nD τ) none) Set.univ (.op (.load M (slotR s hs).toLoadRect hl) kt) Q) :=
  wp_load_rect (defs := defs₀ (F := F)) (Name := ℕ) (U := UU) (Lvl := ℕ) (Ix := Unit) 𝒱₀ (c : Thread nD τ) none Set.univ (m := M) (r := slotR s hs) (hl := hl) (k := kt) (Q := Q)
    (S := (M.access (slotR s hs)).set) (q := fullShare) (f := f) (Γ := ∅) subset_rfl

theorem store_slot (c : Dev nD) (M : Memref sig .tc .vmem S16x256x1024 .f32) (s : ℕ) (hs : s < 16) (w : FVec F S1x256x1024 .f32)
    (hx : (M.access (slotR s hs)).Stores Finset.univ) (hm : Finset.univ = Finset.univ ∨ ∀ a, (slotR s hs).stride a = 1)
    (f : Buf (Elt F) (M.view.loc (c : Thread nD τ))) (kt : PUnit → Prog (TpuEff nD τ sig (Elt F) Λ₀ .tc) PUnit) (Q : PUnit → sProp 𝕄) :
    (M.view.loc (c : Thread nD τ) ↦[(M.access (slotR s hs)).set]{fullShare} f)
      ⊢ iprop(((M.view.loc (c : Thread nD τ) ↦[(M.access (slotR s hs)).set]{fullShare} ((M.access (slotR s hs)).write (Elt F) f w Finset.univ)) -∗ wp frame (wpE (defs₀ (F := F)) 𝒱₀ (c : Thread nD τ) none) Set.univ (kt ⟨⟩) Q)
        -∗ wp frame (wpE (defs₀ (F := F)) 𝒱₀ (c : Thread nD τ) none) Set.univ (.op (.store M (slotR s hs) w Finset.univ hx hm) kt) Q) :=
  wp_store (defs := defs₀ (F := F)) (Name := ℕ) (U := UU) (Lvl := ℕ) (Ix := Unit) 𝒱₀ (c : Thread nD τ) none Set.univ (m := M) (r := slotR s hs) (w := w) (Mk := Finset.univ) (hx := hx) (hm := hm) (k := kt) (Q := Q)
    (S := (M.access (slotR s hs)).set) (f := f) (Γ := ∅) subset_rfl

theorem fill_slot (c : Dev nD) (k : Bool) (hl : (ringM k).view.LoadsAt (slotR (0 : Fin 16).val (0 : Fin 16).isLt).toLoadRect)
    (hx : ((ringM k).access (slotR (0 : Fin 16).val (0 : Fin 16).isLt)).Stores Finset.univ) (hm : Finset.univ = Finset.univ ∨ ∀ a, (slotR (0 : Fin 16).val (0 : Fin 16).isLt).stride a = 1)
    (kt : Prog (TpuEff nD τ sig (Elt F) Λ₀ .tc) PUnit) (Q : PUnit → sProp 𝕄) :
    iprop(halfAny k c 0 0 ∗ halfAny k c 0 1 ∗ (full X W k c 0 0 -∗ full X W k c 0 1 -∗ wp frame (wpE (defs₀ (F := F)) 𝒱₀ (c : Thread nD τ) none) Set.univ kt Q))
      ⊢ wp frame (wpE (defs₀ (F := F)) 𝒱₀ (c : Thread nD τ) none) Set.univ (.op (.load (ringM k) (slotR (0 : Fin 16).val (0 : Fin 16).isLt).toLoadRect hl) fun _ =>
          .op (.store (ringM k) (slotR (0 : Fin 16).val (0 : Fin 16).isLt) (slot0 (rowsOf (X c) (prv k c)) (colsOf (W c) k)) Finset.univ hx hm) fun _ => kt) Q := by
  have e : ∀ (p : Fin 2) (f : (ringM k).view.ty.Contents (Elt F)),
      (hM k 0 p).view.read (Elt F) (((ringM k).access (slotR (0 : Fin 16).val (0 : Fin 16).isLt)).write (Elt F) f (slot0 (rowsOf (X c) (prv k c)) (colsOf (W c) k)) Finset.univ)
        = halfOf p.val p.isLt (slotV X W k 0 c) := fun p f => by
    refine (half_store_slot (ringM k) 0 p.val (by decide) p.isLt f _).trans ?_
    unfold slot0
    rw [shapeCast_shapeCast]
    show halfOf p.val p.isLt (prod _ _) = halfOf p.val p.isLt (part X W k (blk k 0 c) c)
    rw [blk_zero]; rfl
  unfold halfAny
  iintro ⟨⟨%f, Hf⟩, ⟨%g, Hg⟩, Hk⟩
  ihave H := (join_slot k c 0 _ _) $$ [Hf Hg]
  · unfold half
    isplitl [Hf]
    · iexists f; isplitr; · ipureintro; rfl
      iexact Hf
    · iexists g; isplitr; · ipureintro; rfl
      iexact Hg
  icases H with ⟨%h, -, H⟩
  iapply (load_slot c (ringM k) (0 : Fin 16).val (0 : Fin 16).isLt hl h) $$ [H]
  · iexact H
  iintro H
  iapply (store_slot c (ringM k) (0 : Fin 16).val (0 : Fin 16).isLt _ hx hm h) $$ [H]
  · iexact H
  iintro H
  ihave H2 := (split_slot k c 0 (((ringM k).access (slotR (0 : Fin 16).val (0 : Fin 16).isLt)).write (Elt F) h (slot0 (rowsOf (X c) (prv k c)) (colsOf (W c) k)) Finset.univ)) $$ H
  icases H2 with ⟨H0, H1⟩
  iapply Hk $$ [H0] [H1]
  · show _ ⊢ half k c 0 0 _
    rw [show halfOf (0 : Fin 2).val (0 : Fin 2).isLt (slotV X W k (0 : Fin 16).val c) = _ from (e 0 h).symm]
  · show _ ⊢ half k c 0 1 _
    rw [show halfOf (1 : Fin 2).val (1 : Fin 2).isLt (slotV X W k (0 : Fin 16).val c) = _ from (e 1 h).symm]

end Cert.KernelIdeal.Words

end
-- ==== Proof.KernelIdeal.Moves.lean ====
/-
  The larger pieces of the kernel: the barrier, one step's arrivals and departures on both rings, and the rights to the landing places that travel with them.
-/
module

public import proofs.«01_k».proof.Proof.KernelIdeal.Words

@[expose] public section

set_option maxRecDepth 20000

noncomputable section

namespace Cert.KernelIdeal.Moves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks Cert.KernelIdeal.Words

variable {F : FTy → Type} [FloatOps F]

local notation "𝕄" => MT nD τ sig Unit (Elt F) ℕ UU ℕ

variable (X : Dev nD → Vec F S4096x256 .f32) (W : Dev nD → Vec F S256x2048 .f32)

/-! ## The barrier -/

theorem barPay_prv (k : Bool) (c : Dev nD) : (barPay (prv k c) k : sProp 𝕄) = bigSep Finset.univ fun s : Fin 15 => bigSep Finset.univ fun p : Fin 2 => lent k c s p := by
  unfold barPay; rw [nxt_prv]

theorem signal_bar (K : GSem nD τ sig → ℕ) (c : Dev nD) (k : Bool) (n : ℕ) (hn : n = k.toNat) (d : Dev nD) (hd : d = prv k c)
    (kt : Prog (TpuEff nD τ sig (Elt F) Λ₀ .tc) PUnit) (Q : PUnit → sProp 𝕄) :
    iprop(ctx X W K c ∗ ow c n ∗ dutyTok ER (cell (prv k c) bar) 0 k ∗ reached ER (cell (prv k c) bar) 0 ∗ barPay (prv k c) k ∗ (ow c (n + 1) -∗ wp frame (wpE (defs₀ (F := F)) 𝒱₀ (c : Thread nD τ) none) Set.univ kt Q))
      ⊢ wp frame (wpE (defs₀ (F := F)) 𝒱₀ (c : Thread nD τ) none) Set.univ (.op (.semSignal (Dev.tc d) barS (1#32).toInt) fun _ => kt) Q := by
  subst hd
  have hO : owe c n = owe c (n + 1) + tallyAt (cell (prv k c) bar) () 1 := by rw [hn]; exact owe_pay c (.inl k)
  have hd : k ∈ (Rd X W).duties (cell (prv k c) bar) 0 := by rw [duties_cell]; exact Finset.mem_univ k
  unfold ctx ow
  iintro ⟨⟨#HI, -, -⟩, ⟨%Ws, HO⟩, Ht, Hr, Hp, Hk⟩
  iapply (Rounds.wp_signal 𝒱₀ ER (Rd X W) (c : Thread nD τ) none (dst := (prv k c : Thread nD τ)) (sem := barS) (r := 0) (d := k) (κ := K (cell (prv k c) bar))
      hd (amount_cell X W (prv k c) bar k) () (O₀ := owe c n) (owe c (n + 1)) hO (W := Ws)) $$ [HO Ht Hp Hr]
  · isplitr; · iapply (inv_at X W K (prv k c) bar); iexact HI
    isplitl [HO]; · iexact HO
    isplitl [Ht]; · iexact Ht
    isplitl [Hp]
    · ihave Hp := (Entails.of_eq (show barPay (prv k c) k = (Rd X W).payload ((prv k c : Thread nD τ), SemLoc.reg barS) 0 k from (payload_cell X W (prv k c) bar k).symm)) $$ Hp
      iexact Hp
    iexact Hr
  iintro HO
  iapply Hk
  iexists _; iexact HO

theorem wait_bar (K : GSem nD τ sig → ℕ) (c : Dev nD) (kt : Prog (TpuEff nD τ sig (Elt F) Λ₀ .tc) PUnit) (Q : PUnit → sProp 𝕄) :
    iprop(ctx X W K c ∗ ow c 2 ∗ cred (tallyAt (cell c bar) () 2) ∗ atPos ER (cell c bar) 0 ∅ 0
        ∗ (ow c 2 -∗ atPos ER (cell c bar) (0 + 1) ∅ 0 -∗ barPay c false -∗ barPay c true -∗ wp frame (wpE (defs₀ (F := F)) 𝒱₀ (c : Thread nD τ) none) Set.univ kt Q))
      ⊢ wp frame (wpE (defs₀ (F := F)) 𝒱₀ (c : Thread nD τ) none) Set.univ (.op (.semWait barS (2#32).toInt) fun _ => kt) Q := by
  unfold ctx ow
  iintro ⟨⟨#HI, #Hlev, -⟩, ⟨%Ws, HO⟩, Hc, Hat, Hk⟩
  iapply (Rounds.wp_wait_rest_token 𝒱₀ ER (Rd X W) (c : Thread nD τ) none (κ := K (cell c bar)) (sm := cellSem bar) (k' := 2)
      (wpE_semWait_eq 𝒱₀ (c : Thread nD τ) none Set.univ) (Set.mem_univ _) () (O := owe c 2) (W := Ws)
      (R := 0) (m := 0) (T := ∅) ((Nat.zero_add _).trans (expect_bar X W c).symm)) $$ [Hc HO Hat]
  · isplitr; · iapply (inv_at X W K c bar); iexact HI
    isplitl [Hc]; · iexact Hc
    isplitl [HO]; · iexact HO
    isplitr; · iapply (mayWait c bar 2 (Nat.le_refl _) (by decide)); iexact Hlev
    iexact Hat
  iintro ⟨HO, Hat, -, Hpay⟩
  ihave Hp := (Entails.of_eq (rest_bar X W c)) $$ Hpay
  icases Hp with ⟨H0, H1⟩
  iapply Hk $$ [HO] [Hat] [H0] [H1]
  · iexists _; iexact HO
  · iexact Hat
  · iexact H0
  · iexact H1

/-! ## One half of a step, on both rings -/

/-- A transfer's needs, with the place before the wait for its departure. -/
def tick (k : Bool) (c : Dev nD) (s : Fin 15) (p : Fin 2) : sProp 𝕄 := iprop(ticket k c s p ∗ atPos ER (cell c (snd k s p)) 0 ∅ 0)

theorem arrive_both (K : GSem nD τ sig → ℕ) (c : Dev nD) (s : Fin 15) (p : Fin 2) (n : ℕ) (hn : 2 + 4 * s.val + 2 * p.val + 1 < n)
    (kt : Prog (TpuEff nD τ sig (Elt F) Λ₀ .tc) PUnit) (Q : PUnit → sProp 𝕄) :
    iprop(ctx X W K c ∗ ow c n ∗ expected c (.inl (true, false, s, p)) ∗ expected c (.inl (true, true, s, p))
        ∗ (ow c n -∗ spent c (.inl (true, false, s, p)) -∗ spent c (.inl (true, true, s, p)) -∗ full X W false c s.succ p -∗ full X W true c s.succ p
            -∗ extra false c s.val p -∗ wp frame (wpE (defs₀ (F := F)) 𝒱₀ (c : Thread nD τ) none) Set.univ kt Q))
      ⊢ wp frame (wpE (defs₀ (F := F)) 𝒱₀ (c : Thread nD τ) none) Set.univ (arrive (ringM false) (ringM true) (recvS false) (recvS true) (part X W false (blk false (s.val + 1) c) c) (part X W true (blk true (s.val + 1) c) c)
          s.val p.val s.isLt p.isLt kt) Q := by
  unfold arrive
  iintro ⟨#Hctx, HO, He0, He1, Hk⟩
  iapply (arrive_half X W K c false s p n (by show 2 + 4 * s.val + 2 * p.val + 0 < n; omega))
  isplitr; · iexact Hctx
  isplitl [HO]; · iexact HO
  isplitl [He0]; · iexact He0
  iintro HO Hs0 Hf0 Hx
  iapply (arrive_half X W K c true s p n hn)
  isplitr; · iexact Hctx
  isplitl [HO]; · iexact HO
  isplitl [He1]; · iexact He1
  iintro HO Hs1 Hf1 -
  iapply Hk $$ [HO] [Hs0] [Hs1] [Hf0] [Hf1] [Hx]
  · iexact HO
  · iexact Hs0
  · iexact Hs1
  · iexact Hf0
  · iexact Hf1
  · iexact Hx

theorem forward_both (K : GSem nD τ sig → ℕ) (c : Dev nD) (s : Fin 15) (p : Fin 2) (n : ℕ) (hn : n = 2 + 4 * s.val + 2 * p.val)
    (kt : Prog (TpuEff nD τ sig (Elt F) Λ₀ .tc) PUnit) (Q : PUnit → sProp 𝕄) :
    iprop(ctx X W K c ∗ ow c n ∗ tick false c s p ∗ tick true c s p ∗ full X W false c s.castSucc p ∗ full X W true c s.castSucc p
        ∗ extra false (nxt false c) s.val p
        ∗ (ow c (n + 2) -∗ expected c (.inl (false, false, s, p)) -∗ expected c (.inl (false, true, s, p)) -∗ wp frame (wpE (defs₀ (F := F)) 𝒱₀ (c : Thread nD τ) none) Set.univ kt Q))
      ⊢ wp frame (wpE (defs₀ (F := F)) 𝒱₀ (c : Thread nD τ) none) Set.univ (forward (ringM false) (ringM true) (sendS false) (recvS false) (sendS true) (recvS true) (nxt false c) (nxt true c)
          s.val p.val s.isLt p.isLt kt) Q := by
  unfold forward tick expected
  iintro ⟨#Hctx, HO, ⟨Ht0, Ha0⟩, ⟨Ht1, Ha1⟩, Hf0, Hf1, Hx, Hk⟩
  iapply (send_half X W K c false s p n hn)
  isplitr; · iexact Hctx
  isplitl [HO]; · iexact HO
  isplitl [Ht0]; · iexact Ht0
  isplitl [Hf0]; · iexact Hf0
  isplitl [Hx]; · iexact Hx
  iintro HO Hc0
  iapply (send_half X W K c true s p (n + 1) (by rw [hn]; rfl))
  isplitr; · iexact Hctx
  isplitl [HO]; · iexact HO
  isplitl [Ht1]; · iexact Ht1
  isplitl [Hf1]; · iexact Hf1
  isplitr
  · unfold extra
    rw [if_neg (by rintro ⟨h, -⟩; cases h)]
    iempintro
  iintro HO Hc1
  iapply Hk $$ [HO] [Hc0 Ha0] [Hc1 Ha1]
  · iexact HO
  · isplitl [Hc0]; · iexact Hc0
    iexact Ha0
  · isplitl [Hc1]; · iexact Hc1
    iexact Ha1

/-! ## One step -/

/-- The four halves of a step, in the order in which they are taken. -/
def quad (Φ : Bool → Fin 2 → sProp 𝕄) : sProp 𝕄 := iprop(Φ false 0 ∗ Φ true 0 ∗ Φ false 1 ∗ Φ true 1)

abbrev ticks (c : Dev nD) (s : Fin 15) : sProp 𝕄 := quad fun k p => tick k c s p
abbrev coming (c : Dev nD) (s : Fin 15) : sProp 𝕄 := quad fun k p => expected c (.inl (true, k, s, p))
abbrev going (c : Dev nD) (s : Fin 15) : sProp 𝕄 := quad fun k p => expected c (.inl (false, k, s, p))
abbrev came (c : Dev nD) (s : Fin 15) : sProp 𝕄 := quad fun k p => spent c (.inl (true, k, s, p))
abbrev went (c : Dev nD) (s : Fin 15) : sProp 𝕄 := quad fun k p => spent c (.inl (false, k, s, p))
abbrev back (c : Dev nD) (s : Fin 15) : sProp 𝕄 := quad fun k p => halfAny k c s.castSucc p

theorem left_all (K : GSem nD τ sig → ℕ) (c : Dev nD) (s : Fin 15) (n : ℕ) (hn : 2 ≤ n)
    (kt : Prog (TpuEff nD τ sig (Elt F) Λ₀ .tc) PUnit) (Q : PUnit → sProp 𝕄) :
    iprop(ctx X W K c ∗ ow c n ∗ going c s ∗ (ow c n -∗ went c s -∗ back c s -∗ wp frame (wpE (defs₀ (F := F)) 𝒱₀ (c : Thread nD τ) none) Set.univ kt Q))
      ⊢ wp frame (wpE (defs₀ (F := F)) 𝒱₀ (c : Thread nD τ) none) Set.univ (left (ringM false) (ringM true) (sendS false) (sendS true) s.val s.isLt kt) Q := by
  unfold left going went back quad
  iintro ⟨#Hctx, HO, ⟨E0, E1, E2, E3⟩, Hk⟩
  iapply (wait_send X W K c false s 0 n hn)
  isplitr; · iexact Hctx
  isplitl [HO]; · iexact HO
  isplitl [E0]; · iexact E0
  iintro HO S0 F0
  iapply (wait_send X W K c true s 0 n hn)
  isplitr; · iexact Hctx
  isplitl [HO]; · iexact HO
  isplitl [E1]; · iexact E1
  iintro HO S1 F1
  iapply (wait_send X W K c false s 1 n hn)
  isplitr; · iexact Hctx
  isplitl [HO]; · iexact HO
  isplitl [E2]; · iexact E2
  iintro HO S2 F2
  iapply (wait_send X W K c true s 1 n hn)
  isplitr; · iexact Hctx
  isplitl [HO]; · iexact HO
  isplitl [E3]; · iexact E3
  iintro HO S3 F3
  iapply Hk $$ [HO] [S0 S1 S2 S3] [F0 F1 F2 F3]
  · iexact HO
  · isplitl [S0]; · iexact S0
    isplitl [S1]; · iexact S1
    isplitl [S2] <;> iassumption
  · isplitl [F0]; · iapply (half_any false c s.castSucc 0); iexact F0
    isplitl [F1]; · iapply (half_any true c s.castSucc 0); iexact F1
    isplitl [F2]; · iapply (half_any false c s.castSucc 1); iexact F2
    iapply (half_any true c s.castSucc 1); iexact F3

/-! ## The rights that travel -/

theorem dist_mate : ∀ r (s : Fin 15) c, dist r (mate r c) = s.val + 1 → blk false s.val c = mate r c := by decide +kernel

theorem bundle_one (c : Dev nD) (s : Fin 15) (r : Fin 4) :
    iprop((if s.val + 1 ≤ dist r (blk false s.val c) then leave (blk false s.val c) r else iprop(emp))
        ∗ (if dist r (mate r c) ≤ s.val then leave (mate r c) r else iprop(emp)))
      ⊢ (iprop((if s.val + 1 + 1 ≤ dist r (blk false s.val c) then leave (blk false s.val c) r else iprop(emp))
        ∗ (if dist r (mate r c) ≤ s.val + 1 then leave (mate r c) r else iprop(emp))) : sProp 𝕄) := by
  have hd := dist_blk r s c
  have hm := dist_mate r s c
  by_cases h : dist r (blk false s.val c) = s.val + 1
  · have e := hd.mp h
    rw [e] at h ⊢
    rw [if_pos (by omega), if_neg (by omega), if_neg (by omega), if_pos (by omega)]
    iintro ⟨H, -⟩
    isplitr; · iempintro
    iexact H
  · have h2 : dist r (mate r c) ≠ s.val + 1 := fun e => h (hd.mpr (hm e))
    have e1 : (s.val + 1 ≤ dist r (blk false s.val c)) = (s.val + 1 + 1 ≤ dist r (blk false s.val c)) := propext (by omega)
    have e2 : (dist r (mate r c) ≤ s.val) = (dist r (mate r c) ≤ s.val + 1) := propext (by omega)
    simp only [e1, e2]
    exact .refl

theorem bundle_step (c : Dev nD) (s : Fin 15) : iprop(bundle c s.val ∗ have_ c s.val) ⊢ (iprop(bundle (nxt false c) (s.val + 1) ∗ have_ c (s.val + 1)) : sProp 𝕄) := by
  unfold bundle have_
  rw [blk_succ, prv_nxt]
  refine (Entails.of_eq (bigSep_sep _ _ _).symm).trans (.trans ?_ (Entails.of_eq (bigSep_sep _ _ _)))
  exact bigSep_mono fun r _ => bundle_one c s r

theorem bundle_start (c : Dev nD) : bigSep Finset.univ (fun r : Fin 4 => leave c r) ⊢ (bundle (nxt false c) 0 : sProp 𝕄) := by
  unfold bundle
  rw [blk_zero, prv_nxt]
  refine bigSep_mono fun r _ => ?_
  rw [if_pos (dist_pos r c)]; exact .refl _

theorem have_start (c : Dev nD) : (iprop(emp) : sProp 𝕄) ⊢ have_ c 0 := by
  unfold have_
  have e : (fun r : Fin 4 => if dist r (mate r c) ≤ 0 then (leave (mate r c) r : sProp 𝕄) else iprop(emp)) = fun _ => iprop(emp) := by
    funext r
    rw [if_neg (by have := dist_pos r (mate r c); omega)]
  rw [e]
  exact Entails.of_eq (bigSep_emp_const _).symm

theorem have_end (c : Dev nD) : have_ c 15 ⊢ (bigSep Finset.univ (fun r : Fin 4 => leave (mate r c) r) : sProp 𝕄) := by
  unfold have_
  refine bigSep_mono fun r _ => ?_
  rw [if_pos (dist_le r (mate r c))]; exact .refl _

theorem extra_first (c : Dev nD) (s : ℕ) : (extra false c s 0 : sProp 𝕄) = bundle c s := by unfold extra; exact if_pos ⟨rfl, rfl⟩
theorem extra_second (k : Bool) (c : Dev nD) (s : ℕ) : (extra k c s 1 : sProp 𝕄) = iprop(emp) := by
  unfold extra; exact if_neg (by rintro ⟨-, h⟩; exact absurd h (by decide))

/-! ## A whole turn: step `s` and the departures of step `s + 1` -/

theorem turn (K : GSem nD τ sig → ℕ) (c : Dev nD) (T : IVec S36 32) (hT : IsTable c T) (s s' : Fin 15) (hs : s'.val = s.val + 1)
    (kt : Prog (TpuEff nD τ sig (Elt F) Λ₀ .tc) PUnit) (Q : PUnit → sProp 𝕄) :
    iprop(ctx X W K c ∗ ins X W c T ∗ ow c (2 + 4 * s'.val) ∗ coming c s ∗ ticks c s' ∗ have_ c s.val
        ∗ (ins X W c T -∗ ow c (2 + 4 * (s'.val + 1)) -∗ came c s -∗ going c s' -∗ have_ c s'.val -∗ wp frame (wpE (defs₀ (F := F)) 𝒱₀ (c : Thread nD τ) none) Set.univ kt Q))
      ⊢ wp frame (wpE (defs₀ (F := F)) 𝒱₀ (c : Thread nD τ) none) Set.univ (products tblM xM wM s.val s.isLt fun v v' =>
          arrive (ringM false) (ringM true) (recvS false) (recvS true) v v' s.val 0 s.isLt (by omega)
          (forward (ringM false) (ringM true) (sendS false) (recvS false) (sendS true) (recvS true) (nxt false c) (nxt true c) s'.val 0 s'.isLt (by omega)
          (arrive (ringM false) (ringM true) (recvS false) (recvS true) v v' s.val 1 s.isLt (by omega)
          (forward (ringM false) (ringM true) (sendS false) (recvS false) (sendS true) (recvS true) (nxt false c) (nxt true c) s'.val 1 s'.isLt (by omega) kt)))) Q := by
  have e : ∀ k p, full X W k c s.succ p = full X W k c s'.castSucc p := fun k p => by rw [show s.succ = s'.castSucc from Fin.ext hs.symm]
  have eb : (bundle (nxt false c) (s.val + 1) : sProp 𝕄) = extra false (nxt false c) s'.val 0 := by rw [extra_first, hs]
  have eh : (have_ c (s.val + 1) : sProp 𝕄) = have_ c s'.val := by rw [hs]
  unfold coming ticks came going quad
  iintro ⟨#Hctx, HI, HO, ⟨E0, E1, E2, E3⟩, ⟨T0, T1, T2, T3⟩, Hh, Hk⟩
  iapply (read_products X W c T hT s.val s.isLt)
  isplitl [HI]; · iexact HI
  iintro HI
  iapply (arrive_both X W K c s 0 (2 + 4 * s'.val) (by show 2 + 4 * s.val + 2 * 0 + 1 < _; omega))
  isplitr; · iexact Hctx
  isplitl [HO]; · iexact HO
  isplitl [E0]; · iexact E0
  isplitl [E1]; · iexact E1
  iintro HO S0 S1 F0 F1 Hx
  ihave Hx := (Entails.of_eq (extra_first c s.val)) $$ Hx
  ihave F0 := (Entails.of_eq (e false 0)) $$ F0
  ihave F1 := (Entails.of_eq (e true 0)) $$ F1
  ihave Hb := (bundle_step c s) $$ [Hx Hh]
  · isplitl [Hx] <;> iassumption
  icases Hb with ⟨Hx, Hh⟩
  iapply (forward_both X W K c s' 0 (2 + 4 * s'.val) rfl)
  isplitr; · iexact Hctx
  isplitl [HO]; · iexact HO
  isplitl [T0]; · iexact T0
  isplitl [T1]; · iexact T1
  isplitl [F0]; · iexact F0
  isplitl [F1]; · iexact F1
  isplitl [Hx]; · iapply (Entails.of_eq eb); iexact Hx
  iintro HO G0 G1
  iapply (arrive_both X W K c s 1 (2 + 4 * s'.val + 2) (by show 2 + 4 * s.val + 2 * 1 + 1 < _; omega))
  isplitr; · iexact Hctx
  isplitl [HO]; · iexact HO
  isplitl [E2]; · iexact E2
  isplitl [E3]; · iexact E3
  iintro HO S2 S3 F2 F3 -
  ihave F2 := (Entails.of_eq (e false 1)) $$ F2
  ihave F3 := (Entails.of_eq (e true 1)) $$ F3
  iapply (forward_both X W K c s' 1 (2 + 4 * s'.val + 2) rfl)
  isplitr; · iexact Hctx
  isplitl [HO]; · iexact HO
  isplitl [T2]; · iexact T2
  isplitl [T3]; · iexact T3
  isplitl [F2]; · iexact F2
  isplitl [F3]; · iexact F3
  isplitr; · rw [extra_second]; iempintro
  iintro HO G2 G3
  iapply Hk $$ [HI] [HO] [S0 S1 S2 S3] [G0 G1 G2 G3] [Hh]
  · iexact HI
  · iexact HO
  · isplitl [S0]; · iexact S0
    isplitl [S1]; · iexact S1
    isplitl [S2] <;> iassumption
  · isplitl [G0]; · iexact G0
    isplitl [G1]; · iexact G1
    isplitl [G2] <;> iassumption
  · iapply (Entails.of_eq eh); iexact Hh

end Cert.KernelIdeal.Moves

end
-- ==== Proof.KernelIdeal.Finale.lean ====
/-
  The end of the kernel: the last slots are collected into the result, the maxima exchanged, the result quantised.
-/
module

public import proofs.«01_k».proof.Proof.KernelIdeal.Moves

@[expose] public section

set_option maxRecDepth 20000

noncomputable section

namespace Cert.KernelIdeal.Finale

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks Cert.KernelIdeal.Words Cert.KernelIdeal.Moves

variable {F : FTy → Type} [FloatOps F]

local notation "𝕄" => MT nD τ sig Unit (Elt F) ℕ UU ℕ

variable (X : Dev nD → Vec F S4096x256 .f32) (W : Dev nD → Vec F S256x2048 .f32)

/-! ## The result's two halves -/

theorem res_left (i : S256x2048.Idx) (h : (i 1).val < 1024) : ∃ x, i = (Rect.unit (s := S256x2048) ![0, 0] S256x1024.size inb_S256x2048_S256x1024_0_0).emb x
    ∧ (x 0).val = (i 0).val ∧ (x 1).val = (i 1).val := by
  refine ⟨fun a => match a with | ⟨0, _⟩ => (⟨(i 0).val, (i 0).isLt⟩ : Fin 256) | ⟨1, _⟩ => (⟨(i 1).val, h⟩ : Fin 1024), ?_, rfl, rfl⟩
  funext a
  apply Fin.ext
  rw [Rect.emb_apply]
  fin_cases a
  · show (i 0).val = 0 + 1 * (i 0).val; omega
  · show (i 1).val = 0 + 1 * (i 1).val; omega

theorem res_right (i : S256x2048.Idx) (h : ¬ (i 1).val < 1024) : ∃ x, i = (Rect.unit (s := S256x2048) ![0, 1024] S256x1024.size inb_S256x2048_S256x1024_0_1024).emb x
    ∧ (x 0).val = (i 0).val ∧ (x 1).val = (i 1).val - 1024 := by
  have hi : (i 1).val < 2048 := (i 1).isLt
  refine ⟨fun a => match a with | ⟨0, _⟩ => (⟨(i 0).val, (i 0).isLt⟩ : Fin 256) | ⟨1, _⟩ => (⟨(i 1).val - 1024, by omega⟩ : Fin 1024), ?_, rfl, rfl⟩
  funext a
  apply Fin.ext
  rw [Rect.emb_apply]
  fin_cases a
  · show (i 0).val = 0 + 1 * (i 0).val; omega
  · show (i 1).val = 1024 + 1 * ((i 1).val - 1024); omega

/-- Two halves side by side. -/
def glue (a b : FVec F S256x1024 .f32) : Vec F S256x2048 .f32 := fun i =>
  if h : (i 1).val < 1024 then a (fun d => match d with | ⟨0, _⟩ => (⟨(i 0).val, (i 0).isLt⟩ : Fin 256) | ⟨1, _⟩ => (⟨(i 1).val, h⟩ : Fin 1024))
  else b (fun d => match d with | ⟨0, _⟩ => (⟨(i 0).val, (i 0).isLt⟩ : Fin 256) | ⟨1, _⟩ => (⟨(i 1).val - 1024, by have hi : (i 1).val < 2048 := (i 1).isLt; omega⟩ : Fin 1024))

theorem glue_left (a b : FVec F S256x1024 .f32) (i : S256x2048.Idx) (h : (i 1).val < 1024) (x : S256x1024.Idx) (h0 : (x 0).val = (i 0).val) (h1 : (x 1).val = (i 1).val) :
    glue a b i = a x := by
  unfold glue
  rw [dif_pos h]
  congr 1
  funext d
  fin_cases d
  · exact Fin.ext h0.symm
  · exact Fin.ext h1.symm

theorem glue_right (a b : FVec F S256x1024 .f32) (i : S256x2048.Idx) (h : ¬ (i 1).val < 1024) (x : S256x1024.Idx) (h0 : (x 0).val = (i 0).val) (h1 : (x 1).val = (i 1).val - 1024) :
    glue a b i = b x := by
  unfold glue
  rw [dif_neg h]
  congr 1
  funext d
  fin_cases d
  · exact Fin.ext h0.symm
  · exact Fin.ext h1.symm

theorem stored_eq (f : resM.view.ty.Contents (Elt F)) (a b : FVec F S256x1024 .f32) :
    (resM.access (Rect.unit (s := S256x2048) ![0, 1024] S256x1024.size inb_S256x2048_S256x1024_0_1024)).write (Elt F)
      ((resM.access (Rect.unit (s := S256x2048) ![0, 0] S256x1024.size inb_S256x2048_S256x1024_0_0)).write (Elt F) f a Finset.univ) b Finset.univ = glue a b := by
  funext i
  by_cases h : ((i : S256x2048.Idx) 1).val < 1024
  · obtain ⟨x, hx, h0, h1⟩ := res_left i h
    rw [View.write_of_not_mem]
    · refine Eq.trans ?_ (glue_left a b i h x h0 h1).symm
      refine (congrArg _ hx).trans ?_
      exact View.write_emb_of_mem (v := resM.access (Rect.unit (s := S256x2048) ![0, 0] S256x1024.size inb_S256x2048_S256x1024_0_0)) f a (Finset.mem_univ x)
    · intro hm
      rw [View.setOn_univ] at hm
      obtain ⟨y, -, hy⟩ := Finset.mem_map.mp hm
      have hv : ((i : S256x2048.Idx) 1).val = 1024 + 1 * (y 1).val := congrArg (fun j : S256x2048.Idx => (j 1).val) hy.symm
      omega
  · obtain ⟨x, hx, h0, h1⟩ := res_right i h
    refine Eq.trans ?_ (glue_right a b i h x h0 h1).symm
    refine (congrArg _ hx).trans ?_
    exact View.write_emb_of_mem (Val := Elt F) (v := resM.access (Rect.unit (s := S256x2048) ![0, 1024] S256x1024.size inb_S256x2048_S256x1024_0_1024))
      ((resM.access (Rect.unit (s := S256x2048) ![0, 0] S256x1024.size inb_S256x2048_S256x1024_0_0)).write (Elt F) f a Finset.univ) b (Finset.mem_univ x)

/-- The rectified block before it is quantised; the block that the device returns. -/
def outV (c : Dev nD) : Vec F S256x2048 .f32 := glue (k0_pay110 (lastV X W false c)) (k0_pay111 (lastV X W true c))
def resV (c : Dev nD) : FVec F S256x2048 .f32 := quant (mx X W 4 c) (outV X W c)

/-- A slot whose halves are complete reads as the slot. -/
theorem read_last (k : Bool) (c : Dev nD) (f : (ringM k).view.ty.Contents (Elt F)) (h0 : (hM k 15 0).view.read (Elt F) f = halfOf 0 (by decide) (slotV X W k 15 c))
    (h1 : (hM k 15 1).view.read (Elt F) f = halfOf 1 (by decide) (slotV X W k 15 c)) :
    ((ringM k).access (slotR (15 : Fin 16).val (15 : Fin 16).isLt)).read (Elt F) f = lastV X W k c :=
  slot_of_halves (ringM k) 15 (by decide) f _ fun p hp => by
    have : p = 0 ∨ p = 1 := by omega
    rcases this with rfl | rfl
    · exact h0
    · exact h1

theorem collect_run (c : Dev nD) (kt : F .f32 → Prog (TpuEff nD τ sig (Elt F) Λ₀ .tc) PUnit) (Q : PUnit → sProp 𝕄) :
    iprop(full X W false c 15 0 ∗ full X W false c 15 1 ∗ full X W true c 15 0 ∗ full X W true c 15 1
        ∗ (∃ f : Buf (Elt F) (resM.view.loc (c : Thread nD τ)), resM.view.loc (c : Thread nD τ) ↦{fullShare} f)
        ∗ (halfAny false c 15 0 -∗ halfAny false c 15 1 -∗ halfAny true c 15 0 -∗ halfAny true c 15 1
          -∗ (resM.view.loc (c : Thread nD τ) ↦{fullShare} (outV X W c : Buf (Elt F) (resM.view.loc (c : Thread nD τ)))) -∗ wp frame (wpE (defs₀ (F := F)) 𝒱₀ (c : Thread nD τ) none) Set.univ (kt (mx X W 0 c)) Q))
      ⊢ wp frame (wpE (defs₀ (F := F)) 𝒱₀ (c : Thread nD τ) none) Set.univ (collect resM (ringM false) (ringM true) kt) Q := by
  unfold collect
  iintro ⟨F0, F1, G0, G1, ⟨%f, HR⟩, Hk⟩
  ihave HF := (join_slot false c 15 _ _) $$ [F0 F1]
  · isplitl [F0]; · iexact F0
    iexact F1
  icases HF with ⟨%u, %hu, HF⟩
  ihave HG := (join_slot true c 15 _ _) $$ [G0 G1]
  · isplitl [G0]; · iexact G0
    iexact G1
  icases HG with ⟨%v, %hv, HG⟩
  have eu := read_last X W false c u hu.1 hu.2
  have ev := read_last X W true c v hv.1 hv.2
  iapply (load_slot c (ringM false) (15 : Fin 16).val (15 : Fin 16).isLt (View.loadsAt_vmem h_S1x256x1024) u) $$ [HF]
  · iexact HF
  iintro HF
  iapply (load_slot c (ringM true) (15 : Fin 16).val (15 : Fin 16).isLt (View.loadsAt_vmem h_S1x256x1024) v) $$ [HG]
  · iexact HG
  iintro HG
  iapply (load_all c resM (Rect.unit (s := S256x2048) ![0, 0] S256x1024.size inb_S256x2048_S256x1024_0_0) (View.loadsAt_vmem h_S256x1024) f) $$ [HR]
  · iexact HR
  iintro HR
  iapply (store_all c resM (Rect.unit (s := S256x2048) ![0, 0] S256x1024.size inb_S256x2048_S256x1024_0_0) _ _ _ f) $$ [HR]
  · iexact HR
  iintro HR
  iapply (load_all c resM (Rect.unit (s := S256x2048) ![0, 1024] S256x1024.size inb_S256x2048_S256x1024_0_1024) (View.loadsAt_vmem h_S256x1024) _) $$ [HR]
  · iexact HR
  iintro HR
  iapply (store_all c resM (Rect.unit (s := S256x2048) ![0, 1024] S256x1024.size inb_S256x2048_S256x1024_0_1024) _ _ _ _) $$ [HR]
  · iexact HR
  iintro HR
  ihave HR := (Entails.of_eq (congrArg (fun g : Buf (Elt F) (resM.view.loc (c : Thread nD τ)) => (resM.view.loc (c : Thread nD τ) ↦{fullShare} g : sProp 𝕄)) (stored_eq f _ _))) $$ HR
  rw [eu, ev]
  ihave H2 := (split_slot false c 15 u) $$ HF
  icases H2 with ⟨F0, F1⟩
  ihave H3 := (split_slot true c 15 v) $$ HG
  icases H3 with ⟨G0, G1⟩
  iapply Hk $$ [F0] [F1] [G0] [G1] [HR]
  · iapply (half_any false c 15 0); iexact F0
  · iapply (half_any false c 15 1); iexact F1
  · iapply (half_any true c 15 0); iexact G0
  · iapply (half_any true c 15 1); iexact G1
  · iexact HR

/-! ## The exchange of maxima -/

/-- What an exchange round needs. -/
def swapNeed (c : Dev nD) (r : Fin 4) : sProp 𝕄 :=
  iprop(dutyTok ER (cell c (ams r)) 0 false ∗ dutyTok ER (cell (mate r c) (amr r)) 0 false ∗ atPos ER (cell c (ams r)) 0 ∅ 0 ∗ expected c (.inr (true, r)))

theorem out_set : outM.view.set = Finset.univ := View.set_whole _

theorem spread_write (f : outM.view.ty.Contents (Elt F)) (a : F .f32) :
    (outM.access (Rect.unit (s := S8x128) ![0, 0] S8x128.size inb_S8x128_S8x128_0_0)).write (Elt F) f (copies a) Finset.univ = copies a := by
  funext i
  have e : (i : S8x128.Idx) = (Rect.unit (s := S8x128) ![0, 0] S8x128.size inb_S8x128_S8x128_0_0).emb i := by
    funext d
    apply Fin.ext
    rw [Rect.emb_apply]
    fin_cases d
    · show (i 0).val = 0 + 1 * (i 0).val; omega
    · show (i 1).val = 0 + 1 * (i 1).val; omega
  refine (congrArg _ e).trans ?_
  exact View.write_emb_of_mem (v := outM.access (Rect.unit (s := S8x128) ![0, 0] S8x128.size inb_S8x128_S8x128_0_0)) f (copies a) (Finset.mem_univ (i : S8x128.Idx))

theorem spread_run (c : Dev nD) (a : F .f32) (kt : Prog (TpuEff nD τ sig (Elt F) Λ₀ .tc) PUnit) (Q : PUnit → sProp 𝕄) :
    iprop(outAny c ∗ ((outM.view.loc (c : Thread nD τ) ↦[outM.view.set]{fullShare} (copies a : Buf (Elt F) (outM.view.loc (c : Thread nD τ)))) -∗ wp frame (wpE (defs₀ (F := F)) 𝒱₀ (c : Thread nD τ) none) Set.univ kt Q))
      ⊢ wp frame (wpE (defs₀ (F := F)) 𝒱₀ (c : Thread nD τ) none) Set.univ (spread outM a kt) Q := by
  unfold spread outAny
  rw [out_set]
  iintro ⟨⟨%f, H⟩, Hk⟩
  iapply (load_all c outM (Rect.unit (s := S8x128) ![0, 0] S8x128.size inb_S8x128_S8x128_0_0) (View.loadsAt_vmem h_S8x128) f) $$ [H]
  · iexact H
  iintro H
  iapply (store_all c outM (Rect.unit (s := S8x128) ![0, 0] S8x128.size inb_S8x128_S8x128_0_0) _ _ _ f) $$ [H]
  · iexact H
  iintro H
  iapply Hk
  ihave H := (Entails.of_eq (congrArg (fun g : Buf (Elt F) (outM.view.loc (c : Thread nD τ)) => (outM.view.loc (c : Thread nD τ) ↦{fullShare} g : sProp 𝕄)) (spread_write f a))) $$ H
  iexact H

theorem pay_ams (c : Dev nD) (r : Fin 4) :
    (outM.view.loc (c : Thread nD τ) ↦[outM.view.set]{fullShare} (copies (mx X W r.val c) : Buf (Elt F) (outM.view.loc (c : Thread nD τ))) : sProp 𝕄)
      ⊢ (Rd X W).payload (cell c (ams r)) 0 false := by
  rw [payload_cell]
  show _ ⊢ outPt c (copies (mx X W r.val c))
  unfold outPt
  iintro H; iexists (copies (mx X W r.val c) : Buf (Elt F) (outM.view.loc (c : Thread nD τ)))
  isplitr; · ipureintro; rfl
  iexact H

theorem pay_amr (c : Dev nD) (r : Fin 4) (fd : Buf (Elt F) ((aM r).view.loc (mate r c : Thread nD τ))) :
    ((aM r).view.loc (mate r c : Thread nD τ) ↦[(aM r).view.set]{fullShare} ((aM r).view.write (Elt F) fd (copies (mx X W r.val c)) Finset.univ) : sProp 𝕄)
      ⊢ (Rd X W).payload (cell (mate r c) (amr r)) 0 false := by
  rw [payload_cell]
  show _ ⊢ land (mate r c) r (copies (mx X W r.val (mate r (mate r c))))
  rw [mate_mate]
  unfold land
  iintro H; iexists ((aM r).view.write (Elt F) fd (copies (mx X W r.val c)) Finset.univ)
  isplitr; · ipureintro; exact View.read_write_univ (v := (aM r).view) fd _
  iexact H

theorem send_max (K : GSem nD τ sig → ℕ) (c : Dev nD) (r : Fin 4) (d : Dev nD) (hd : d = mate r c) (sS sem : SemLoc sig) (eS : sS = cellSem (ams r)) (eR : sem = cellSem (amr r))
    (hsc : (aM r).view.ref.isScScratch = false) (hsrc : outM.view.WordExact) (hdst : (aM r).view.WordExact)
    (hsem : DmaTarget.Typed .vmem sem (.remote (p := .tc) (Dev.tc d : Thread nD τ) (aM r) sS hsc)) (hN : (aM r).view.amount sem = Na)
    (kt : Prog (TpuEff nD τ sig (Elt F) Λ₀ .tc) PUnit) (Q : PUnit → sProp 𝕄) :
    iprop(ctx X W K c ∗ ow c (62 + r.val) ∗ dutyTok ER (cell c (ams r)) 0 false ∗ dutyTok ER (cell (mate r c) (amr r)) 0 false ∗ leave (mate r c) r
        ∗ (outM.view.loc (c : Thread nD τ) ↦[outM.view.set]{fullShare} (copies (mx X W r.val c) : Buf (Elt F) (outM.view.loc (c : Thread nD τ))))
        ∗ (ow c (62 + r.val + 1) -∗ cred (tallyAt (cell c (ams r)) () Na) -∗ wp frame (wpE (defs₀ (F := F)) 𝒱₀ (c : Thread nD τ) none) Set.univ kt Q))
      ⊢ wp frame (wpE (defs₀ (F := F)) 𝒱₀ (c : Thread nD τ) none) Set.univ (.op (.enqueueDma outM (.remote (Dev.tc d) (aM r) sS hsc) sem hsrc hdst hsem) fun _ => kt) Q := by
  subst hd eS eR
  have hO : owe c (62 + r.val) = owe c (62 + r.val + 1) + tallyAt (cell (mate r c) (amr r)) () Na := owe_pay c (.inr (.inr r))
  unfold ctx ow leave landAny
  iintro ⟨⟨#HI, -, #Hu⟩, ⟨%Ws, HO⟩, Ht1, Ht2, ⟨⟨%fd, Hd⟩, Hr2⟩, Hs, Hk⟩
  iapply (Rounds.wp_send_pointsTo 𝒱₀ ER (Rd X W) (c : Thread nD τ) none (c' := (mate r c : Thread nD τ)) (src := outM) (dst := aM r)
      (sS := cellSem (ams r)) (sem := cellSem (amr r)) (q := fullShare) (fs := copies (mx X W r.val c)) (κ₁ := K (cell c (ams r))) (κ₂ := K (cell (mate r c) (amr r)))
      (r₁ := 0) (r₂ := 0) (d₁ := false) (d₂ := false) (fd := fd)
      (mem_duties X W c _) (mem_duties X W (mate r c) _) () () Na hN (amount_cell X W c (ams r) false) (amount_cell X W (mate r c) (amr r) false)
      (owe c (62 + r.val + 1)) hO (W := Ws) (pay_ams X W c r) (pay_amr X W c r fd)) $$ [Hs Hd HO Ht1 Ht2 Hr2]
  · isplitr; · iapply (inv_at X W K c _); iexact HI
    isplitr; · iapply (inv_at X W K (mate r c) _); iexact HI
    isplitl [Hs]; · iexact Hs
    isplitl [Hd]; · iexact Hd
    isplitl [HO]; · iexact HO
    isplitl [Ht1]; · iexact Ht1
    isplitr; · iapply (inUse_at c _); iexact Hu
    isplitl [Ht2]; · iexact Ht2
    iexact Hr2
  iintro ⟨Hc, HO⟩
  iapply Hk $$ [HO] [Hc]
  · iexists _; iexact HO
  · iexact Hc

theorem mx_succ (c : Dev nD) (r : Fin 4) : mx X W (r.val + 1) c = join (mx X W r.val c) (fun _ => mx X W r.val (mate r c)) := by
  fin_cases r <;> rfl

theorem load_word (c : Dev nD) (r : Fin 4) (hl : inM.view.LoadsAt (amaxWordR r.val r.isLt).toLoadRect) (f : Buf (Elt F) ((aM r).view.loc (c : Thread nD τ)))
    (kt : Vec F S1x1x1 .f32 → Prog (TpuEff nD τ sig (Elt F) Λ₀ .tc) PUnit) (Q : PUnit → sProp 𝕄) :
    ((aM r).view.loc (c : Thread nD τ) ↦[(aM r).view.set]{fullShare} f)
      ⊢ iprop((((aM r).view.loc (c : Thread nD τ) ↦[(aM r).view.set]{fullShare} f) -∗ wp frame (wpE (defs₀ (F := F)) 𝒱₀ (c : Thread nD τ) none) Set.univ (kt ((inM.access (amaxWordR r.val r.isLt)).read (Elt F) f)) Q)
        -∗ wp frame (wpE (defs₀ (F := F)) 𝒱₀ (c : Thread nD τ) none) Set.univ (.op (.load inM (amaxWordR r.val r.isLt).toLoadRect hl) kt) Q) :=
  wp_load_rect (defs := defs₀ (F := F)) (Name := ℕ) (U := UU) (Lvl := ℕ) (Ix := Unit) 𝒱₀ (c : Thread nD τ) none Set.univ (m := inM) (r := amaxWordR r.val r.isLt) (hl := hl) (k := kt) (Q := Q)
    (S := amaxSet inM r) (q := fullShare) (f := f) (Γ := ∅) (amaxWord_subset inM r)

theorem exchange_run (K : GSem nD τ sig → ℕ) (c : Dev nD) (T : IVec S36 32) (hT : IsTable c T) (r : Fin 4)
    (harg6 : (outM : Memref sig .tc .vmem S8x128 .f32).IsWhole)
    (kt : F .f32 → Prog (TpuEff nD τ sig (Elt F) Λ₀ .tc) PUnit) (Q : PUnit → sProp 𝕄) :
    iprop(ctx X W K c ∗ ins X W c T ∗ ow c (62 + r.val) ∗ swapNeed c r ∗ leave (mate r c) r ∗ outAny c
        ∗ (ins X W c T -∗ ow c (62 + r.val + 1) -∗ spent c (.inr (false, r)) -∗ spent c (.inr (true, r)) -∗ landAny c r -∗ outAny c -∗ wp frame (wpE (defs₀ (F := F)) 𝒱₀ (c : Thread nD τ) none) Set.univ (kt (mx X W (r.val + 1) c)) Q))
      ⊢ wp frame (wpE (defs₀ (F := F)) 𝒱₀ (c : Thread nD τ) none) Set.univ (exchange tblM outM harg6 inM cc0_scratch8 cc0_scratch9 r.val r.isLt (mx X W r.val c) kt) Q := by
  unfold exchange swapNeed
  iintro ⟨#Hctx, HI, HO, ⟨Ht1, Ht2, Hat, He⟩, Hl, Hout, Hk⟩
  iapply (spread_run c)
  isplitl [Hout]; · iexact Hout
  iintro Hs
  iapply (read_word X W c T hT (32 + r.val) _)
  isplitl [HI]; · iexact HI
  iintro HI
  iapply (wp_assume 𝒱₀ (c : Thread nD τ) none Set.univ (chk33_wd _))
  iapply (send_max X W K c r _ ((devOf_wd _ _).trans (named_mate c r)) _ _ (ams_sem r) (amr_sem r) _ _ _ _ (credit_in r))
  isplitr; · iexact Hctx
  isplitl [HO]; · iexact HO
  isplitl [Ht1]; · iexact Ht1
  isplitl [Ht2]; · iexact Ht2
  isplitl [Hl]; · iexact Hl
  isplitl [Hs]; · iexact Hs
  iintro HO Hc
  iapply (wait_cell X W K c (.inr (false, r)) (62 + r.val + 1) (by omega) (by show 0 < 62 + r.val + 1; omega) _ (fun Kt => by
    rw [← ams_sem]
    exact congrArg (fun n => waitSpec _ _ _ n _) credit_out))
  isplitr; · iexact Hctx
  isplitl [HO]; · iexact HO
  isplitl [Hc Hat]
  · unfold expected
    isplitl [Hc]; · iexact Hc
    iexact Hat
  iintro HO Hsp Hp
  iapply (wait_cell X W K c (.inr (true, r)) (62 + r.val + 1) (by omega) (by show 62 + r.val < 62 + r.val + 1; omega) _ (fun Kt => by
    rw [← amr_sem]
    exact congrArg (fun n => waitSpec _ _ _ n _) (credit_in r)))
  isplitr; · iexact Hctx
  isplitl [HO]; · iexact HO
  isplitl [He]; · iexact He
  iintro HO Hsp2 Hp2
  ihave Hp := (Entails.of_eq (show Protocol.pay X W c (ams r) false = outPt c (copies (mx X W r.val c)) from rfl)) $$ Hp
  ihave Hp2 := (Entails.of_eq (show Protocol.pay X W c (amr r) false = land c r (copies (mx X W r.val (mate r c))) from rfl)) $$ Hp2
  unfold outPt land
  icases Hp with ⟨%fo, -, Ho⟩
  icases Hp2 with ⟨%fl, %hfl, Hl⟩
  have e : join (mx X W r.val c) ((inM.access (amaxWordR r.val r.isLt)).read (Elt F) fl) = mx X W (r.val + 1) c := by
    rw [read_amaxWord inM r fl _ hfl, mx_succ]; rfl
  iapply (load_word c r _ fl) $$ [Hl]
  · iexact Hl
  iintro Hl
  rw [e]
  iapply Hk $$ [HI] [HO] [Hsp] [Hsp2] [Hl] [Ho]
  · iexact HI
  · iexact HO
  · iexact Hsp
  · iexact Hsp2
  · unfold landAny; iexists fl; iexact Hl
  · unfold outAny; iexists fo; iexact Ho

/-! ## The last store -/

theorem res_emb (i : S256x2048.Idx) : (Rect.unit (s := S256x2048) ![0, 0] S256x2048.size inb_S256x2048_S256x2048_0_0).emb i = i := by
  funext d
  apply Fin.ext
  rw [Rect.emb_apply]
  fin_cases d
  · show 0 + 1 * (i 0).val = (i 0).val; omega
  · show 0 + 1 * (i 1).val = (i 1).val; omega

theorem res_read (f : resM.view.ty.Contents (Elt F)) :
    (resM.access (Rect.unit (s := S256x2048) ![0, 0] S256x2048.size inb_S256x2048_S256x2048_0_0)).read (Elt F) f = f :=
  funext fun i => congrArg f (res_emb i)

theorem res_write (f w : resM.view.ty.Contents (Elt F)) :
    (resM.access (Rect.unit (s := S256x2048) ![0, 0] S256x2048.size inb_S256x2048_S256x2048_0_0)).write (Elt F) f w Finset.univ = w := by
  funext i
  refine (congrArg _ (res_emb i).symm).trans ?_
  exact View.write_emb_of_mem (v := resM.access (Rect.unit (s := S256x2048) ![0, 0] S256x2048.size inb_S256x2048_S256x2048_0_0)) f w (Finset.mem_univ (i : S256x2048.Idx))

theorem finish_run (c : Dev nD) (a : F .f32) (v : Vec F S256x2048 .f32) (Q : PUnit → sProp 𝕄) :
    iprop((resM.view.loc (c : Thread nD τ) ↦{fullShare} (v : Buf (Elt F) (resM.view.loc (c : Thread nD τ))))
        ∗ ((resM.view.loc (c : Thread nD τ) ↦{fullShare} (quant a v : Buf (Elt F) (resM.view.loc (c : Thread nD τ)))) -∗ |={Set.univ}[frame]=> Q ⟨⟩))
      ⊢ wp frame (wpE (defs₀ (F := F)) 𝒱₀ (c : Thread nD τ) none) Set.univ (finish resM a) Q := by
  unfold finish
  iintro ⟨H, Hk⟩
  iapply (load_all c resM (Rect.unit (s := S256x2048) ![0, 0] S256x2048.size inb_S256x2048_S256x2048_0_0) (View.loadsAt_vmem h_S256x2048) v) $$ [H]
  · iexact H
  iintro H
  iapply (load_all c resM (Rect.unit (s := S256x2048) ![0, 0] S256x2048.size inb_S256x2048_S256x2048_0_0) (View.loadsAt_vmem h_S256x2048) v) $$ [H]
  · iexact H
  iintro H
  iapply (store_all c resM (Rect.unit (s := S256x2048) ![0, 0] S256x2048.size inb_S256x2048_S256x2048_0_0) _ _ _ v) $$ [H]
  · iexact H
  iintro H
  rw [wp_ret]
  iapply Hk
  have e : (resM.access (Rect.unit (s := S256x2048) ![0, 0] S256x2048.size inb_S256x2048_S256x2048_0_0)).write (Elt F) v
      (quant a ((resM.access (Rect.unit (s := S256x2048) ![0, 0] S256x2048.size inb_S256x2048_S256x2048_0_0)).read (Elt F) v)) Finset.univ = quant a v :=
    (res_write v _).trans (congrArg (quant a) (res_read v))
  ihave H := (Entails.of_eq (congrArg (fun g : Buf (Elt F) (resM.view.loc (c : Thread nD τ)) => (resM.view.loc (c : Thread nD τ) ↦{fullShare} g : sProp 𝕄)) e)) $$ H
  iexact H

end Cert.KernelIdeal.Finale

end
-- ==== Proof.KernelIdeal.Run.lean ====
/-
  The whole kernel on one device, by the pieces: the start, the ring steps by induction on their number, the end.
-/
module

public import proofs.«01_k».proof.Proof.KernelIdeal.Finale

@[expose] public section

set_option maxRecDepth 20000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks Cert.KernelIdeal.Words Cert.KernelIdeal.Moves Cert.KernelIdeal.Finale

variable {F : FTy → Type} [FloatOps F]

local notation "𝕄" => MT nD τ sig Unit (Elt F) ℕ UU ℕ

variable (X : Dev nD → Vec F S4096x256 .f32) (W : Dev nD → Vec F S256x2048 .f32)

/-! ## Families over the steps: from a step on, and up to it -/

def rest (Φ : Fin 15 → sProp 𝕄) (n : ℕ) : sProp 𝕄 := bigSep (Finset.univ.filter fun s : Fin 15 => n ≤ s.val) Φ
def upto (Φ : Fin 15 → sProp 𝕄) (n : ℕ) : sProp 𝕄 := bigSep (Finset.univ.filter fun s : Fin 15 => s.val < n) Φ

theorem rest_zero (Φ : Fin 15 → sProp 𝕄) : rest Φ 0 = bigSep Finset.univ Φ := by
  unfold rest; rw [Finset.filter_true_of_mem fun _ _ => Nat.zero_le _]
theorem rest_peel (Φ : Fin 15 → sProp 𝕄) (s : Fin 15) (n : ℕ) (hn : n = s.val) : rest Φ n = iprop(Φ s ∗ rest Φ (n + 1)) := by
  subst hn
  unfold rest
  have e : (Finset.univ.filter fun i : Fin 15 => s.val ≤ i.val) = insert s (Finset.univ.filter fun i : Fin 15 => s.val + 1 ≤ i.val) := by
    ext i
    simp only [Finset.mem_filter, Finset.mem_univ, true_and, Finset.mem_insert, Fin.ext_iff]
    omega
  rw [e, bigSep_insert (by simp)]; rfl
theorem upto_zero (Φ : Fin 15 → sProp 𝕄) : (iprop(emp) : sProp 𝕄) ⊢ upto Φ 0 := by
  unfold upto
  rw [Finset.filter_false_of_mem fun _ _ => Nat.not_lt_zero _, bigSep_empty]; exact .refl
theorem upto_all (Φ : Fin 15 → sProp 𝕄) : upto Φ 15 = bigSep Finset.univ Φ := by
  unfold upto; rw [Finset.filter_true_of_mem fun s _ => s.isLt]
theorem upto_push (Φ : Fin 15 → sProp 𝕄) (s : Fin 15) (n : ℕ) (hn : n = s.val) : iprop(Φ s ∗ upto Φ n) = upto Φ (n + 1) := by
  subst hn
  unfold upto
  have e : (Finset.univ.filter fun i : Fin 15 => i.val < s.val + 1) = insert s (Finset.univ.filter fun i : Fin 15 => i.val < s.val) := by
    ext i
    simp only [Finset.mem_filter, Finset.mem_univ, true_and, Finset.mem_insert, Fin.ext_iff]
    omega
  rw [e, bigSep_insert (by simp)]; rfl

theorem bigSep_rounds (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Before a step of the middle -/

/-- After step `s`, its own transfers and those of step `s + 1` on their way. -/
def Mid (c : Dev nD) (T : IVec S36 32) (s : ℕ) (hs : s < 14) : sProp 𝕄 :=
  iprop(ins X W c T ∗ ow c (2 + 4 * (s + 2)) ∗ rest (ticks c) (s + 2) ∗ rest (coming c) (s + 1)
    ∗ going c ⟨s, by omega⟩ ∗ going c ⟨s + 1, by omega⟩ ∗ upto (came c) (s + 1) ∗ upto (went c) s ∗ upto (back c) s ∗ have_ c (s + 1))

theorem step0_run (K : GSem nD τ sig → ℕ) (c : Dev nD) (T : IVec S36 32) (hT : IsTable c T)
    (kt : Prog (TpuEff nD τ sig (Elt F) Λ₀ .tc) PUnit) (Q : PUnit → sProp 𝕄) :
    iprop(ctx X W K c ∗ ins X W c T ∗ ow c (2 + 4 * 1) ∗ rest (ticks c) 1 ∗ rest (coming c) 0 ∗ going c 0 ∗ have_ c 0
        ∗ (Mid X W c T 0 (by omega) -∗ wp frame (wpE (defs₀ (F := F)) 𝒱₀ (c : Thread nD τ) none) Set.univ kt Q))
      ⊢ wp frame (wpE (defs₀ (F := F)) 𝒱₀ (c : Thread nD τ) none) Set.univ (step0 tblM xM wM (ringM false) (ringM true) (sendS false) (recvS false) (sendS true) (recvS true) (nxt false c) (nxt true c) kt) Q := by
  rw [rest_peel (ticks c) 1 1 rfl, rest_peel (coming c) 0 0 rfl]
  unfold step0 Mid
  iintro ⟨#Hctx, HI, HO, ⟨Ht, HT⟩, ⟨He, HE⟩, Hg, Hh, Hk⟩
  iapply (turn X W K c T hT 0 1 rfl)
  isplitr; · iexact Hctx
  isplitl [HI]; · iexact HI
  isplitl [HO]; · iexact HO
  isplitl [He]; · iexact He
  isplitl [Ht]; · iexact Ht
  isplitl [Hh]; · iexact Hh
  iintro HI HO Hc Hg1 Hh
  iapply Hk
  isplitl [HI]; · iexact HI
  isplitl [HO]; · iexact HO
  isplitl [HT]; · iexact HT
  isplitl [HE]; · iexact HE
  isplitl [Hg]; · iexact Hg
  isplitl [Hg1]; · iexact Hg1
  isplitl [Hc]
  · iapply (Entails.of_eq (upto_push (came c) 0 0 rfl))
    isplitl [Hc]; · iexact Hc
    iapply (upto_zero (came c)); iempintro
  isplitr; · iapply (upto_zero (went c)); iempintro
  isplitr; · iapply (upto_zero (back c)); iempintro
  iexact Hh

theorem stepM_run (K : GSem nD τ sig → ℕ) (c : Dev nD) (T : IVec S36 32) (hT : IsTable c T) (s : ℕ) (hs : s < 13)
    (kt : Prog (TpuEff nD τ sig (Elt F) Λ₀ .tc) PUnit) (Q : PUnit → sProp 𝕄) :
    iprop(ctx X W K c ∗ Mid X W c T s (by omega) ∗ (Mid X W c T (s + 1) (by omega) -∗ wp frame (wpE (defs₀ (F := F)) 𝒱₀ (c : Thread nD τ) none) Set.univ kt Q))
      ⊢ wp frame (wpE (defs₀ (F := F)) 𝒱₀ (c : Thread nD τ) none) Set.univ (stepM tblM xM wM (ringM false) (ringM true) (sendS false) (recvS false) (sendS true) (recvS true) (nxt false c) (nxt true c) s hs kt) Q := by
  unfold stepM Mid
  rw [rest_peel (ticks c) ⟨s + 2, by omega⟩ (s + 2) rfl, rest_peel (coming c) ⟨s + 1, by omega⟩ (s + 1) rfl]
  iintro ⟨#Hctx, ⟨HI, HO, ⟨Ht, HT⟩, ⟨He, HE⟩, Hg0, Hg1, Hc, Hw, Hb, Hh⟩, Hk⟩
  iapply (turn X W K c T hT ⟨s + 1, by omega⟩ ⟨s + 2, by omega⟩ rfl)
  isplitr; · iexact Hctx
  isplitl [HI]; · iexact HI
  isplitl [HO]; · iexact HO
  isplitl [He]; · iexact He
  isplitl [Ht]; · iexact Ht
  isplitl [Hh]; · iexact Hh
  iintro HI HO Hc1 Hg2 Hh
  iapply (left_all X W K c ⟨s, by omega⟩ (2 + 4 * (s + 2 + 1)) (by omega))
  isplitr; · iexact Hctx
  isplitl [HO]; · iexact HO
  isplitl [Hg0]; · iexact Hg0
  iintro HO Hw1 Hb1
  iapply Hk
  isplitl [HI]; · iexact HI
  isplitl [HO]; · iexact HO
  isplitl [HT]; · iexact HT
  isplitl [HE]; · iexact HE
  isplitl [Hg1]; · iexact Hg1
  isplitl [Hg2]; · iexact Hg2
  isplitl [Hc Hc1]
  · iapply (Entails.of_eq (upto_push (came c) ⟨s + 1, by omega⟩ (s + 1) rfl))
    isplitl [Hc1]; · iexact Hc1
    iexact Hc
  isplitl [Hw Hw1]
  · iapply (Entails.of_eq (upto_push (went c) ⟨s, by omega⟩ s rfl))
    isplitl [Hw1]; · iexact Hw1
    iexact Hw
  isplitl [Hb Hb1]
  · iapply (Entails.of_eq (upto_push (back c) ⟨s, by omega⟩ s rfl))
    isplitl [Hb1]; · iexact Hb1
    iexact Hb
  iexact Hh

theorem stepsM_run (K : GSem nD τ sig → ℕ) (c : Dev nD) (T : IVec S36 32) (hT : IsTable c T)
    (kt : Prog (TpuEff nD τ sig (Elt F) Λ₀ .tc) PUnit) (Q : PUnit → sProp 𝕄) : ∀ (n s : ℕ) (hn : n ≤ 13) (hs : s < 14) (_ : s + n = 13),
    iprop(ctx X W K c ∗ Mid X W c T s hs ∗ (Mid X W c T 13 (by omega) -∗ wp frame (wpE (defs₀ (F := F)) 𝒱₀ (c : Thread nD τ) none) Set.univ kt Q))
      ⊢ wp frame (wpE (defs₀ (F := F)) 𝒱₀ (c : Thread nD τ) none) Set.univ (stepsM tblM xM wM (ringM false) (ringM true) (sendS false) (recvS false) (sendS true) (recvS true) (nxt false c) (nxt true c) n hn kt) Q
  | 0, s, hn, hs, e => by
    obtain rfl : s = 13 := e
    unfold stepsM
    iintro ⟨-, H, Hk⟩
    iapply Hk; iexact H
  | n + 1, s, hn, hs, e => by
    obtain rfl : s = 12 - n := by omega
    unfold stepsM
    iintro ⟨#Hctx, H, Hk⟩
    iapply (stepM_run X W K c T hT (12 - n) _)
    isplitr; · iexact Hctx
    isplitl [H]; · iexact H
    iintro H
    iapply (stepsM_run K c T hT kt Q n (12 - n + 1) _ (by omega) (by omega))
    isplitr; · iexact Hctx
    isplitl [H]; · iexact H
    iexact Hk

theorem quad_intro (Φ : Bool → Fin 2 → sProp 𝕄) : iprop(Φ false 0 ∗ Φ true 0 ∗ Φ false 1 ∗ Φ true 1) ⊢ quad Φ := .refl

/-! ## The start -/

/-- What a step's transfers need of the launch; the halves they will fill, on the device itself. -/
def need (c : Dev nD) (s : Fin 15) : sProp 𝕄 := quad fun k p =>
  iprop(dutyTok ER (cell c (snd k s p)) 0 false ∗ dutyTok ER (cell (nxt k c) (rcv k s p)) 0 false ∗ atPos ER (cell c (snd k s p)) 0 ∅ 0)
def filled (c : Dev nD) (s : Fin 15) : sProp 𝕄 := quad fun k p => halfAny k c s.succ p

theorem lend_one (c : Dev nD) (s : Fin 15) : iprop(inUse c ∗ filled c s)
    ⊢ (iprop((bigSep Finset.univ fun p : Fin 2 => lent false c s p) ∗ (bigSep Finset.univ fun p : Fin 2 => lent true c s p)) : sProp 𝕄) := by
  have e : ∀ k, (bigSep Finset.univ fun p : Fin 2 => lent k c s p : sProp 𝕄) = iprop(lent k c s 0 ∗ lent k c s 1) := fun k => bigSep_fin_two _
  rw [e, e]
  unfold filled quad lent
  iintro ⟨#Hu, ⟨H0, H1, H2, H3⟩⟩
  isplitl [H0 H2]
  · isplitl [H0]
    · isplitl [H0]; · iexact H0
      iapply (inUse_at c _); iexact Hu
    · isplitl [H2]; · iexact H2
      iapply (inUse_at c _); iexact Hu
  · isplitl [H1]
    · isplitl [H1]; · iexact H1
      iapply (inUse_at c _); iexact Hu
    · isplitl [H3]; · iexact H3
      iapply (inUse_at c _); iexact Hu

theorem lend_all (c : Dev nD) : iprop(inUse c ∗ bigSep Finset.univ (filled c)) ⊢ (iprop(barPay (prv false c) false ∗ barPay (prv true c) true) : sProp 𝕄) := by
  rw [barPay_prv, barPay_prv, ← bigSep_sep']
  exact bigSep_with_persistent fun s _ => lend_one c s

theorem ticks_one (c : Dev nD) (s : Fin 15) : iprop(need c s ∗ (bigSep Finset.univ fun p : Fin 2 => lent false (nxt false c) s p) ∗ (bigSep Finset.univ fun p : Fin 2 => lent true (nxt true c) s p))
    ⊢ (ticks c s : sProp 𝕄) := by
  have e : ∀ k, (bigSep Finset.univ fun p : Fin 2 => lent k (nxt k c) s p : sProp 𝕄) = iprop(lent k (nxt k c) s 0 ∗ lent k (nxt k c) s 1) := fun k => bigSep_fin_two _
  rw [e, e]
  unfold need ticks quad tick ticket
  iintro ⟨⟨⟨A0, B0, C0⟩, ⟨A1, B1, C1⟩, ⟨A2, B2, C2⟩, ⟨A3, B3, C3⟩⟩, ⟨L0, L2⟩, ⟨L1, L3⟩⟩
  isplitl [A0 B0 C0 L0]
  · isplitr [C0]
    · isplitl [A0]; · iexact A0
      isplitl [B0]; · iexact B0
      iexact L0
    · iexact C0
  isplitl [A1 B1 C1 L1]
  · isplitr [C1]
    · isplitl [A1]; · iexact A1
      isplitl [B1]; · iexact B1
      iexact L1
    · iexact C1
  isplitl [A2 B2 C2 L2]
  · isplitr [C2]
    · isplitl [A2]; · iexact A2
      isplitl [B2]; · iexact B2
      iexact L2
    · iexact C2
  · isplitr [C3]
    · isplitl [A3]; · iexact A3
      isplitl [B3]; · iexact B3
      iexact L3
    · iexact C3

theorem ticks_all (c : Dev nD) : iprop(bigSep Finset.univ (need c) ∗ barPay c false ∗ barPay c true) ⊢ (bigSep Finset.univ (ticks c) : sProp 𝕄) := by
  unfold barPay
  rw [← bigSep_sep', ← bigSep_sep']
  exact bigSep_mono fun s _ => ticks_one c s

theorem leave_all (c : Dev nD) : iprop(inUse c ∗ bigSep Finset.univ fun r : Fin 4 => landAny c r) ⊢ (bigSep Finset.univ fun r : Fin 4 => leave c r : sProp 𝕄) :=
  bigSep_with_persistent fun r _ => by
    unfold leave
    iintro ⟨#Hu, H⟩
    isplitl [H]; · iexact H
    iapply (inUse_at c _); iexact Hu

theorem ctx_inUse (K : GSem nD τ sig → ℕ) (c : Dev nD) : ctx X W K c ⊢ (inUse c : sProp 𝕄) := by
  unfold ctx
  iintro ⟨-, -, H⟩
  iexact H

/-- What the barrier needs. -/
def barNeed (c : Dev nD) : sProp 𝕄 :=
  iprop((dutyTok ER (cell (prv false c) bar) 0 false ∗ reached ER (cell (prv false c) bar) 0)
    ∗ (dutyTok ER (cell (prv true c) bar) 0 true ∗ reached ER (cell (prv true c) bar) 0)
    ∗ cred (tallyAt (cell c bar) () 2) ∗ atPos ER (cell c bar) 0 ∅ 0)

set_option backward.isDefEq.respectTransparency.types false in
theorem start_run (K : GSem nD τ sig → ℕ) (c : Dev nD) (T : IVec S36 32) (hT : IsTable c T)
    (kt : Dev nD → Dev nD → Prog (TpuEff nD τ sig (Elt F) Λ₀ .tc) PUnit) (Q : PUnit → sProp 𝕄) :
    iprop(ctx X W K c ∗ ins X W c T ∗ ow c 0 ∗ barNeed c ∗ bigSep Finset.univ (need c) ∗ bigSep Finset.univ (filled c)
        ∗ (quad fun k p => halfAny k c 0 p) ∗ (bigSep Finset.univ fun r : Fin 4 => landAny c r)
        ∗ (ins X W c T -∗ ow c (2 + 4 * 1) -∗ rest (ticks c) 1 -∗ going c 0 -∗ have_ c 0 -∗ atPos ER (cell c bar) (0 + 1) ∅ 0
            -∗ wp frame (wpE (defs₀ (F := F)) 𝒱₀ (c : Thread nD τ) none) Set.univ (kt (nxt false c) (nxt true c)) Q))
      ⊢ wp frame (wpE (defs₀ (F := F)) 𝒱₀ (c : Thread nD τ) none) Set.univ (start tblM xM wM (ringM false) (ringM true) (sendS false) (recvS false) (sendS true) (recvS true) kt) Q := by
  unfold start barNeed quad
  iintro ⟨#Hctx, HI, HO, ⟨⟨Td0, Hr0⟩, ⟨Td1, Hr1⟩, Hcr, Hat⟩, Hneed, Hfill, ⟨Z0, Z1, Z2, Z3⟩, Hland, Hk⟩
  ihave #Hu := (ctx_inUse X W K c) $$ Hctx
  ihave Hlend := (lend_all c) $$ [Hfill]
  · isplitr; · iexact Hu
    iexact Hfill
  icases Hlend with ⟨HB0, HB1⟩
  ihave Hleave := (leave_all c) $$ [Hland]
  · isplitr; · iexact Hu
    iexact Hland
  ihave Hbun := (bundle_start c) $$ Hleave
  iapply (read_word X W c T hT 0 _)
  isplitl [HI]; · iexact HI
  iintro HI
  rw [named_zero]
  iapply (wp_assume 𝒱₀ (c : Thread nD τ) none Set.univ (chk2_wd _))
  iapply (read_word X W c T hT 1 _)
  isplitl [HI]; · iexact HI
  iintro HI
  rw [named_one]
  iapply (wp_assume 𝒱₀ (c : Thread nD τ) none Set.univ (chk1_wd _))
  rw [devOf_wd, devOf_wd]
  iapply (signal_bar X W K c false 0 rfl _ rfl)
  isplitr; · iexact Hctx
  isplitl [HO]; · iexact HO
  isplitl [Td0]; · iexact Td0
  isplitl [Hr0]; · iexact Hr0
  isplitl [HB0]; · iexact HB0
  iintro HO
  iapply (signal_bar X W K c true 1 rfl _ rfl)
  isplitr; · iexact Hctx
  isplitl [HO]; · iexact HO
  isplitl [Td1]; · iexact Td1
  isplitl [Hr1]; · iexact Hr1
  isplitl [HB1]; · iexact HB1
  iintro HO
  iapply (wait_bar X W K c)
  isplitr; · iexact Hctx
  isplitl [HO]; · iexact HO
  isplitl [Hcr]; · iexact Hcr
  isplitl [Hat]; · iexact Hat
  iintro HO Hat P0 P1
  ihave HT := (ticks_all c) $$ [Hneed P0 P1]
  · isplitl [Hneed]; · iexact Hneed
    isplitl [P0] <;> iassumption
  ihave HT := (Entails.of_eq ((rest_zero (ticks c)).symm.trans (rest_peel (ticks c) 0 0 rfl))) $$ HT
  icases HT with ⟨Ht, HT⟩
  unfold fill0 fill1
  iapply (read_rows X W c T)
  isplitl [HI]; · iexact HI
  iintro HI
  iapply (read_cols X W false c T)
  isplitl [HI]; · iexact HI
  iintro HI
  iapply (fill_slot X W c false)
  isplitl [Z0]; · iexact Z0
  isplitl [Z2]; · iexact Z2
  iintro F0 F2
  iapply (read_rows X W c T)
  isplitl [HI]; · iexact HI
  iintro HI
  iapply (read_cols X W true c T)
  isplitl [HI]; · iexact HI
  iintro HI
  iapply (fill_slot X W c true)
  isplitl [Z1]; · iexact Z1
  isplitl [Z3]; · iexact Z3
  iintro F1 F3
  unfold ticks quad
  icases Ht with ⟨T0, T1, T2, T3⟩
  iapply (forward_both X W K c 0 0 2 rfl)
  isplitr; · iexact Hctx
  isplitl [HO]; · iexact HO
  isplitl [T0]; · iexact T0
  isplitl [T1]; · iexact T1
  isplitl [F0]; · iexact F0
  isplitl [F1]; · iexact F1
  isplitl [Hbun]; · iapply (Entails.of_eq (extra_first (nxt false c) 0).symm); iexact Hbun
  iintro HO G0 G1
  iapply (forward_both X W K c 0 1 4 rfl)
  isplitr; · iexact Hctx
  isplitl [HO]; · iexact HO
  isplitl [T2]; · iexact T2
  isplitl [T3]; · iexact T3
  isplitl [F2]; · iexact F2
  isplitl [F3]; · iexact F3
  isplitr
  · iapply (Entails.of_eq (extra_second false (nxt false c) 0).symm); iempintro
  iintro HO G2 G3
  iapply Hk $$ [HI] [HO] [HT] [G0 G1 G2 G3] [] [Hat]
  · iexact HI
  · iexact HO
  · iexact HT
  · iapply (quad_intro (fun k p => expected c (.inl (false, k, 0, p))))
    isplitl [G0]; · iexact G0
    isplitl [G1]; · iexact G1
    isplitl [G2] <;> iassumption
  · iapply (have_start c); iempintro
  · iexact Hat

/-! ## The last step -/

theorem stepL_run (K : GSem nD τ sig → ℕ) (c : Dev nD) (T : IVec S36 32) (hT : IsTable c T)
    (kt : Prog (TpuEff nD τ sig (Elt F) Λ₀ .tc) PUnit) (Q : PUnit → sProp 𝕄) :
    iprop(ctx X W K c ∗ Mid X W c T 13 (by omega)
        ∗ (ins X W c T -∗ ow c 62 -∗ bigSep Finset.univ (came c) -∗ bigSep Finset.univ (went c) -∗ bigSep Finset.univ (back c)
            -∗ (bigSep Finset.univ fun r : Fin 4 => leave (mate r c) r) -∗ full X W false c 15 0 -∗ full X W false c 15 1 -∗ full X W true c 15 0 -∗ full X W true c 15 1
            -∗ wp frame (wpE (defs₀ (F := F)) 𝒱₀ (c : Thread nD τ) none) Set.univ kt Q))
      ⊢ wp frame (wpE (defs₀ (F := F)) 𝒱₀ (c : Thread nD τ) none) Set.univ (stepL tblM xM wM (ringM false) (ringM true) (sendS false) (recvS false) (sendS true) (recvS true) kt) Q := by
  unfold stepL Mid
  rw [rest_peel (coming c) 14 (13 + 1) rfl]
  unfold coming came quad
  iintro ⟨#Hctx, ⟨HI, HO, -, ⟨⟨E0, E1, E2, E3⟩, -⟩, Hg0, Hg1, Hc, Hw, Hb, Hh⟩, Hk⟩
  iapply (read_products X W c T hT 14 _)
  isplitl [HI]; · iexact HI
  iintro HI
  iapply (arrive_both X W K c 14 0 62 (by decide))
  isplitr; · iexact Hctx
  isplitl [HO]; · iexact HO
  isplitl [E0]; · iexact E0
  isplitl [E1]; · iexact E1
  iintro HO S0 S1 F0 F1 Hx
  ihave Hx := (Entails.of_eq (show (extra false c (14 : Fin 15).val (0 : Fin 2) : sProp 𝕄) = bundle c 14 from extra_first c 14)) $$ Hx
  ihave Hbh := (bundle_step c 14) $$ [Hx Hh]
  · isplitl [Hx]; · iexact Hx
    iexact Hh
  icases Hbh with ⟨-, Hh⟩
  ihave Hl := (have_end c) $$ [Hh]
  · iexact Hh
  iapply (arrive_both X W K c 14 1 62 (by decide))
  isplitr; · iexact Hctx
  isplitl [HO]; · iexact HO
  isplitl [E2]; · iexact E2
  isplitl [E3]; · iexact E3
  iintro HO S2 S3 F2 F3 -
  iapply (left_all X W K c 13 62 (by omega))
  isplitr; · iexact Hctx
  isplitl [HO]; · iexact HO
  isplitl [Hg0]; · iexact Hg0
  iintro HO Hw0 Hb0
  iapply (left_all X W K c 14 62 (by omega))
  isplitr; · iexact Hctx
  isplitl [HO]; · iexact HO
  isplitl [Hg1]; · iexact Hg1
  iintro HO Hw1 Hb1
  ihave Hw := (Entails.of_eq (upto_push (went c) 13 13 rfl)) $$ [Hw0 Hw]
  · isplitl [Hw0]; · iexact Hw0
    iexact Hw
  ihave Hw := (Entails.of_eq ((upto_push (went c) 14 14 rfl).trans (upto_all _))) $$ [Hw1 Hw]
  · isplitl [Hw1]; · iexact Hw1
    iexact Hw
  ihave Hb := (Entails.of_eq (upto_push (back c) 13 13 rfl)) $$ [Hb0 Hb]
  · isplitl [Hb0]; · iexact Hb0
    iexact Hb
  ihave Hb := (Entails.of_eq ((upto_push (back c) 14 14 rfl).trans (upto_all _))) $$ [Hb1 Hb]
  · isplitl [Hb1]; · iexact Hb1
    iexact Hb
  ihave Hc := (Entails.of_eq ((upto_push (came c) 14 14 rfl).trans (upto_all _))) $$ [Hc S0 S1 S2 S3]
  · isplitl [S0 S1 S2 S3]
    · iapply (quad_intro (fun k p => spent c (.inl (true, k, 14, p))))
      isplitl [S0]; · iexact S0
      isplitl [S1]; · iexact S1
      isplitl [S2]; · iexact S2
      iexact S3
    iexact Hc
  iapply Hk $$ [HI] [HO] [Hc] [Hw] [Hb] [Hl] [F0] [F2] [F1] [F3]
  · iexact HI
  · iexact HO
  · iexact Hc
  · iexact Hw
  · iexact Hb
  · iexact Hl
  · iexact F0
  · iexact F2
  · iexact F1
  · iexact F3

/-! ## The whole -/

/-- What the launch hands to a device; what the device leaves. -/
def Start (c : Dev nD) (T : IVec S36 32) : sProp 𝕄 :=
  iprop(ins X W c T ∗ (∃ f : Buf (Elt F) (resM.view.loc (c : Thread nD τ)), resM.view.loc (c : Thread nD τ) ↦{fullShare} f) ∗ ow c 0 ∗ barNeed c
    ∗ bigSep Finset.univ (coming c) ∗ bigSep Finset.univ (need c) ∗ bigSep Finset.univ (swapNeed c) ∗ bigSep Finset.univ (filled c)
    ∗ (quad fun k p => halfAny k c 0 p) ∗ (bigSep Finset.univ fun r : Fin 4 => landAny c r) ∗ outAny c)
def swapped (c : Dev nD) (r : Fin 4) : sProp 𝕄 := iprop(spent c (.inr (false, r)) ∗ spent c (.inr (true, r)))
def Stop (c : Dev nD) (T : IVec S36 32) : sProp 𝕄 :=
  iprop(ins X W c T ∗ (resM.view.loc (c : Thread nD τ) ↦{fullShare} (resV X W c : Buf (Elt F) (resM.view.loc (c : Thread nD τ)))) ∗ ow c 66
    ∗ atPos ER (cell c bar) (0 + 1) ∅ 0
    ∗ bigSep Finset.univ (came c) ∗ bigSep Finset.univ (went c) ∗ bigSep Finset.univ (swapped c) ∗ bigSep Finset.univ (back c)
    ∗ (quad fun k p => halfAny k c 15 p) ∗ (bigSep Finset.univ fun r : Fin 4 => landAny c r) ∗ outAny c)

theorem tail_run (K : GSem nD τ sig → ℕ) (c : Dev nD) (T : IVec S36 32) (hT : IsTable c T) (harg6 : (outM : Memref sig .tc .vmem S8x128 .f32).IsWhole)
    (Q : PUnit → sProp 𝕄) :
    iprop(ctx X W K c ∗ Mid X W c T 13 (by omega) ∗ (∃ f : Buf (Elt F) (resM.view.loc (c : Thread nD τ)), resM.view.loc (c : Thread nD τ) ↦{fullShare} f)
        ∗ atPos ER (cell c bar) (0 + 1) ∅ 0 ∗ bigSep Finset.univ (swapNeed c) ∗ outAny c ∗ (Stop X W c T -∗ |={Set.univ}[frame]=> Q ⟨⟩))
      ⊢ wp frame (wpE (defs₀ (F := F)) 𝒱₀ (c : Thread nD τ) none) Set.univ (tail tblM xM wM resM (ringM false) (ringM true) outM harg6 inM (sendS false) (recvS false) (sendS true) (recvS true) cc0_scratch8 cc0_scratch9) Q := by
  unfold tail
  rw [bigSep_rounds (swapNeed c)]
  iintro ⟨#Hctx, HM, HR, Hat, ⟨N0, N1, N2, N3⟩, Hout, Hk⟩
  iapply (stepL_run X W K c T hT)
  isplitr; · iexact Hctx
  isplitl [HM]; · iexact HM
  iintro HI HO Hc Hw Hb Hl F0 F1 G0 G1
  ihave Hl := (Entails.of_eq (bigSep_rounds (fun r => leave (mate r c) r))) $$ Hl
  icases Hl with ⟨L0, L1, L2, L3⟩
  iapply (collect_run X W c)
  isplitl [F0]; · iexact F0
  isplitl [F1]; · iexact F1
  isplitl [G0]; · iexact G0
  isplitl [G1]; · iexact G1
  isplitl [HR]; · iexact HR
  iintro F0 F1 G0 G1 HR
  iapply (exchange_run X W K c T hT 0 harg6)
  isplitr; · iexact Hctx
  isplitl [HI]; · iexact HI
  isplitl [HO]; · iexact HO
  isplitl [N0]; · iexact N0
  isplitl [L0]; · iexact L0
  isplitl [Hout]; · iexact Hout
  iintro HI HO A0 B0 D0 Hout
  iapply (exchange_run X W K c T hT 1 harg6)
  isplitr; · iexact Hctx
  isplitl [HI]; · iexact HI
  isplitl [HO]; · iexact HO
  isplitl [N1]; · iexact N1
  isplitl [L1]; · iexact L1
  isplitl [Hout]; · iexact Hout
  iintro HI HO A1 B1 D1 Hout
  iapply (exchange_run X W K c T hT 2 harg6)
  isplitr; · iexact Hctx
  isplitl [HI]; · iexact HI
  isplitl [HO]; · iexact HO
  isplitl [N2]; · iexact N2
  isplitl [L2]; · iexact L2
  isplitl [Hout]; · iexact Hout
  iintro HI HO A2 B2 D2 Hout
  iapply (exchange_run X W K c T hT 3 harg6)
  isplitr; · iexact Hctx
  isplitl [HI]; · iexact HI
  isplitl [HO]; · iexact HO
  isplitl [N3]; · iexact N3
  isplitl [L3]; · iexact L3
  isplitl [Hout]; · iexact Hout
  iintro HI HO A3 B3 D3 Hout
  iapply (finish_run c)
  isplitl [HR]; · iexact HR
  iintro HR
  iapply Hk
  unfold Stop
  rw [bigSep_rounds (swapped c), bigSep_rounds (fun r => landAny c r)]
  unfold swapped
  isplitl [HI]; · iexact HI
  isplitl [HR]; · iexact HR
  isplitl [HO]; · iexact HO
  isplitl [Hat]; · iexact Hat
  isplitl [Hc]; · iexact Hc
  isplitl [Hw]; · iexact Hw
  isplitl [A0 B0 A1 B1 A2 B2 A3 B3]
  · isplitl [A0 B0]; · (isplitl [A0] <;> iassumption)
    isplitl [A1 B1]; · (isplitl [A1] <;> iassumption)
    isplitl [A2 B2]; · (isplitl [A2] <;> iassumption)
    isplitl [A3] <;> iassumption
  isplitl [Hb]; · iexact Hb
  isplitl [F0 F1 G0 G1]
  · unfold quad
    isplitl [F0]; · iexact F0
    isplitl [G0]; · iexact G0
    isplitl [F1]; · iexact F1
    iexact G1
  isplitl [D0 D1 D2 D3]
  · isplitl [D0]; · iexact D0
    isplitl [D1]; · iexact D1
    isplitl [D2]; · iexact D2
    iexact D3
  iexact Hout

/-- The kernel on one device. -/
theorem body_run (K : GSem nD τ sig → ℕ) (c : Dev nD) (T : IVec S36 32) (hT : IsTable c T) (harg6 : (outM : Memref sig .tc .vmem S8x128 .f32).IsWhole)
    (Q : PUnit → sProp 𝕄) :
    iprop(ctx X W K c ∗ Start X W c T ∗ (Stop X W c T -∗ |={Set.univ}[frame]=> Q ⟨⟩))
      ⊢ wp frame (wpE (defs₀ (F := F)) 𝒱₀ (c : Thread nD τ) none) Set.univ (body tblM xM wM resM (ringM false) (ringM true) outM harg6 inM (sendS false) (recvS false) (sendS true) (recvS true) cc0_scratch8 cc0_scratch9) Q := by
  unfold Steps.body Start
  iintro ⟨#Hctx, ⟨HI, HR, HO, Hbn, Hcm, Hnd, Hsn, Hfl, HZ, Hld, Hout⟩, Hk⟩
  iapply (start_run X W K c T hT)
  isplitr; · iexact Hctx
  isplitl [HI]; · iexact HI
  isplitl [HO]; · iexact HO
  isplitl [Hbn]; · iexact Hbn
  isplitl [Hnd]; · iexact Hnd
  isplitl [Hfl]; · iexact Hfl
  isplitl [HZ]; · iexact HZ
  isplitl [Hld]; · iexact Hld
  iintro HI HO Ht Hg Hh Hat
  iapply (step0_run X W K c T hT)
  isplitr; · iexact Hctx
  isplitl [HI]; · iexact HI
  isplitl [HO]; · iexact HO
  isplitl [Ht]; · iexact Ht
  isplitl [Hcm]; · iapply (Entails.of_eq (rest_zero (coming c)).symm); iexact Hcm
  isplitl [Hg]; · iexact Hg
  isplitl [Hh]; · iexact Hh
  iintro HM
  iapply (stepsM_run X W K c T hT _ Q 13 0 _ (by omega) rfl)
  isplitr; · iexact Hctx
  isplitl [HM]; · iexact HM
  iintro HM
  iapply (tail_run X W K c T hT harg6)
  isplitr; · iexact Hctx
  isplitl [HM]; · iexact HM
  isplitl [HR]; · iexact HR
  isplitl [Hat]; · iexact Hat
  isplitl [Hsn]; · iexact Hsn
  isplitl [Hout]; · iexact Hout
  iexact Hk

end Cert.KernelIdeal.Run

end
-- ==== Proof.KernelIdeal.Ghost.lean ====
/-
  The launch's share of the protocol: the cells taken together, the duties dealt to those who do them, the credit, the rings' places.
-/
module

public import proofs.«01_k».proof.Proof.KernelIdeal.Run
public import Idealize.ShloMosaic.Lib.Pipeline.RegionTalk
public import Idealize.ShloMosaic.Lib.Ring

@[expose] public section

set_option maxRecDepth 20000

noncomputable section

namespace Cert.KernelIdeal.Ghost

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks Cert.KernelIdeal.Moves Cert.KernelIdeal.Finale Cert.KernelIdeal.Run

variable {F : FTy → Type} [FloatOps F]

local notation "𝕄" => MT nD τ sig Unit (Elt F) ℕ UU ℕ

variable (X : Dev nD → Vec F S4096x256 .f32) (W : Dev nD → Vec F S256x2048 .f32)

/-! ## The cells but the barrier, taken together -/

abbrev Own : Type := (Bool × Bool × Fin 15 × Fin 2) ⊕ (Bool × Fin 4)

theorem bool_two (Φ : Bool → sProp 𝕄) : bigSep Finset.univ Φ = iprop(Φ false ∗ Φ true) :=
  bigSep_univ_eq_bigSepL [false, true] (by decide) (by decide) Φ

theorem eq_of {P Q : sProp 𝕄} (h : P ⊢ Q) (h' : Q ⊢ P) : P = Q := BI.equiv_iff.mp ⟨h, h'⟩

theorem shuffle (a b c d : sProp 𝕄) : (iprop((a ∗ b) ∗ (c ∗ d)) : sProp 𝕄) = iprop(a ∗ c ∗ b ∗ d) := by
  refine eq_of ?_ ?_
  · iintro ⟨⟨A, B⟩, C, D⟩
    isplitl [A]; · iexact A
    isplitl [C]; · iexact C
    isplitl [B] <;> iassumption
  · iintro ⟨A, C, B, D⟩
    isplitl [A B]
    · isplitl [A] <;> iassumption
    · isplitl [C] <;> iassumption

theorem assoc (a b c : sProp 𝕄) : (iprop((a ∗ b) ∗ c) : sProp 𝕄) = iprop(a ∗ b ∗ c) := by
  refine eq_of ?_ ?_
  · iintro ⟨⟨A, B⟩, C⟩
    isplitl [A]; · iexact A
    isplitl [B] <;> iassumption
  · iintro ⟨A, B, C⟩
    isplitr [C]
    · isplitl [A] <;> iassumption
    · iexact C

theorem steps_quad {n : ℕ} (Φ : Bool → Fin n → Fin 2 → sProp 𝕄) :
    (bigSep Finset.univ fun k : Bool => bigSep Finset.univ fun x : Fin n × Fin 2 => Φ k x.1 x.2) = bigSep Finset.univ fun s : Fin n => quad fun k p => Φ k s p := by
  rw [bool_two, bigSep_univ_prod, bigSep_univ_prod, ← bigSep_sep']
  refine bigSep_congr fun s _ => ?_
  rw [bigSep_fin_two, bigSep_fin_two]
  exact shuffle _ _ _ _

/-- Over the cells: the sends, the receives, the sends of maxima, their receives. -/
theorem own_cells (Φ : Own → sProp 𝕄) : bigSep Finset.univ Φ
    = iprop((bigSep Finset.univ fun s : Fin 15 => quad fun k p => Φ (.inl (false, k, s, p)))
      ∗ (bigSep Finset.univ fun s : Fin 15 => quad fun k p => Φ (.inl (true, k, s, p)))
      ∗ (bigSep Finset.univ fun r : Fin 4 => Φ (.inr (false, r))) ∗ bigSep Finset.univ fun r : Fin 4 => Φ (.inr (true, r))) := by
  rw [bigSep_univ_sum, bigSep_univ_prod, bigSep_univ_prod, bool_two, bool_two, bigSep_univ_prod, bigSep_univ_prod]
  rw [← steps_quad (fun k s p => Φ (.inl (false, k, s, p))), ← steps_quad (fun k s p => Φ (.inl (true, k, s, p)))]
  exact assoc _ _ _

theorem quad_sep (Φ Ψ : Bool → Fin 2 → sProp 𝕄) : (quad fun k p => iprop(Φ k p ∗ Ψ k p)) = iprop(quad Φ ∗ quad Ψ) := by
  unfold quad
  beta_reduce
  refine eq_of ?_ ?_
  · iintro ⟨⟨A0, B0⟩, ⟨A1, B1⟩, ⟨A2, B2⟩, ⟨A3, B3⟩⟩
    isplitl [A0 A1 A2 A3]
    · isplitl [A0]; · iexact A0
      isplitl [A1]; · iexact A1
      isplitl [A2] <;> iassumption
    · isplitl [B0]; · iexact B0
      isplitl [B1]; · iexact B1
      isplitl [B2] <;> iassumption
  · iintro ⟨⟨A0, A1, A2, A3⟩, B0, B1, B2, B3⟩
    isplitl [A0 B0]; · (isplitl [A0] <;> iassumption)
    isplitl [A1 B1]; · (isplitl [A1] <;> iassumption)
    isplitl [A2 B2]; · (isplitl [A2] <;> iassumption)
    isplitl [A3] <;> iassumption

theorem steps_sep {n : ℕ} (Φ Ψ : Fin n → Bool → Fin 2 → sProp 𝕄) :
    (bigSep Finset.univ fun s : Fin n => quad fun k p => iprop(Φ s k p ∗ Ψ s k p))
      = iprop((bigSep Finset.univ fun s : Fin n => quad (Φ s)) ∗ bigSep Finset.univ fun s : Fin n => quad (Ψ s)) := by
  rw [← bigSep_sep']
  exact bigSep_congr fun s _ => quad_sep _ _

theorem swap_sides {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1)]
  exact bigSep_univ_equiv (Equiv.prodComm B A) _

/-! ## Duties -/

/-- Who pays a cell of device `c` is device `d` with `dest y d = c`. -/
def dest : Own → Dev nD ≃ Dev nD
  | .inl (true, k, _, _) => ⟨nxt k, prv k, prv_nxt k, nxt_prv k⟩
  | .inr (true, r) => ⟨mate r, mate r, mate_mate r, mate_mate r⟩
  | _ => Equiv.refl _
def back (k : Bool) : Dev nD ≃ Dev nD := ⟨prv k, nxt k, nxt_prv k, prv_nxt k⟩

def barEmb : Dev nD ↪ GSem nD τ sig := ⟨fun c => cell c bar, fun _ _ h => congrArg (fun g : GSem nD τ sig => g.1.1) h⟩
theorem cell_inj (c d : Dev nD) (x y : Cell) (h : cell c x = cell d y) : c = d ∧ x = y :=
  ⟨congrArg (fun g : GSem nD τ sig => g.1.1) h, cellSem_inj (congrArg Prod.snd h)⟩
def scEmb : Dev nD × Own ↪ GSem nD τ sig := ⟨fun cy => cell cy.1 (some cy.2), fun a b h => by
  have e := cell_inj _ _ _ _ h
  exact Prod.ext e.1 (Option.some.inj e.2)⟩
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨cy, -, h⟩ := Finset.mem_map.mp h₂
  exact absurd (cell_inj _ _ _ _ h).2 (by simp)

def tokOf : Dev nD × (Bool ⊕ Own) → GSem nD τ sig × ℕ × Bool
  | (c, .inl k) => (cell c bar, 0, k)
  | (c, .inr y) => (cell c (some y), 0, false)
theorem tokOf_inj : Function.Injective tokOf := by
  rintro ⟨c, k | y⟩ ⟨d, k' | y'⟩ h
  · have e := cell_inj _ _ _ _ (congrArg Prod.fst h)
    have e2 : k = k' := congrArg (fun t : GSem nD τ sig × ℕ × Bool => t.2.2) h
    rw [e.1, e2]
  · have e := (cell_inj _ _ _ _ (congrArg Prod.fst h)).2
    exact absurd e (by simp)
  · have e := (cell_inj _ _ _ _ (congrArg Prod.fst h)).2
    exact absurd e (by simp)
  · have e := cell_inj _ _ _ _ (congrArg Prod.fst h)
    rw [e.1, Option.some.inj e.2]
def toks : Finset (GSem nD τ sig × ℕ × Bool) := Finset.univ.map ⟨tokOf, tokOf_inj⟩

/-- The tokens of the duties a device does. -/
def tokNeed (c : Dev nD) : sProp 𝕄 :=
  iprop((dutyTok ER (cell (prv false c) bar) 0 false ∗ dutyTok ER (cell (prv true c) bar) 0 true)
    ∗ bigSep Finset.univ fun y : Own => dutyTok ER (cell (dest y c) (some y)) 0 false)

theorem toks_eq : (bigSep toks fun x => (dutyTok ER x.1 x.2.1 x.2.2 : sProp 𝕄)) = bigSep Finset.univ fun c : Dev nD => tokNeed c := by
  unfold toks tokNeed
  rw [bigSep_map, bigSep_univ_prod, bigSep_sep', bigSep_sep', swap_sides (fun (c : Dev nD) (y : Own) => dutyTok ER (cell (dest y c) (some y)) 0 false)]
  rw [show (bigSep Finset.univ fun c : Dev nD => (dutyTok ER (cell (prv false c) bar) 0 false : sProp 𝕄)) = bigSep Finset.univ fun c : Dev nD => dutyTok ER (cell c bar) 0 false from
      (bigSep_univ_equiv (back false) (fun c : Dev nD => (dutyTok ER (cell c bar) 0 false : sProp 𝕄))).symm,
    show (bigSep Finset.univ fun c : Dev nD => (dutyTok ER (cell (prv true c) bar) 0 true : sProp 𝕄)) = bigSep Finset.univ fun c : Dev nD => dutyTok ER (cell c bar) 0 true from
      (bigSep_univ_equiv (back true) (fun c : Dev nD => (dutyTok ER (cell c bar) 0 true : sProp 𝕄))).symm,
    show (bigSep Finset.univ fun y : Own => bigSep Finset.univ fun c : Dev nD => (dutyTok ER (cell (dest y c) (some y)) 0 false : sProp 𝕄))
        = bigSep Finset.univ fun y : Own => bigSep Finset.univ fun c : Dev nD => dutyTok ER (cell c (some y)) 0 false from
      bigSep_congr fun y _ => (bigSep_univ_equiv (dest y) (fun c : Dev nD => (dutyTok ER (cell c (some y)) 0 false : sProp 𝕄))).symm,
    ← swap_sides (fun (c : Dev nD) (y : Own) => (dutyTok ER (cell c (some y)) 0 false : sProp 𝕄)), ← bigSep_sep', ← bigSep_sep']
  refine bigSep_congr fun c _ => ?_
  rw [bigSep_univ_sum, bool_two]
  rfl

/-! ## The launch credit -/

theorem owed_cell (d c : Dev nD) (x : Cell) : owe d 0 (cell c x) () = ∑ o : Debt, if debtCell d o = (c, x) then amountOf x else 0 := by
  unfold owe
  rw [Finset.filter_true_of_mem fun o _ => Nat.zero_le _, Finset.sum_apply, Finsupp.finset_sum_apply]
  refine Finset.sum_congr rfl fun o _ => ?_
  unfold debt
  rw [tallyAt_apply]
  by_cases h : debtCell d o = (c, x)
  · rw [if_pos h, if_pos ⟨by rw [h], rfl⟩, h]
  · rw [if_neg h, if_neg]
    rintro ⟨e, -⟩
    have e' := cell_inj _ _ _ _ e
    exact h (Prod.ext e'.1.symm e'.2.symm)

/-- The device that owes debt `o` to device `c`. -/
def debtor (c : Dev nD) : Debt → Dev nD
  | .inl k => nxt k c
  | .inr (.inl (k, _, _)) => prv k c
  | .inr (.inr r) => mate r c
def kind (o : Debt) : Cell := (debtCell 0 o).2
theorem debt_iff (d c : Dev nD) (o : Debt) (x : Cell) : debtCell d o = (c, x) ↔ d = debtor c o ∧ kind o = x := by
  rcases o with k | ⟨k, s, p⟩ | r
  · constructor
    · intro h
      exact ⟨by rw [← (Prod.mk.inj h).1]; exact (nxt_prv k d).symm, (Prod.mk.inj h).2⟩
    · rintro ⟨rfl, rfl⟩; exact Prod.ext (prv_nxt k c) rfl
  · constructor
    · intro h
      exact ⟨by rw [← (Prod.mk.inj h).1]; exact (prv_nxt k d).symm, (Prod.mk.inj h).2⟩
    · rintro ⟨rfl, rfl⟩; exact Prod.ext (nxt_prv k c) rfl
  · constructor
    · intro h
      exact ⟨by rw [← (Prod.mk.inj h).1]; exact (mate_mate r d).symm, (Prod.mk.inj h).2⟩
    · rintro ⟨rfl, rfl⟩; exact Prod.ext (mate_mate r c) rfl

theorem owed_all (c : Dev nD) (x : Cell) : (∑ d : Dev nD, owe d 0 (cell c x) ()) = ∑ o : Debt, if kind o = x then amountOf x else 0 := by
  simp only [owed_cell]
  rw [Finset.sum_comm]
  refine Finset.sum_congr rfl fun o _ => ?_
  simp only [debt_iff]
  by_cases h : kind o = x
  · simp only [h, and_true, if_true]
    rw [Finset.sum_ite_eq' Finset.univ (debtor c o) fun _ => amountOf x, if_pos (Finset.mem_univ _)]
  · simp only [h, and_false, if_false, Finset.sum_const_zero]

theorem owed_bar : (∑ o : Debt, if kind o = bar then amountOf bar else 0) = 2 := by
  rw [Fintype.sum_sum_type]
  have e : ∀ o, kind (.inr o) ≠ bar := fun o => by rcases o with ⟨k, s, p⟩ | r <;> exact fun h => by cases h
  rw [Finset.sum_eq_zero (s := (Finset.univ : Finset ((Bool × Fin 15 × Fin 2) ⊕ Fin 4))) fun o _ => if_neg (e o)]
  rw [Finset.sum_congr rfl fun (k : Bool) _ => if_pos (show kind (.inl k) = bar from rfl)]
  rfl

theorem owed_one (o₀ : Debt) (h : ∀ o, kind o = kind o₀ → o = o₀) : (∑ o : Debt, if kind o = kind o₀ then amountOf (kind o₀) else 0) = amountOf (kind o₀) := by
  rw [Finset.sum_eq_single o₀ (fun o _ hne => if_neg fun e => hne (h o e)) (fun h => absurd (Finset.mem_univ _) h), if_pos rfl]
theorem kind_rcv (k : Bool) (s : Fin 15) (p : Fin 2) (o : Debt) (h : kind o = rcv k s p) : o = .inr (.inl (k, s, p)) := by
  rcases o with k' | ⟨k', s', p'⟩ | r <;> cases h
  rfl
theorem kind_amr (r : Fin 4) (o : Debt) (h : kind o = amr r) : o = .inr (.inr r) := by
  rcases o with k' | ⟨k', s', p'⟩ | r' <;> cases h
  rfl

/-- The credit of a device's cell: of one that receives, its round's. -/
def credOf (c : Dev nD) : Own → sProp 𝕄
  | .inl (true, k, s, p) => cred (tallyAt (cell c (rcv k s p)) () (amountOf (rcv k s p)))
  | .inr (true, r) => cred (tallyAt (cell c (amr r)) () (amountOf (amr r)))
  | _ => iprop(emp)

abbrev O₀ (c : Dev nD) : CellTallies nD τ sig Unit := owe c 0

theorem launch_cell (c : Dev nD) (x : Cell) (n : ℕ) (h : (∑ o : Debt, if kind o = x then amountOf x else 0) = n) :
    tallyOn (cell c x) (launchCredit (Pipeline.owing O₀) 0 (cell c x)) = (tallyAt (cell c x) () n : CellTallies nD τ sig Unit) := by
  unfold tallyAt; refine congrArg _ (Finsupp.ext fun u => ?_); cases u
  rw [Pipeline.launchCredit_owing, Finsupp.single_eq_same, owed_all, h]

theorem cred_own (c : Dev nD) (y : Own) :
    (cred (tallyOn (cell c (some y)) (launchCredit (Pipeline.owing O₀) 0 (cell c (some y)))) : sProp 𝕄) ⊢ credOf c y := by
  rcases y with ⟨v, k, s, p⟩ | ⟨v, r⟩ <;> cases v
  · iintro -; unfold credOf; iempintro
  · rw [launch_cell c (rcv k s p) _ (owed_one (.inr (.inl (k, s, p))) (kind_rcv k s p))]; exact .refl
  · iintro -; unfold credOf; iempintro
  · rw [launch_cell c (amr r) _ (owed_one (.inr (.inr r)) (kind_amr r))]; exact .refl

def ownEmb : Own ↪ SemLoc sig := ⟨fun y => cellSem (some y), fun _ _ h => Option.some.inj (cellSem_inj h)⟩

theorem creds (c : Dev nD) : (Pipeline.launchCred O₀ c : sProp 𝕄) ⊢ iprop(cred (tallyAt (cell c bar) () 2) ∗ bigSep Finset.univ fun y : Own => credOf c y) := by
  unfold Pipeline.launchCred
  rw [bigSep_univ_at _ (SemLoc.reg barS)]
  refine BI.sep_mono (Entails.of_eq (congrArg cred (launch_cell c bar 2 owed_bar))) ?_
  refine (bigSep_subset (t := Finset.univ.map ownEmb) fun sm h => ?_).trans ?_
  · obtain ⟨y, -, rfl⟩ := Finset.mem_map.mp h
    exact Finset.mem_erase.mpr ⟨fun h => (by cases y <;> exact nomatch h), Finset.mem_univ _⟩
  · rw [bigSep_map]
    exact bigSep_mono fun y _ => cred_own c y

/-! ## The rings' places -/

theorem half_some (k : Bool) (c : Dev nD) (f : Buf (Elt F) ((ringM k).view.loc (c : Thread nD τ))) (h : Half) :
    ((ringM k).view.loc (c : Thread nD τ) ↦[halfSet (ringM k) h]{fullShare} f) ⊢ (halfAny k c h.1 h.2 : sProp 𝕄) := by
  unfold halfAny
  exact exists_intro (Φ := fun f => ((hM k h.1 h.2).view.loc (c : Thread nD τ) ↦[(hM k h.1 h.2).view.set]{fullShare} f : sProp 𝕄)) f
theorem land_some (c : Dev nD) (f : Buf (Elt F) (inM.view.loc (c : Thread nD τ))) (r : Fin 4) :
    (inM.view.loc (c : Thread nD τ) ↦[amaxSet inM r]{fullShare} f) ⊢ (landAny c r : sProp 𝕄) := by
  unfold landAny
  exact exists_intro (Φ := fun f => ((aM r).view.loc (c : Thread nD τ) ↦[(aM r).view.set]{fullShare} f : sProp 𝕄)) f

theorem halves_split (k : Bool) (c : Dev nD) (f : Buf (Elt F) ((ringM k).view.loc (c : Thread nD τ))) :
    ((ringM k).view.loc (c : Thread nD τ) ↦{fullShare} f) ⊢ (bigSep Finset.univ fun h : Half => halfAny k c h.1 h.2 : sProp 𝕄) := by
  have hc : Finset.univ.biUnion (halfSet (ringM k)) = Finset.univ := by
    rw [halfSet_cover]; cases k <;> exact View.set_whole _
  refine (Entails.of_eq (Idealize.ShloMosaic.Ring.pointsTo_blocks (ℓ := (ringM k).view.loc (c : Thread nD τ)) (halfSet (ringM k)) (fun b b' h => halfSet_disjoint (ringM k) b b' h) hc f)).trans ?_
  exact bigSep_mono fun h _ => half_some k c f h

theorem halves_join (k : Bool) (c : Dev nD) (f₀ : Buf (Elt F) ((ringM k).view.loc (c : Thread nD τ))) :
    (bigSep Finset.univ fun h : Half => halfAny k c h.1 h.2 : sProp 𝕄)
      ⊢ iprop(∃ f : Buf (Elt F) ((ringM k).view.loc (c : Thread nD τ)), (ringM k).view.loc (c : Thread nD τ) ↦{fullShare} f) := by
  have hc : Finset.univ.biUnion (halfSet (ringM k)) = Finset.univ := by
    rw [halfSet_cover]; cases k <;> exact View.set_whole _
  exact Idealize.ShloMosaic.Ring.pointsTo_blocks_join_exists (ℓ := (ringM k).view.loc (c : Thread nD τ)) (halfSet (ringM k)) (fun b b' h => halfSet_disjoint (ringM k) b b' h) hc f₀

/-- Every half of every slot of the two rings. -/
def places (c : Dev nD) : sProp 𝕄 := bigSep Finset.univ fun s : Fin 16 => quad fun k p => halfAny k c s p

theorem places_eq (c : Dev nD) : (places c : sProp 𝕄)
    = iprop((bigSep Finset.univ fun h : Half => halfAny false c h.1 h.2) ∗ bigSep Finset.univ fun h : Half => halfAny true c h.1 h.2) := by
  unfold places
  rw [← steps_quad (fun k (s : Fin 16) p => halfAny k c s p), bool_two]

theorem places_first (c : Dev nD) : (places c : sProp 𝕄) = iprop((quad fun k p => halfAny k c 0 p) ∗ bigSep Finset.univ (filled c)) := by
  unfold places filled
  rw [Fin.univ_succ, Finset.cons_eq_insert, bigSep_insert (by simp [Fin.succ_ne_zero]), bigSep_map]
  rfl

theorem places_last (c : Dev nD) : (places c : sProp 𝕄) = iprop((quad fun k p => halfAny k c 15 p) ∗ bigSep Finset.univ (Moves.back c)) := by
  unfold places
  rw [Fin.univ_castSuccEmb, Finset.cons_eq_insert, bigSep_insert (by simpa using fun x : Fin 15 => Fin.castSucc_ne_last x), bigSep_map]
  rfl

theorem lands_split (c : Dev nD) (f : Buf (Elt F) (inM.view.loc (c : Thread nD τ))) :
    (inM.view.loc (c : Thread nD τ) ↦{fullShare} f) ⊢ (bigSep Finset.univ fun r : Fin 4 => landAny c r : sProp 𝕄) := by
  have hc : Finset.univ.biUnion (amaxSet inM) = Finset.univ := by rw [amaxSet_cover]; exact View.set_whole _
  refine (Entails.of_eq (Idealize.ShloMosaic.Ring.pointsTo_blocks (ℓ := inM.view.loc (c : Thread nD τ)) (amaxSet inM) (fun b b' h => amaxSet_disjoint inM b b' h) hc f)).trans ?_
  exact bigSep_mono fun r _ => land_some c f r

theorem lands_join (c : Dev nD) (f₀ : Buf (Elt F) (inM.view.loc (c : Thread nD τ))) :
    (bigSep Finset.univ fun r : Fin 4 => landAny c r : sProp 𝕄)
      ⊢ iprop(∃ f : Buf (Elt F) (inM.view.loc (c : Thread nD τ)), inM.view.loc (c : Thread nD τ) ↦{fullShare} f) := by
  have hc : Finset.univ.biUnion (amaxSet inM) = Finset.univ := by rw [amaxSet_cover]; exact View.set_whole _
  exact Idealize.ShloMosaic.Ring.pointsTo_blocks_join_exists (ℓ := inM.view.loc (c : Thread nD τ)) (amaxSet inM) (fun b b' h => amaxSet_disjoint inM b b' h) hc f₀

/-! ## The cells put to use, and closed -/

variable (X : Dev nD → FVec F S4096x256 .f32) (W : Dev nD → FVec F S256x2048 .f32)

abbrev osem (y : Own) : SemLoc sig := cellSem (some y)

theorem own_sems (c : Dev nD) : (Pipeline.ownSems0 osem c : sProp 𝕄) = bigSep Finset.univ fun y : Own => semVal (cell c (some y)) 0 := rfl

theorem open_one (K : GSem nD τ sig → ℕ) (c : Dev nD) (y : Own) :
    iprop(invs X W K ∗ (openTok ER (cell c (some y)) ∗ semVal (cell c (some y)) 0))
      ⊢ (|={Set.univ}=> iprop(atPos ER (cell c (some y)) 0 ∅ 0 ∗ reached ER (cell c (some y)) 0) : sProp 𝕄) := by
  iintro ⟨#HI, Ho, Hs⟩
  ihave #Hc := (inv_at X W K c (some y)) $$ HI
  iapply (Rounds.cell_open ER (Rd X W) (g := cell c (some y)) (Set.mem_univ (K (cell c (some y)))))
  isplitr; · iexact Hc
  isplitl [Ho] <;> iassumption

theorem open_all (K : GSem nD τ sig → ℕ) (c : Dev nD) :
    iprop(invs X W K ∗ (bigSep Finset.univ fun y : Own => openTok ER (cell c (some y))) ∗ Pipeline.ownSems0 osem c)
      ⊢ (|={Set.univ}=> iprop((bigSep Finset.univ fun y : Own => atPos ER (cell c (some y)) 0 ∅ 0) ∗ inUse c) : sProp 𝕄) := by
  rw [own_sems, ← bigSep_sep']
  unfold inUse
  rw [← bigSep_sep']
  exact (bigSep_with_persistent fun y _ => open_one X W K c y).trans (bigSep_fupd _ _)

theorem close_one (K : GSem nD τ sig → ℕ) (c : Dev nD) (x : Cell) :
    iprop(invs X W K ∗ atPos ER (cell c x) (0 + 1) ∅ 0) ⊢ (|={Set.univ}=> semVal (cell c x) 0 : sProp 𝕄) := by
  iintro ⟨#HI, Ha⟩
  ihave #Hc := (inv_at X W K c x) $$ HI
  iapply (Rounds.cell_close ER (Rd X W) (Set.mem_univ (K (cell c x))) id (duties_later X W (cell c x)))
  isplitr; · iexact Hc
  iexact Ha

theorem close_all (K : GSem nD τ sig → ℕ) (c : Dev nD) :
    iprop(invs X W K ∗ bigSep Finset.univ fun y : Own => spent c y) ⊢ (|={Set.univ}=> Pipeline.ownSems0 osem c : sProp 𝕄) := by
  rw [own_sems]
  exact (bigSep_with_persistent fun y _ => close_one X W K c (some y)).trans (bigSep_fupd _ _)

/-- Tokens, places in the rounds and credit, dealt to the steps and the exchanges. -/
theorem deal (c : Dev nD) :
    iprop((bigSep Finset.univ fun y : Own => dutyTok ER (cell (dest y c) (some y)) 0 false)
        ∗ (bigSep Finset.univ fun y : Own => atPos ER (cell c (some y)) 0 ∅ 0) ∗ bigSep Finset.univ fun y : Own => credOf c y)
      ⊢ (iprop(bigSep Finset.univ (coming c) ∗ bigSep Finset.univ (need c) ∗ bigSep Finset.univ (swapNeed c)) : sProp 𝕄) := by
  have e1 : (bigSep Finset.univ (coming c) : sProp 𝕄) = iprop((bigSep Finset.univ fun s : Fin 15 => quad fun k p => credOf c (.inl (true, k, s, p)))
      ∗ bigSep Finset.univ fun s : Fin 15 => quad fun k p => atPos ER (cell c (some (.inl (true, k, s, p)))) 0 ∅ 0) :=
    steps_sep (fun s k p => credOf c (.inl (true, k, s, p))) (fun s k p => atPos ER (cell c (some (.inl (true, k, s, p)))) 0 ∅ 0)
  have e2 : (bigSep Finset.univ (need c) : sProp 𝕄) = iprop((bigSep Finset.univ fun s : Fin 15 => quad fun k p => dutyTok ER (cell (dest (.inl (false, k, s, p)) c) (some (.inl (false, k, s, p)))) 0 false)
      ∗ (bigSep Finset.univ fun s : Fin 15 => quad fun k p => dutyTok ER (cell (dest (.inl (true, k, s, p)) c) (some (.inl (true, k, s, p)))) 0 false)
      ∗ bigSep Finset.univ fun s : Fin 15 => quad fun k p => atPos ER (cell c (some (.inl (false, k, s, p)))) 0 ∅ 0) := by
    rw [← steps_sep, ← steps_sep]; rfl
  have e3 : (bigSep Finset.univ (swapNeed c) : sProp 𝕄) = iprop((bigSep Finset.univ fun r : Fin 4 => dutyTok ER (cell (dest (.inr (false, r)) c) (some (.inr (false, r)))) 0 false)
      ∗ (bigSep Finset.univ fun r : Fin 4 => dutyTok ER (cell (dest (.inr (true, r)) c) (some (.inr (true, r)))) 0 false)
      ∗ (bigSep Finset.univ fun r : Fin 4 => atPos ER (cell c (some (.inr (false, r)))) 0 ∅ 0)
      ∗ (bigSep Finset.univ fun r : Fin 4 => credOf c (.inr (true, r)))
      ∗ bigSep Finset.univ fun r : Fin 4 => atPos ER (cell c (some (.inr (true, r)))) 0 ∅ 0) := by
    rw [← bigSep_sep', ← bigSep_sep', ← bigSep_sep', ← bigSep_sep']; rfl
  rw [e1, e2, e3, own_cells, own_cells, own_cells]
  iintro ⟨⟨T1, T2, T3, T4⟩, ⟨A1, A2, A3, A4⟩, -, C2, -, C4⟩
  isplitl [C2 A2]; · (isplitl [C2] <;> iassumption)
  isplitl [T1 T2 A1]
  · isplitl [T1]; · iexact T1
    isplitl [T2] <;> iassumption
  isplitl [T3]; · iexact T3
  isplitl [T4]; · iexact T4
  isplitl [A3]; · iexact A3
  isplitl [C4] <;> iassumption

/-- The places in the rounds after the body, gathered. -/
theorem gather (c : Dev nD) :
    iprop(bigSep Finset.univ (came c) ∗ bigSep Finset.univ (went c) ∗ bigSep Finset.univ (swapped c)) ⊢ (bigSep Finset.univ fun y : Own => spent c y : sProp 𝕄) := by
  have e : (bigSep Finset.univ (swapped c) : sProp 𝕄) = iprop((bigSep Finset.univ fun r : Fin 4 => spent c (.inr (false, r))) ∗ bigSep Finset.univ fun r : Fin 4 => spent c (.inr (true, r))) := by
    rw [← bigSep_sep']; rfl
  rw [own_cells, e]
  iintro ⟨H1, H2, H3, H4⟩
  isplitl [H2]; · iexact H2
  isplitl [H1]; · iexact H1
  isplitl [H3] <;> iassumption

/-- What every device may consult. -/
def records (K : GSem nD τ sig → ℕ) : sProp 𝕄 := iprop(invs X W K ∗ bigSep Finset.univ fun c : Dev nD => reached ER (cell c bar) 0)
instance records_persistent (K : GSem nD τ sig → ℕ) : BI.Persistent (records X W K) := by unfold records; infer_instance

/-- What a device holds of the protocol before the body. -/
def asleep (c : Dev nD) : sProp 𝕄 :=
  iprop(∃ K, records X W K ∗ atPos ER (cell c bar) 0 ∅ 0 ∗ (bigSep Finset.univ fun y : Own => openTok ER (cell c (some y))) ∗ tokNeed c
    ∗ cred (tallyAt (cell c bar) () 2) ∗ bigSep Finset.univ fun y : Own => credOf c y)
def awake (c : Dev nD) : sProp 𝕄 :=
  iprop(∃ K, ctx X W K c ∗ barNeed c ∗ bigSep Finset.univ (coming c) ∗ bigSep Finset.univ (need c) ∗ bigSep Finset.univ (swapNeed c))

theorem reached_at (c : Dev nD) : (bigSep Finset.univ fun c : Dev nD => reached ER (cell c bar) 0 : sProp 𝕄) ⊢ reached ER (cell c bar) 0 :=
  bigSep_elim (Φ := fun c : Dev nD => (reached ER (cell c bar) 0 : sProp 𝕄)) (Finset.mem_univ c)

theorem wake (c : Dev nD) : iprop(asleep X W c ∗ Pipeline.ownSems0 osem c ∗ levAts L lv) ⊢ (|={Set.univ}=> awake X W c : sProp 𝕄) := by
  unfold asleep awake records tokNeed barNeed ctx
  iintro ⟨⟨%K, ⟨#HI, #HR⟩, Hat, Ho, ⟨⟨Hb0, Hb1⟩, HT⟩, Hc, HC⟩, Hs, #Hl⟩
  imod (open_all X W K c) $$ [Ho Hs] with ⟨HA, #Hu⟩
  · isplitr; · iexact HI
    isplitl [Ho] <;> iassumption
  imodintro
  iexists K
  isplitr
  · isplitr; · iexact HI
    isplitr; · iexact Hl
    iexact Hu
  isplitl [Hb0 Hb1 Hc Hat]
  · isplitl [Hb0]
    · isplitl [Hb0]; · iexact Hb0
      iapply (reached_at (prv false c)); iexact HR
    isplitl [Hb1]
    · isplitl [Hb1]; · iexact Hb1
      iapply (reached_at (prv true c)); iexact HR
    isplitl [Hc] <;> iassumption
  iapply (deal c)
  isplitl [HT]; · iexact HT
  isplitl [HA] <;> iassumption

end Cert.KernelIdeal.Ghost

end
-- ==== Proof.KernelIdeal.Region.lean ====
/-
  The kernel as a region of the host's program: what each window holds, the body between its entry and its exit.
-/
module

public import proofs.«01_k».proof.Proof.KernelIdeal.Ghost
public import proofs.«01_k».proof.Proof.KernelIdeal.Table
public import proofs.«01_k».proof.Proof.Gen.KernelIdeal.Points
public import Idealize.ShloMosaic.Lib.Pipeline.ValueKit

@[expose] public section

set_option maxRecDepth 20000

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks Cert.KernelIdeal.Words Cert.KernelIdeal.Moves Cert.KernelIdeal.Finale Cert.KernelIdeal.Run Cert.KernelIdeal.Ghost

variable {F : FTy → Type} [FloatOps F]

local notation "𝕄" => MT nD τ sig Unit (Elt F) ℕ UU ℕ

variable (X : Dev nD → Vec F S4096x256 .f32) (W : Dev nD → Vec F S256x2048 .f32)

open Idealize.ShloMosaic.Pipeline

variable (m : (ℓ : Loc nD τ sig) → Buf (Elt F) ℓ)

/-! ## What the windows hold -/

/-- The unscoped buffers when the kernel starts. -/
@[irreducible] def entry (c : Dev nD) : Valuation τ sig (Elt F) := V65 m c
theorem entry_eq (c : Dev nD) : entry m c = V65 m c := by unfold entry; rfl

abbrev xV (c : Dev nD) : FVec F S4096x256 .f32 := entry m c (Proc.devRef .tc main_arg0)
abbrev wV (c : Dev nD) : FVec F S256x2048 .f32 := entry m c (Proc.devRef .tc main_arg1)
abbrev tV (c : Dev nD) : IVec S36 32 := entry m c (Proc.devRef .tc main_v307)

theorem tV_table (c : Dev nD) : IsTable c (tV m c) := fun j => by
  rw [show tV m c = (V65 m c (Proc.devRef .tc main_v307) : IVec S36 32) from congrArg (fun v : Valuation τ sig (Elt F) => (v (Proc.devRef .tc main_v307) : IVec S36 32)) (entry_eq m c)]
  exact Host.table m c j

/-- The unscoped buffers when it ends: the result's array holds the result. -/
def leave (c : Dev nD) : Valuation τ sig (Elt F) := Function.update (entry m c) (Proc.devRef .tc main_v308) (resV (xV m) (wV m) c)

def early (c : Dev nD) : sProp 𝕄 := iprop(awake (xV m) (wV m) c ∗ Pipeline.scopedRest spec0 c ∗ ∃ r, prngReg c r)
def late (c : Dev nD) : sProp 𝕄 := iprop((semVal (cell c bar) 0 ∗ Pipeline.ownSems0 osem c) ∗ Pipeline.scopedRest spec0 c ∗ ∃ r, prngReg c r)

def dats (_ : Fin 1) (c : Dev nD) : Dat τ (Elt F) Unit ℕ UU ℕ cfg0 c where
  A w := entry m c (Proc.devRef .tc (arrRef spec0 w))
  after w _ := match w with
    | ⟨0, _⟩ => tV m c
    | ⟨1, _⟩ => xV m c
    | ⟨2, _⟩ => wV m c
    | ⟨3, _⟩ => resV (xV m) (wV m) c
  Φ t := match t with
    | ⟨0, _⟩ => early m c
    | ⟨_ + 1, _⟩ => late c
  q _ := fullShare
  owed t := match t with
    | ⟨0, _⟩ => owe c 0
    | ⟨_ + 1, _⟩ => 0

theorem windows (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_all (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The scratch buffers -/

theorem room_in (c : Dev nD) : (Pipeline.scopedRest spec0 c : sProp 𝕄)
    ⊢ iprop(bigSep Finset.univ (filled c) ∗ (quad fun k p => halfAny k c 0 p) ∗ (bigSep Finset.univ fun r : Fin 4 => landAny c r) ∗ outAny c) := by
  rw [scopedRest0_eq]
  iintro ⟨⟨%f0, H0⟩, ⟨%f1, H1⟩, ⟨%f2, H2⟩, %f3, H3⟩
  ihave G0 := (show ((c : Thread nD τ).loc cc0_scratch0 ↦{fullShare} f0) ⊢ (_ : sProp 𝕄) from halves_split false c f0) $$ H0
  ihave G1 := (show ((c : Thread nD τ).loc cc0_scratch1 ↦{fullShare} f1) ⊢ (_ : sProp 𝕄) from halves_split true c f1) $$ H1
  ihave G3 := (show ((c : Thread nD τ).loc cc0_scratch3 ↦{fullShare} f3) ⊢ (_ : sProp 𝕄) from lands_split c f3) $$ H3
  ihave Hp := (Entails.of_eq (places_eq c).symm) $$ [G0 G1]
  · isplitl [G0] <;> iassumption
  ihave Hq := (Entails.of_eq (places_first c)) $$ Hp
  icases Hq with ⟨Hz, Hf⟩
  isplitl [Hf]; · iexact Hf
  isplitl [Hz]; · iexact Hz
  isplitl [G3]; · iexact G3
  unfold outAny
  iexists f2
  rw [out_set]
  iexact H2

theorem room_out (c : Dev nD) : iprop(bigSep Finset.univ (Moves.back c) ∗ (quad fun k p => halfAny k c 15 p) ∗ (bigSep Finset.univ fun r : Fin 4 => landAny c r) ∗ outAny c)
    ⊢ (Pipeline.scopedRest spec0 c : sProp 𝕄) := by
  rw [scopedRest0_eq]
  unfold outAny
  iintro ⟨Hb, Hq, Hl, %f2, H2⟩
  rw [out_set]
  ihave Hp := (Entails.of_eq (places_last c).symm) $$ [Hb Hq]
  · isplitl [Hq] <;> iassumption
  ihave Hp := (Entails.of_eq (places_eq c)) $$ Hp
  icases Hp with ⟨G0, G1⟩
  isplitl [G0]; · iapply (halves_join false c (fun _ => default)); iexact G0
  isplitl [G1]; · iapply (halves_join true c (fun _ => default)); iexact G1
  isplitl [H2]; · iexists f2; iexact H2
  iapply (lands_join c (fun _ => default)); iexact Hl

/-! ## The body -/

def bodyPre (c : Dev nD) : sProp 𝕄 :=
  iprop(early m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(late c ∗ (dats m 0 c).owesAt () t0_0.succ ∗ stg c cc0_stg0_0 (tV m c) ∗ stg c cc0_stg1_0 (xV m c) ∗ stg c cc0_stg2_0 (wV m c) ∗ stg c cc0_stg3_0 (resV (xV m) (wV m) c))

theorem index_0 : ∀ a, win0_0.index (0 : Fin 1) a = 0 := by decide
theorem index_1 : ∀ a, win0_1.index (0 : Fin 1) a = 0 := by decide
theorem index_2 : ∀ a, win0_2.index (0 : Fin 1) a = 0 := by decide
theorem fetched_0 (c : Dev nD) (d : (cfg0.win (0 : Fin 4)).block.Idx → Elt F (cfg0.win (0 : Fin 4)).elt) : (dats m 0 c).fetched (0 : Fin 4) t0_0 d = tV m c := by
  funext j
  show (win0_0.blk (0 : Fin 1)).view.read (Elt F) (tV m c) j = tV m c j
  blk_ext [index_0]
theorem fetched_1 (c : Dev nD) (d : (cfg0.win (1 : Fin 4)).block.Idx → Elt F (cfg0.win (1 : Fin 4)).elt) : (dats m 0 c).fetched (1 : Fin 4) t0_0 d = xV m c := by
  funext j
  show (win0_1.blk (0 : Fin 1)).view.read (Elt F) (xV m c) j = xV m c j
  blk_ext [index_1]
theorem fetched_2 (c : Dev nD) (d : (cfg0.win (2 : Fin 4)).block.Idx → Elt F (cfg0.win (2 : Fin 4)).elt) : (dats m 0 c).fetched (2 : Fin 4) t0_0 d = wV m c := by
  funext j
  show (win0_2.blk (0 : Fin 1)).view.read (Elt F) (wV m c) j = wV m c j
  blk_ext [index_2]
theorem before_0 (c : Dev nD) (d : (cfg0.win (0 : Fin 4)).block.Idx → Elt F (cfg0.win (0 : Fin 4)).elt) : (dats m 0 c).before (0 : Fin 4) t0_0 d = tV m c := by
  unfold Dat.before; rw [if_pos (fetch0_0 t0_0)]; exact fetched_0 m c d
theorem before_1 (c : Dev nD) (d : (cfg0.win (1 : Fin 4)).block.Idx → Elt F (cfg0.win (1 : Fin 4)).elt) : (dats m 0 c).before (1 : Fin 4) t0_0 d = xV m c := by
  unfold Dat.before; rw [if_pos (fetch0_1 t0_0)]; exact fetched_1 m c d
theorem before_2 (c : Dev nD) (d : (cfg0.win (2 : Fin 4)).block.Idx → Elt F (cfg0.win (2 : Fin 4)).elt) : (dats m 0 c).before (2 : Fin 4) t0_0 d = wV m c := by
  unfold Dat.before; rw [if_pos (fetch0_2 t0_0)]; exact fetched_2 m c d

/-- After the body: the cells close, the scratch buffers are whole again. -/
theorem settle (K : GSem nD τ sig → ℕ) (c : Dev nD) :
    iprop(ctx (xV m) (wV m) K c ∗ Stop (xV m) (wV m) c (tV m c) ∗ ∃ r, prngReg c r) ⊢ (|={Set.univ}=> bodyPost m c : sProp 𝕄) := by
  unfold ctx Stop ins
  iintro ⟨⟨#HI, -⟩, ⟨⟨Ht, Hx, Hw⟩, Hr, HO, Hbar, Hcm, Hwn, Hsw, Hbk, HZ, Hld, Hout⟩, Hp⟩
  ihave Hsp := (gather c) $$ [Hcm Hwn Hsw]
  · isplitl [Hcm]; · iexact Hcm
    isplitl [Hwn] <;> iassumption
  imod (close_all (xV m) (wV m) K c) $$ [Hsp] with Hown
  · isplitr; · iexact HI
    iexact Hsp
  imod (close_one (xV m) (wV m) K c bar) $$ [Hbar] with Hb
  · isplitr; · iexact HI
    iexact Hbar
  ihave Hsc := (room_out c) $$ [Hbk HZ Hld Hout]
  · isplitl [Hbk]; · iexact Hbk
    isplitl [HZ]; · iexact HZ
    isplitl [Hld] <;> iassumption
  imodintro
  unfold bodyPost late ow Dat.owesAt Pipeline.owesWithin
  rw [owe_none, show (dats m 0 c).owed t0_0.succ = 0 from rfl]
  isplitl [Hown Hb Hsc Hp]
  · isplitl [Hb Hown]; · (isplitl [Hb] <;> iassumption)
    isplitl [Hsc] <;> iassumption
  isplitl [HO]
  · icases HO with ⟨%Ws, HO⟩
    iexists Ws
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  isplitl [Hw]
  · iexists _; isplitr; · (ipureintro; rfl)
    iexact Hw
  iexists _; isplitr; · (ipureintro; rfl)
  iexact Hr

theorem fupd_end (K : GSem nD τ sig → ℕ) (c : Dev nD) (Q : sProp 𝕄) :
    iprop(ctx (xV m) (wV m) K c ∗ (∃ r, prngReg c r) ∗ (bodyPost m c -∗ Q)) ⊢ (iprop(Stop (xV m) (wV m) c (tV m c) -∗ |={Set.univ}[frame]=> Q) : sProp 𝕄) := by
  iintro ⟨#HC, Hp, Hk⟩ HS
  imod (settle m K c) $$ [HS Hp] with HP
  · isplitr; · iexact HC
    isplitl [HS] <;> iassumption
  imodintro
  iapply Hk; iexact HP

theorem body_sound (c : Dev nD) (Q : PUnit → sProp 𝕄) :
    iprop(bodyPre m c ∗ (bodyPost m c -∗ Q ⟨⟩))
      ⊢ wp frame (wpE (defs₀ (F := F)) 𝒱₀ (c : Thread nD τ) none) Set.univ
          (Steps.body tblM xM wM resM (ringM false) (ringM true) outM (Memref.isWhole_whole _) inM (sendS false) (recvS false) (sendS true) (recvS true) cc0_scratch8 cc0_scratch9) Q := by
  unfold bodyPre early awake
  iintro ⟨⟨⟨⟨%K, #HC, Hbn, Hcm, Hnd, Hsn⟩, Hsc, Hp⟩, Ho, ⟨%d0, %g0, %hg0, Ht⟩, ⟨%d1, %g1, %hg1, Hx⟩, ⟨%d2, %g2, %hg2, Hw⟩, ⟨%d3, %g3, %hg3, Hr⟩⟩, Hk⟩
  have ht : g0 = tV m c := hg0.trans (before_0 m c d0)
  have hx : g1 = xV m c := hg1.trans (before_1 m c d1)
  have hw : g2 = wV m c := hg2.trans (before_2 m c d2)
  subst ht hx hw
  unfold Dat.owesAt Pipeline.owesWithin
  icases Ho with ⟨%Ws, %hW, HO⟩
  rw [show (dats m 0 c).owed t0_0.castSucc = owe c 0 from rfl]
  ihave Hroom := (room_in c) $$ Hsc
  icases Hroom with ⟨Hf, Hz, Hl, Hout⟩
  iapply (body_run (xV m) (wV m) K c (tV m c) (tV_table m c))
  isplitr; · iexact HC
  isplitr [Hp Hk]
  · unfold Start ins ow
    isplitl [Ht Hx Hw]
    · isplitl [Ht]; · iexact Ht
      isplitl [Hx] <;> iassumption
    isplitl [Hr]; · iexists g3; iexact Hr
    isplitl [HO]; · iexists Ws; iexact HO
    isplitl [Hbn]; · iexact Hbn
    isplitl [Hcm]; · iexact Hcm
    isplitl [Hnd]; · iexact Hnd
    isplitl [Hsn]; · iexact Hsn
    isplitl [Hf]; · iexact Hf
    isplitl [Hz]; · iexact Hz
    isplitl [Hl] <;> iassumption
  · iapply (fupd_end m K c)
    isplitr; · iexact HC
    isplitl [Hp] <;> iassumption

theorem body_done (c : Dev nD) : bodyPre m c
    ⊢ wp frame (wpE (defs₀ (F := F)) 𝒱₀ (c : Thread nD τ) none) Set.univ
        (Steps.body tblM xM wM resM (ringM false) (ringM true) outM (Memref.isWhole_whole _) inM (sendS false) (recvS false) (sendS true) (recvS true) cc0_scratch8 cc0_scratch9)
        (fun _ => bodyPost m c) := by
  iintro H
  iapply (body_sound m c fun _ => bodyPost m c)
  isplitl [H]; · iexact H
  iintro H; iexact H

set_option maxRecDepth 65536 in
theorem body_obligation (c : Dev nD) : BodyObligation (dats m 0 c) (defs₀ (F := F)) 𝒱₀ () Set.univ := fun t => by
  rw [fin_N0 t]
  rw [windows, windows]
  simp only [owns_all]
  show bodyPre m c ⊢ wp frame (wpE (defs₀ (F := F)) 𝒱₀ c none) Set.univ
    (cc0_body tblM (Memref.isWhole_whole _) xM (Memref.isWhole_whole _) wM (Memref.isWhole_whole _) resM (Memref.isWhole_whole _)
      (ringM false) (Memref.isWhole_whole _) (ringM true) (Memref.isWhole_whole _) outM (Memref.isWhole_whole _) inM (Memref.isWhole_whole _)
      (sendS false) (recvS false) (sendS true) (recvS true) cc0_scratch8 cc0_scratch9) (fun _ => bodyPost m c)
  have e := Steps.cc0_body_eq_steps (F := F) tblM xM wM resM (ringM false) (ringM true) outM (Memref.isWhole_whole _) inM
    (sendS false) (recvS false) (sendS true) (recvS true) cc0_scratch8 cc0_scratch9
    (Memref.isWhole_whole _) (Memref.isWhole_whole _) (Memref.isWhole_whole _) (Memref.isWhole_whole _) (Memref.isWhole_whole _) (Memref.isWhole_whole _) (Memref.isWhole_whole _)
  exact (body_done m c).trans (Entails.of_eq (congrArg (fun p => wp frame (wpE (defs₀ (F := F)) 𝒱₀ (c : Thread nD τ) none) Set.univ p (fun _ => bodyPost m c)) e.symm))

/-! ## The region -/

theorem sems_facts : Pipeline.OwnSemFacts spec0 osem where
  isScoped := by decide +kernel
  inj := fun _ _ h => Option.some.inj (cellSem_inj h)
  disj := by decide +kernel

theorem share_eq (c : Dev nD) (w : Fin cfg0.W) : (dats m 0 c).share w = fullShare := by unfold Dat.share; split <;> rfl

theorem stage_apart : ∀ (w : Fin 4) (s : Fin (spec0 w).nbuf) (x : Cell), cellSem x ≠ .dma ((spec0 w).sem s) := by decide +kernel
theorem stage_low (w : Fin 4) (s : Fin (spec0 w).nbuf) : decode (.dma ((spec0 w).sem s)) = none :=
  dif_neg fun ⟨x, h⟩ => stage_apart w s x h

theorem owed_high (c : Dev nD) (t : Fin (cfg0.N + 1)) (g : GSem nD τ sig) (i : Unit) (h : 0 < (dats m 0 c).owed t g i) : i ∈ L g ∧ (0 : ℕ) < lv g i := by
  rcases t with ⟨_ | t, ht⟩
  · obtain ⟨o, -, rfl⟩ := owe_pos c 0 g i h
    refine ⟨by rw [L_tc]; exact Finset.mem_singleton_self _, ?_⟩
    rw [lv_cell]
    by_cases h2 : 2 ≤ ord o
    · rw [lvx_debt c o h2]; omega
    · rcases o with k | x | r
      · exact Nat.one_pos
      · exact absurd (by rcases x with ⟨k, s, p⟩; dsimp only [ord]; omega) h2
      · exact absurd (by dsimp only [ord]; omega) h2
  · exact absurd h (Nat.lt_irrefl 0)

theorem leave_ne (c : Dev nD) (b : DevRef τ sig) (h : b ≠ Proc.devRef .tc main_v308) : leave m c b = entry m c b := by
  unfold leave; exact Function.update_of_ne h _ _
theorem leave_res (c : Dev nD) : leave m c (Proc.devRef .tc main_v308) = resV (xV m) (wV m) c := by
  unfold leave; exact Function.update_self _ _ _

theorem array_in (c : Dev nD) (w : Fin 4) : (dats m 0 c).arrAt w 0 = entry m c (Proc.devRef .tc (arrRef spec0 w)) := rfl

theorem res_array (c : Dev nD) : (dats m 0 c).arrAt (3 : Fin 4) cfg0.N = resV (xV m) (wV m) c := by
  refine (dats m 0 c).arrAt_eq_of_after_last (3 : Fin 4) t0_0 (by decide +kernel) _ fun j => ?_
  blk_simp
  rfl

theorem array_out (c : Dev nD) : ∀ w : Fin 4, (dats m 0 c).arrAt w cfg0.N = leave m c (Proc.devRef .tc (arrRef spec0 w))
  | 0 => ((dats m 0 c).arrAt_in (0 : Fin 4) rfl _).trans (leave_ne m c (Proc.devRef .tc main_v307) (by decide)).symm
  | 1 => ((dats m 0 c).arrAt_in (1 : Fin 4) rfl _).trans (leave_ne m c (Proc.devRef .tc main_arg0) (by decide)).symm
  | 2 => ((dats m 0 c).arrAt_in (2 : Fin 4) rfl _).trans (leave_ne m c (Proc.devRef .tc main_arg1) (by decide)).symm
  | 3 => (res_array m c).trans (leave_res m c).symm

/-- The unscoped buffers that are no window's array. -/
abbrev others : Finset (DevRef τ sig) := Pipeline.ucRefs τ sig \ Pipeline.arrRefs (τ := τ) spec0

theorem res_mem : (Proc.devRef .tc main_v308 : DevRef τ sig) ∈ Pipeline.arrRefs (τ := τ) spec0 := by decide +kernel

theorem others_kept (c : Dev nD) (b : DevRef τ sig) (h : b ∈ others \ (∅ : Finset (DevRef τ sig))) : leave m c b = entry m c b :=
  leave_ne m c b fun e => (Finset.mem_sdiff.mp (Finset.mem_sdiff.mp h).1).2 (e ▸ res_mem)

theorem region_in (c : Dev nD) : iprop(Pipeline.scopedRest spec0 c ∗ (∃ r, prngReg c r) ∗ StableHlo.held (c.tc : Thread nD τ) (∅ : Finset (DevRef τ sig)) (entry m c) ∗ awake (xV m) (wV m) c)
    ⊢ (dats m 0 c).Φ 0 := by
  rw [show (dats m 0 c).Φ 0 = early m c from rfl]
  unfold early
  iintro ⟨Hs, Hp, -, Ha⟩
  isplitl [Ha]; · iexact Ha
  isplitl [Hs] <;> iassumption

theorem region_out (c : Dev nD) : (dats m 0 c).Φ (Fin.last cfg0.N)
    ⊢ iprop(Pipeline.scopedRest spec0 c ∗ (∃ r, prngReg c r) ∗ StableHlo.held (c.tc : Thread nD τ) (∅ : Finset (DevRef τ sig)) (leave m c) ∗ Pipeline.ownSems0 osem c ∗ semVal (cell c bar) 0) := by
  rw [show (dats m 0 c).Φ (Fin.last cfg0.N) = late c from rfl]
  unfold late StableHlo.held
  rw [BI.bigSep_empty]
  iintro ⟨⟨Hb, Ho⟩, Hs, Hp⟩
  isplitl [Hs]; · iexact Hs
  isplitl [Hp]; · iexact Hp
  isplitr; · iempintro
  isplitl [Ho] <;> iassumption

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem sems_facts
    ∅ others (Finset.empty_subset _) launch0.toP rfl (fun c => (body_obligation m c).loose)
    (fun _ => 0) O₀ (fun c => (zero_add (O₀ c)).symm) (fun _ => rfl) (fun _ => rfl) (share_eq m)
    (entry m) (leave m) (others_kept m)
    (fun c => asleep (xV m) (wV m) c) (fun c => semVal (cell c bar) 0) (fun c => awake (xV m) (wV m) c) (fun c => semVal (cell c bar) 0)
    (fun c => wake (xV m) (wV m) c) (region_in m) (region_out m)
    (fun c => by iintro H; imodintro; iexact H)
    (fun _ => 0)
    ⟨fun c w s => by rw [L_tc]; exact Finset.mem_singleton_self _,
      fun c w s => by dsimp only [lv]; rw [stage_low w s], fun c t g i h => owed_high m c t g i h⟩
    (fun _ => iprop(emp))
    (fun c w => array_in m c w) (fun c w => array_out m c w)

end Cert.KernelIdeal.Region

end
-- ==== Proof.KernelIdeal.Launch.lean ====
/-
  The run: the launch deals the protocol's state to the devices; every execution ends with the arguments as they were, the result in its array, every counter at zero.
-/
module

public import proofs.«01_k».proof.Proof.KernelIdeal.Region

@[expose] public section

set_option maxRecDepth 20000

noncomputable section

namespace Cert.KernelIdeal.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Steps Cert.KernelIdeal.Memory Cert.KernelIdeal.Ring Cert.KernelIdeal.Protocol Cert.KernelIdeal.Blocks Cert.KernelIdeal.Moves Cert.KernelIdeal.Finale Cert.KernelIdeal.Run Cert.KernelIdeal.Ghost Cert.KernelIdeal.Region

variable {F : FTy → Type} [FloatOps F]

local notation "𝕄" => MT nD τ sig Unit (Elt F) ℕ UU ℕ

variable (X : Dev nD → Vec F S4096x256 .f32) (W : Dev nD → Vec F S256x2048 .f32)

open Idealize.ShloMosaic.Pipeline

variable (m : (ℓ : Loc nD τ sig) → Buf (Elt F) ℓ) (ρ : Dev nD → PrngReg)

/-! ## Around the region -/

/-- What a device holds besides its buffers: before the region, after it. -/
def around : Fin 2 → Dev nD → sProp 𝕄
  | 0, c => iprop(asleep (xV m) (wV m) c ∗ (∃ r, prngReg c r) ∗ ∃ Wd, owes (c : Thread nD τ) (O₀ c) Wd)
  | 1, c => iprop(semVal (cell c bar) 0 ∗ ∃ Wd, owes (c : Thread nD τ) (0 : CellTallies nD τ sig Unit) Wd)

theorem arrays_sub : Pipeline.arrRefs (τ := τ) spec0 ⊆ Pipeline.ucRefs τ sig := Pipeline.arrRefs_sub_ucRefs spec0 (by decide)

theorem region_pre (c : Dev nD) : iprop(StableHlo.held (c : Thread nD τ) (Pipeline.ucRefs τ sig) (V65 m c) ∗ around m 0 c) ⊢ (reg m).pre c := by
  rw [← entry_eq, StableHlo.held_sub_split (c : Thread nD τ) arrays_sub]
  show _ ⊢ iprop(StableHlo.held (c.tc : Thread nD τ) (Pipeline.arrRefs (τ := τ) spec0) (entry m c) ∗ (∃ r, prngReg c r)
    ∗ (StableHlo.held (c.tc : Thread nD τ) others (entry m c) ∗ emp) ∗ asleep (xV m) (wV m) c ∗ ∃ Wd, owes (c : Thread nD τ) (0 + O₀ c) Wd)
  rw [zero_add]
  unfold around
  iintro ⟨⟨Ha, Ho⟩, Hs, Hp, HO⟩
  isplitl [Ha]; · iexact Ha
  isplitl [Hp]; · iexact Hp
  isplitl [Ho]
  · isplitl [Ho]; · iexact Ho
    iempintro
  isplitl [Hs] <;> iassumption

/-- The contents the region leaves. -/
def outs : Gen.Outs (F := F) := fun _ r c => leave m c (Proc.devRef .tc r)
theorem outs_eq (c : Dev nD) : V66 m (outs m) c = leave m c := by
  unfold V66 outs
  rw [leave_res, ← entry_eq]
  rfl

theorem region_post (c : Dev nD) : (reg m).post c ⊢ iprop(StableHlo.held (c : Thread nD τ) (Pipeline.ucRefs τ sig) (leave m c) ∗ around m 1 c) := by
  rw [StableHlo.held_sub_split (c : Thread nD τ) arrays_sub]
  show iprop(StableHlo.held (c.tc : Thread nD τ) (Pipeline.arrRefs (τ := τ) spec0) (leave m c) ∗ (∃ r, prngReg c r)
    ∗ (StableHlo.held (c.tc : Thread nD τ) others (leave m c) ∗ emp) ∗ semVal (cell c bar) 0 ∗ ∃ Wd, owes (c : Thread nD τ) (0 : CellTallies nD τ sig Unit) Wd) ⊢ _
  unfold around
  iintro ⟨Ha, -, ⟨Ho, -⟩, Hb, HO⟩
  isplitl [Ha Ho]; · (isplitl [Ha] <;> iassumption)
  isplitl [Hb] <;> iassumption

/-! ## The launch -/

def u₀ : UU := (initOf (Pipeline.cells cfgs cellOf_inj) (Pipeline.launchToks cfgs cellOf_inj), launchOf barCells scCells toks)

/-- A resource handed out whole, to device 0. -/
def parked (P : sProp 𝕄) (c : Dev nD) : sProp 𝕄 := if c = 0 then P else iprop(emp)
theorem parked_all (P : sProp 𝕄) : bigSep Finset.univ (parked P) = P := by
  rw [bigSep_univ_at _ (0 : Dev nD), bigSep_congr (s := Finset.univ.erase (0 : Dev nD)) (Ψ := fun _ => (BI.emp : sProp 𝕄))
    fun c hc => (by unfold parked; rw [if_neg (Finset.ne_of_mem_erase hc)]; rfl), BI.bigSep_emp_const]
  exact (BI.equiv_iff.mp sep_emp).trans (if_pos rfl)

def fuel : Dev nD → sProp 𝕄 := parked (BI.own (ER (launchOf barCells scCells toks)))

theorem funded : (ownU u₀ : sProp 𝕄)
    ⊢ |={Set.univ}=> iprop(BI.own (EP (initOf (Pipeline.cells cfgs cellOf_inj) (Pipeline.launchToks cfgs cellOf_inj))) ∗ bigSep Finset.univ fuel) := by
  unfold u₀ fuel
  rw [parked_all]
  iintro Hu
  ihave H := (ownU_pair _ _) $$ Hu
  icases H with ⟨HP, HX⟩
  imodintro
  isplitl [HP] <;> iassumption

theorem unscoped_one (c : Dev nD) : (unscopedSems0 c : sProp 𝕄) = semVal (cell c bar) 0 := by
  unfold unscopedSems0
  rw [show (Finset.univ.filter fun sm : SemLoc sig => ¬ sm.isScoped .tc = true) = {SemLoc.reg barS} from by decide +kernel, bigSep_singleton]
  rfl

/-- A device's launch holdings that are not the protocol's. -/
def kept (c : Dev nD) : sProp 𝕄 :=
  iprop((cred (tallyAt (cell c bar) () 2) ∗ bigSep Finset.univ fun y : Own => credOf c y) ∗ owes (c : Thread nD τ) (O₀ c) ∅ ∗ ∃ r, prngReg c r)
/-- What the protocol's launch gives a device. -/
def dealt (c : Dev nD) : sProp 𝕄 :=
  iprop(atPos ER (cell c bar) 0 ∅ 0 ∗ (bigSep Finset.univ fun y : Own => openTok ER (cell c (some y))) ∗ tokNeed c)

theorem sorted (c : Dev nD) : iprop(unscopedSems0 c ∗ owes (c : Thread nD τ) (O₀ c) ∅ ∗ Pipeline.launchCred O₀ c ∗ prngReg c (ρ c) ∗ fuel c)
    ⊢ (iprop(kept c ∗ semVal (cell c bar) 0 ∗ fuel c) : sProp 𝕄) := by
  rw [unscoped_one]
  unfold kept
  iintro ⟨Hs, HO, Hc, Hp, HG⟩
  ihave HC := (creds c) $$ Hc
  isplitl [HC HO Hp]
  · isplitl [HC]; · iexact HC
    isplitl [HO]; · iexact HO
    iexists (ρ c); iexact Hp
  isplitl [Hs] <;> iassumption

theorem first (K : GSem nD τ sig → ℕ) (c : Dev nD) : iprop(records (xV m) (wV m) K ∗ (dealt c ∗ kept c)) ⊢ (around m 0 c : sProp 𝕄) := by
  unfold around asleep dealt kept
  iintro ⟨#HR, ⟨Ha, Ho, Ht⟩, ⟨Hb, Hc⟩, HO, Hp⟩
  isplitr [HO Hp]
  · iexists K
    isplitr; · iexact HR
    isplitl [Ha]; · iexact Ha
    isplitl [Ho]; · iexact Ho
    isplitl [Ht]; · iexact Ht
    isplitl [Hb] <;> iassumption
  isplitl [Hp]; · iexact Hp
  iexists ∅; iexact HO

def cellEmb : Dev nD × Cell ↪ GSem nD τ sig := ⟨fun cx => cell cx.1 cx.2, fun _ _ h => Prod.ext (cell_inj _ _ _ _ h).1 (cell_inj _ _ _ _ h).2⟩
theorem cells_sub : Finset.univ.map cellEmb ⊆ barCells ∪ scCells := fun g h => by
  obtain ⟨⟨c, x⟩, -, rfl⟩ := Finset.mem_map.mp h
  rcases x with _ | y
  · exact Finset.mem_union_left _ (Finset.mem_map_of_mem barEmb (Finset.mem_univ c))
  · exact Finset.mem_union_right _ (Finset.mem_map_of_mem scEmb (Finset.mem_univ (c, y)))

theorem all_invs (X : Dev nD → FVec F S4096x256 .f32) (W : Dev nD → FVec F S256x2048 .f32) (K : GSem nD τ sig → ℕ) :
    (bigSep (barCells ∪ scCells) fun g => (cellInv ER (Rd X W) (K g) g : sProp 𝕄)) ⊢ invs X W K := by
  refine (bigSep_subset cells_sub).trans ?_
  rw [bigSep_map]
  unfold Blocks.invs
  exact .refl _

theorem paired {ι : Type} [Fintype ι] (Φ Ψ : ι → sProp 𝕄) :
    iprop(bigSep Finset.univ Φ ∗ bigSep Finset.univ Ψ) ⊢ bigSep Finset.univ fun i => iprop(Φ i ∗ Ψ i) := Entails.of_eq (bigSep_sep' _ _ _).symm

theorem launched : iprop((bigSep Finset.univ fun c : Dev nD => iprop(unscopedSems0 c ∗ owes (c : Thread nD τ) (O₀ c) ∅ ∗ Pipeline.launchCred O₀ c ∗ prngReg c (ρ c) ∗ fuel c)) ∗ levAts L lv)
    ⊢ (|={Set.univ}=> bigSep Finset.univ (around m 0) : sProp 𝕄) := by
  have hv : bigSep Finset.univ (fun c : Dev nD => (semVal (cell c bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c bar) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (cell c bar) 0 : sProp 𝕄)) :=
    Entails.of_eq (bigSep_map (s := Finset.univ) barEmb (Φ := fun g : GSem nD τ sig => (reached ER g 0 : sProp 𝕄)))
  have hop : bigSep scCells (fun g => (openTok ER g : sProp 𝕄))
      ⊢ bigSep Finset.univ (fun c : Dev nD => bigSep Finset.univ fun y : Own => openTok ER (cell c (some y))) :=
    Entails.of_eq (by rw [bigSep_map, bigSep_univ_prod]; rfl)
  have hs : (bigSep Finset.univ fun c : Dev nD => iprop(unscopedSems0 c ∗ owes (c : Thread nD τ) (O₀ c) ∅ ∗ Pipeline.launchCred O₀ c ∗ prngReg c (ρ c) ∗ fuel c))
      ⊢ (iprop((bigSep Finset.univ kept) ∗ (bigSep Finset.univ fun c : Dev nD => semVal (cell c bar) 0) ∗ bigSep Finset.univ fuel) : sProp 𝕄) := by
    rw [← bigSep_sep', ← bigSep_sep']
    exact bigSep_mono fun c _ => sorted ρ c
  have hf : bigSep Finset.univ fuel ⊢ (BI.own (ER (launchOf barCells scCells toks)) : sProp 𝕄) := by
    unfold fuel; rw [parked_all]
  iintro ⟨H, -⟩
  ihave H' := hs $$ H
  icases H' with ⟨HB, Hv, HG⟩
  ihave Hu := hf $$ HG
  imod (Rounds.fund_launch ER (Rd (xV m) (wV m)) disjoint_cells (fun g _ h => h) toks) $$ [Hv Hu] with ⟨%K, -, #Hinv, #Hr, Hat, Hopen, Htok⟩
  · isplitl [Hv]
    · iapply hv $$ Hv
    · iexact Hu
  imodintro
  iapply (bigSep_with_persistent (R := records (xV m) (wV m) K) (Φ := fun c => iprop(dealt c ∗ kept c)) fun c _ => first m K c)
  isplitr
  · unfold records
    isplitr; · iapply (all_invs (xV m) (wV m) K); iexact Hinv
    iapply hre; iexact Hr
  iapply (paired _ _)
  isplitr [HB]
  · unfold dealt
    iapply (paired _ _); isplitl [Hat]; · iapply hat $$ Hat
    iapply (paired _ _); isplitl [Hopen]; · iapply hop $$ Hopen
    iapply (Entails.of_eq toks_eq) $$ Htok
  · iexact HB

/-! ## The run -/

abbrev atStart (c : Dev nD) : sProp 𝕄 := iprop(StableHlo.held (c : Thread nD τ) (Pipeline.ucRefs τ sig) (V0 m c) ∗ around m 0 c)
abbrev atEnd (c : Dev nD) : sProp 𝕄 := iprop(StableHlo.held (c : Thread nD τ) (Pipeline.ucRefs τ sig) (leave m c) ∗ semVal (cell c bar) 0)

theorem init : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ fuel c)) ∗ levAts L lv)
    ⊢ (|={Set.univ}=> bigSep Finset.univ (atStart m) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ fuel c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ fuel c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hl⟩
  ihave H' := hsplit $$ H
  icases H' with ⟨Hh, Hr⟩
  imod (launched m ρ) $$ [Hr Hl] with HE
  · isplitl [Hr] <;> iassumption
  imodintro
  unfold atStart
  rw [bigSep_sep']
  isplitl [Hh] <;> iassumption

theorem unscoped_bar : ∀ sm : SemLoc sig, sm.isScoped .tc = false → sm = .reg barS := by decide +kernel

theorem fin (c : Dev nD) (s' : Phys nD τ sig (Elt F)) : iprop(atEnd m c ∗ SI s')
    ⊢ (|={Set.univ}=> iprop(⌜(∀ b ∈ Pipeline.ucRefs τ sig, s'.mem.mem ((c : Thread nD τ).1, b) = leave m c b) ∧ s'.mem.sem (cell c bar) = 0⌝ ∗ SI s') : sProp 𝕄) := by
  unfold atEnd StableHlo.held
  iintro ⟨⟨Hh, Hb⟩, HSI⟩
  icombine HSI Hb gives %hb
  ihave Hr := (pointsTo_read_all (Pipeline.ucRefs τ sig) (fun b => ((c : Thread nD τ).1, b)) (leave m c) s') $$ [Hh HSI]
  · isplitl [Hh] <;> iassumption
  icases Hr with ⟨%h, HSI⟩
  imodintro
  isplitr
  · ipureintro
    exact ⟨h, by simpa using hb⟩
  · iexact HSI

theorem main_run (c : Dev nD) : Pipeline.Seg.run (segs m 𝒱₀ L lv (around m) () (dats m) (reg m) c) = main (F := F) c := by
  rw [Pipeline.Seg.run_eq_chain]
  exact (main_chain c).symm

set_option backward.isDefEq.respectTransparency.types false in
theorem run_all : θ_run defs (onTc (τ := τ) (main (F := F))) ⟨m, fun _ => 0, ρ⟩
    (fun r => (∀ c : Dev nD, ∀ b ∈ Pipeline.ucRefs τ sig, r.2.mem ((c : Thread nD τ).1, b) = leave m c b) ∧ r.2.sem = fun _ => 0) :=
  Pipeline.θ_run_regions_kit_dev_sems (pcfgs (F := F)) adm (dats m) () cellOf_inj EP defs₀ 𝒱₀ L lv m ρ main
    (segs m 𝒱₀ L lv (around m) () (dats m) (reg m))
    (fun c Q => by rw [main_run m c])
    (fun c => by simp only [segs, Seg.pipes_host, Seg.pipes_region, Seg.pipes_nil]; decide) O₀ L_of_ne fuel u₀ funded
    (T₀ := atStart m) (Tₙ := atEnd m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,  region_pre m c, (region_post m c).trans (by
      unfold around
      iintro ⟨Hh, Hb, HO⟩
      isplitr [HO]
      · isplitl [Hh] <;> iassumption
      · iexact HO)⟩)
    (hinit := init m ρ)
    (QY := fun c s => (∀ b ∈ Pipeline.ucRefs τ sig, s.mem ((c : Thread nD τ).1, b) = leave m c b) ∧ s.sem (cell c bar) = 0)
    (hfin := fin m)
    (hQ := fun s h hs => ⟨fun c => (h c).1, sem_eq_zero hs fun c sm hsm => by
        obtain rfl := unscoped_bar sm hsm
        exact (h c).2⟩)

theorem mem_uc (r : Ref sig .tc) (h : r.isScoped = false) : (Proc.devRef .tc r : DevRef τ sig) ∈ Pipeline.ucRefs τ sig :=
  Finset.mem_filter.mpr ⟨StableHlo.devRef_mem_tcRefs r, by simpa using h⟩

theorem xV_eq (c : Dev nD) : xV m c = m ((c.tc : Thread nD τ).loc main_arg0) :=
  (congrArg (fun v : Valuation τ sig (Elt F) => v (Proc.devRef .tc main_arg0)) (entry_eq m c)).trans
    ((V66_of m (outs m) c main_arg0 (by decide)).symm.trans (V66_main_arg0 m (outs m) c))
theorem wV_eq (c : Dev nD) : wV m c = m ((c.tc : Thread nD τ).loc main_arg1) :=
  (congrArg (fun v : Valuation τ sig (Elt F) => v (Proc.devRef .tc main_arg1)) (entry_eq m c)).trans
    ((V66_of m (outs m) c main_arg1 (by decide)).symm.trans (V66_main_arg1 m (outs m) c))

/-- Every execution ends; the arguments are unchanged, the result is `resV` of them, every counter is zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v308)
          = resV (fun d => m ((d.tc : Thread nD τ).loc main_arg0)) (fun d => m ((d.tc : Thread nD τ).loc main_arg1)) c)
      ∧ r.2.sem = fun _ => 0) := by
  refine θ_run_mono (run_all m ρ) fun r h => ⟨fun c => ⟨?_, ?_, ?_⟩, h.2⟩
  · exact (h.1 c _ (mem_uc main_arg0 rfl)).trans ((leave_ne m c _ (by decide)).trans (xV_eq m c))
  · exact (h.1 c _ (mem_uc main_arg1 rfl)).trans ((leave_ne m c _ (by decide)).trans (wV_eq m c))
  · refine (h.1 c _ (mem_uc main_v308 rfl)).trans ((leave_res m c).trans ?_)
    rw [funext (xV_eq m), funext (wV_eq m)]

end Cert.KernelIdeal.Launch

end
-- ==== Proof.Value.Reference.lean ====
/-
  What the reference's run leaves in its result: the quantised rectified product, as one term of the two arguments.
-/
module

public import proofs.«01_k».proof.Proof.Gen.ReferenceIdeal.Frame
public import Idealize.ShloMosaic.Lib.Pipeline.ValueKit
public import Idealize.ShloMosaic.Lib.Claim

@[expose] public section

set_option maxRecDepth 20000

noncomputable section

namespace Cert.Value

open Idealize.ShloMosaic Idealize.SL.Sem Idealize.ShloMosaic.TcCoe

namespace Reference

open Cert.ReferenceIdeal Cert.ReferenceIdeal.Gen

/-- The rectified product. -/
def prodR (x : FVec Ideal S4096x4096 .f32) (w : FVec Ideal S4096x2048 .f32) : FVec Ideal S4096x2048 .f32 :=
  maximumf (Host.dotGeneral dot_S4096x4096_S4096x2048_S4096x2048_1_0_0_1_n_n none x w) (broadcastInDim S4096x2048 ![] bcast_S_S4096x2048 (constant S_ .f32 0x00000000#32))
/-- The scale of an array: its greatest absolute value over 448. -/
def scaleR (y : FVec Ideal S4096x2048 .f32) : FVec Ideal S_ .f32 :=
  Host.divf (Host.reduce FloatOps.maximumf (Host.absf y) (constant S_ .f32 0xFF800000#32) reducesTo_S4096x2048_S_d0_1 h_S_) (constant S_ .f32 0x43E00000#32)
/-- The array over the scale. -/
def overR (y : FVec Ideal S4096x2048 .f32) (s : FVec Ideal S_ .f32) : FVec Ideal S4096x2048 .f32 :=
  Host.divf y (broadcastInDim S4096x2048 ![] bcast_S_S4096x2048 s)
/-- The magnitude clipped, the sign and the scale put back. -/
def backR (v a : FVec Ideal S4096x2048 .f32) (s : FVec Ideal S_ .f32) : FVec Ideal S4096x2048 .f32 :=
  mulf (mulf (Host.sign v) (minimumf a (broadcastInDim S4096x2048 ![] bcast_S_S4096x2048 (constant S_ .f32 0x43E00000#32)))) (broadcastInDim S4096x2048 ![] bcast_S_S4096x2048 s)
/-- The reference's result. -/
def resR (x : FVec Ideal S4096x4096 .f32) (w : FVec Ideal S4096x2048 .f32) : FVec Ideal S4096x2048 .f32 :=
  backR (overR (prodR x w) (scaleR (prodR x w))) (k0_pay1 (Host.absf (overR (prodR x w) (scaleR (prodR x w))))) (scaleR (prodR x w))

variable (m : (ℓ : Loc nD τ sig) → Buf (Elt Ideal) ℓ) (ρ : Dev nD → PrngReg)

/-- With exact arithmetic the rounding to eight bits and back changes nothing. -/
theorem round_eq (v : FVec Ideal S4096x2048 .f32) : k0_pay1 v = v := by
  unfold k0_pay1
  simp only [shapeCast_self]
  rfl

/-- The one pallas_call writes its argument, rounded, over its whole result. -/
theorem rounded (c : Dev nD) : (dats m 0 c).arrAt 1 (cfgs 0).N = (k0_pay1 (V m c main_v9 : FVec Ideal S4096x2048 .f32) : FVec Ideal S4096x2048 .f32) := by
  refine (dats m 0 c).arrAt_eq_of_covers 1 _ (by decide +kernel) fun t hf y => ?_
  blk_simp
  rw [after0_1]
  frame_out
  rw [round_eq, round_eq]
  fin_cases t
  rfl

theorem run_res : θ_run defs (onTc (τ := τ) (main (F := Ideal))) ⟨m, fun _ => 0, ρ⟩ (fun r => ∀ c : Dev nD,
      r.2.mem ((c.tc : Thread nD τ).loc main_v15) = resR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_main m ρ) ?_
  intro r h c
  refine ⟨((h c).2 main_v15 (Pipeline.mem_restRefs_of main_v15 (by decide) (by decide))).trans ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩
  have e10 : Pipeline.withArrays (cfgs 0).spec c (V0 m c) (fun w => (dats m 0 c).arrAt w (cfgs 0).N) (Proc.devRef .tc main_v10) = k0_pay1 (V m c main_v9 : FVec Ideal S4096x2048 .f32) :=
    (Pipeline.withArrays_arr (cfgs 0).spec (by decide) c (V0 m c) (fun w => (dats m 0 c).arrAt w (cfgs 0).N) 1).trans (rounded m c)
  have e8 := Pipeline.withArrays_of_ne (cfgs 0).spec c (V0 m c) (fun w => (dats m 0 c).arrAt w (cfgs 0).N) main_v8 (by decide)
  have e5 := Pipeline.withArrays_of_ne (cfgs 0).spec c (V0 m c) (fun w => (dats m 0 c).arrAt w (cfgs 0).N) main_v5 (by decide)
  unfold Pipeline.afterTail₀
  simp only [List.flatten_cons, List.flatten_nil, List.append_nil]
  after_results
  have h5 : V0 m c (Proc.devRef .tc main_v5) = scaleR (prodR (m ((c.tc : Thread nD τ).loc main_arg0)) (m ((c.tc : Thread nD τ).loc main_arg1))) := by
    simp only [V0, List.flatten_cons, List.flatten_nil, List.append_nil]
    after_results
    rfl
  have h8 : V0 m c (Proc.devRef .tc main_v8) = Host.sign (overR (prodR (m ((c.tc : Thread nD τ).loc main_arg0)) (m ((c.tc : Thread nD τ).loc main_arg1))) (scaleR (prodR (m ((c.tc : Thread nD τ).loc main_arg0)) (m ((c.tc : Thread nD τ).loc main_arg1))))) := by
    simp only [V0, List.flatten_cons, List.flatten_nil, List.append_nil]
    after_results
    rfl
  have h9 : V m c main_v9 = Host.absf (overR (prodR (m ((c.tc : Thread nD τ).loc main_arg0)) (m ((c.tc : Thread nD τ).loc main_arg1))) (scaleR (prodR (m ((c.tc : Thread nD τ).loc main_arg0)) (m ((c.tc : Thread nD τ).loc main_arg1))))) := by
    simp only [V, V0, List.flatten_cons, List.flatten_nil, List.append_nil]
    after_results
    rfl
  rw [h8] at e8
  rw [h5] at e5
  rw [h9] at e10
  erw [e8, e5, e10]
  rfl

end Reference

end Cert.Value

end
-- ==== Proof.Value.Products.lean ====
/-
  The products, element by element: one device's share of a block, the sum that a ring collects, and the whole product
  of the reference.
-/
module

public import proofs.«01_k».proof.Proof.Value.Reference
public import proofs.«01_k».proof.Proof.KernelIdeal.Finale
public import Idealize.ShloMosaic.Lib.Pointwise

@[expose] public section

set_option maxRecDepth 20000

noncomputable section

namespace Cert.Value

open Idealize.ShloMosaic
open Cert.KernelIdeal.Ring Cert.KernelIdeal.Protocol Cert.KernelIdeal.Finale

/-- A product of 256 rows with 1024 columns, at an element. -/
theorem prod_apply (a : FVec Ideal KernelIdeal.S256x256 .f32) (b : FVec Ideal KernelIdeal.S256x1024 .f32) (i : KernelIdeal.S256x1024.Idx) :
    KernelIdeal.Steps.prod a b i = ∑ q : Fin 256, a (ix2 (i 0) q) * b (ix2 q (i 1)) := by
  unfold KernelIdeal.Steps.prod
  pointwise

/-- The reference's rectified product, at an element. -/
theorem whole_apply (x : FVec Ideal ReferenceIdeal.S4096x4096 .f32) (w : FVec Ideal ReferenceIdeal.S4096x2048 .f32) (i : ReferenceIdeal.S4096x2048.Idx) :
    Reference.prodR x w i = max (∑ q : Fin 4096, x (ix2 (i 0) q) * w (ix2 q (i 1))) 0 := by
  unfold Reference.prodR
  pointwise

/-! ## The rows of a device, the columns of a half -/

/-- Row `r` of device `d`'s block of rows, in the whole array. -/
def row (d : Fin 16) (r : Fin 256) : Fin 4096 := ⟨256 * d.val + r.val, by omega⟩
/-- Column `l` of half `k`, in the whole array. -/
def col (k : Bool) (l : Fin 1024) : Fin 2048 := ⟨1024 * k.toNat + l.val, by cases k <;> simp only [Bool.toNat_false, Bool.toNat_true] <;> omega⟩

/-- A sum over all rows is the sum over the devices of the sums over their rows. -/
theorem sum_rows (f : Fin 4096 → EReal) : ∑ d : Fin 16, ∑ r : Fin 256, f (row d r) = ∑ q : Fin 4096, f q := by
  rw [← Fintype.sum_prod_type']
  refine Fintype.sum_equiv (finProdFinEquiv : Fin 16 × Fin 256 ≃ Fin 4096) _ _ fun p => congrArg f (Fin.ext ?_)
  show 256 * p.1.val + p.2.val = p.2.val + 256 * p.1.val
  omega

/-- Two indices of rank two with the same coordinates are the same. -/
theorem idx_ext {a b : ℕ} {i j : (⟨2, ![a, b]⟩ : Shape).Idx} (h0 : (i 0).val = (j 0).val) (h1 : (i 1).val = (j 1).val) : i = j := by
  funext d
  fin_cases d
  · exact Fin.ext h0
  · exact Fin.ext h1

variable (x : FVec Ideal ReferenceIdeal.S4096x4096 .f32) (w : FVec Ideal ReferenceIdeal.S4096x2048 .f32)

/-- What device `d` holds of the two arguments: a block of the columns of one, of the rows of the other. -/
def xs (d : Dev KernelIdeal.nD) : Vec Ideal KernelIdeal.S4096x256 .f32 := fun i => x (ix2 (i 0) (row d (i 1)))
def ws (d : Dev KernelIdeal.nD) : Vec Ideal KernelIdeal.S256x2048 .f32 := fun i => w (ix2 (row d (i 0)) (i 1))

/-- Device `d`'s share of an element of row block `b`, half `k`: the sum over its own columns of `x` and rows of `w`. -/
theorem part_apply (k : Bool) (b d : Dev KernelIdeal.nD) (i : KernelIdeal.S256x1024.Idx) :
    part (xs x) (ws w) k b d i = ∑ r : Fin 256, x (ix2 (row b (i 0)) (row d r)) * w (ix2 (row d r) (col k (i 1))) := by
  unfold part
  rw [prod_apply]
  refine Finset.sum_congr rfl fun r _ => congrArg₂ (· * ·) ?_ ?_
  · refine congrArg x (idx_ext ?_ ?_)
    · show 256 * b.val + 1 * (i 0).val = 256 * b.val + (i 0).val; omega
    · show 256 * d.val + (0 + 1 * r.val) = 256 * d.val + r.val; omega
  · refine congrArg w (idx_ext ?_ ?_)
    · show 256 * d.val + (0 + 1 * r.val) = 256 * d.val + r.val; omega
    · show 1024 * k.toNat + 1 * (i 1).val = 1024 * k.toNat + (i 1).val; omega

/-! ## The sum that a ring collects -/

/-- Slot `j` holds the shares of the `j + 1` devices that the block has passed. -/
theorem slot_sum (X : Dev KernelIdeal.nD → Vec Ideal KernelIdeal.S4096x256 .f32) (W : Dev KernelIdeal.nD → Vec Ideal KernelIdeal.S256x2048 .f32) (k : Bool)
    (i : KernelIdeal.S256x1024.Idx) (j : ℕ) (hj : j ≤ 15) (c : Dev KernelIdeal.nD) :
    slotV X W k j c i = ∑ t ∈ Finset.range (j + 1), part X W k (blk k j c) ((prv k)^[t] c) i := by
  induction j generalizing c with
  | zero => simp only [zero_add, Finset.sum_range_one, Function.iterate_zero_apply]; rfl
  | succ j ih =>
    rw [Finset.sum_range_succ']
    show slotV X W k j (prv k c) i + part X W k (blk k (j + 1) c) c i = _
    rw [ih (by omega), ← blk_succ k ⟨j, by omega⟩ c]
    rfl

/-- Going round the ring, every device is passed once. -/
theorem round_bij : ∀ k c, Function.Bijective fun t : Fin 16 => (prv k)^[t.val] c := by
  intro k c
  refine (Finite.injective_iff_bijective).mp ?_
  revert k c
  decide +kernel

/-- The last slot holds the shares of all devices. -/
theorem last_sum (X : Dev KernelIdeal.nD → Vec Ideal KernelIdeal.S4096x256 .f32) (W : Dev KernelIdeal.nD → Vec Ideal KernelIdeal.S256x2048 .f32) (k : Bool)
    (c : Dev KernelIdeal.nD) (i : KernelIdeal.S256x1024.Idx) : slotV X W k 15 c i = ∑ d : Dev KernelIdeal.nD, part X W k c d i := by
  rw [slot_sum X W k i 15 le_rfl c, blk_last, Finset.sum_range fun t => part X W k c ((prv k)^[t] c) i]
  exact (round_bij k c).sum_comp fun d => part X W k c d i

/-- So, rectified, it holds the reference's element. -/
theorem last_apply (k : Bool) (c : Dev KernelIdeal.nD) (i : KernelIdeal.S256x1024.Idx) :
    max (slotV (xs x) (ws w) k 15 c i) 0 = Reference.prodR x w (ix2 (row c (i 0)) (col k (i 1))) := by
  rw [last_sum, whole_apply]
  simp only [part_apply]
  rw [sum_rows fun q => x (ix2 (row c (i 0)) q) * w (ix2 q (col k (i 1)))]
  rfl

/-! ## The block before it is quantised -/

theorem left_apply (v : FVec Ideal KernelIdeal.S256x1024 .f32) (i : KernelIdeal.S256x1024.Idx) :
    KernelIdeal.Gen.k0_pay110 (F := Ideal) (shapeCast KernelIdeal.S1x256x1024 v KernelIdeal.Facts₀.shapeCasts_S256x1024_S1x256x1024) i = max (v i) 0 := by
  unfold KernelIdeal.Gen.k0_pay110
  pointwise

theorem right_apply (v : FVec Ideal KernelIdeal.S256x1024 .f32) (i : KernelIdeal.S256x1024.Idx) :
    KernelIdeal.Gen.k0_pay111 (F := Ideal) (shapeCast KernelIdeal.S1x256x1024 v KernelIdeal.Facts₀.shapeCasts_S256x1024_S1x256x1024) i = max (v i) 0 := by
  unfold KernelIdeal.Gen.k0_pay111
  pointwise

/-- Device `c`'s block is its rows of the reference's rectified product. -/
theorem out_apply (c : Dev KernelIdeal.nD) (i : KernelIdeal.S256x2048.Idx) :
    outV (xs x) (ws w) c i = Reference.prodR x w (ix2 (row c (i 0)) (i 1)) := by
  unfold outV
  by_cases h : (i 1).val < 1024
  · rw [glue_left _ _ i h (ix2 (i 0) ⟨(i 1).val, h⟩) rfl rfl]
    refine (left_apply _ _).trans ((last_apply x w false c _).trans (congrArg _ (idx_ext rfl ?_)))
    show 1024 * 0 + (i 1).val = (i 1).val; omega
  · have hi : (i 1).val < 2048 := (i 1).isLt
    rw [glue_right _ _ i h (ix2 (i 0) ⟨(i 1).val - 1024, by omega⟩) rfl rfl]
    refine (right_apply _ _).trans ((last_apply x w true c _).trans (congrArg _ (idx_ext rfl ?_)))
    show 1024 * 1 + ((i 1).val - 1024) = (i 1).val; omega

end Cert.Value

end
-- ==== Proof.Value.Arith.lean ====
/-
  The quantiser on one element: the kernel clips the quotient from above, the reference clips its magnitude and puts the
  sign back; on rectified values the two agree, a scale of zero included.
-/
module

public import Idealize.ShloMosaic.PureOps.Ideal.Laws
public import Idealize.ShloMosaic.Lib.IdealHost

@[expose] public section

noncomputable section

namespace Cert.Value

open Idealize.ShloMosaic

/-- The greatest value of the eight-bit format. -/
theorem top_value : Ideal.ofBits .f32 0x43E00000#32 = ((448 : ℝ) : EReal) := by
  simp [Ideal.ofBits, Ideal.ieee, -EReal.coe_mul]; norm_num

/-- A quotient of nonnegative values is nonnegative where the divisor is not zero. -/
theorem div_nonneg {y s : EReal} (hy : 0 ≤ y) (hs : 0 ≤ s) (h : s ≠ 0) : 0 ≤ Ideal.div y s := by
  unfold Ideal.div
  rw [if_neg h]
  exact mul_nonneg hy (EReal.inv_nonneg_of_nonneg hs)

/-- The sign of a nonnegative value, times its clipped magnitude, is the value clipped. -/
theorem sign_clip {v K : EReal} (hv : 0 ≤ v) (hK : 0 ≤ K) : Ideal.sign v * min (max v (-v)) K = min v K := by
  have hm : max v (-v) = v := max_eq_left ((EReal.neg_le_neg_iff.mpr hv).trans (by simpa using hv))
  rw [hm]
  rcases hv.eq_or_lt with rfl | h
  · rw [Ideal.sign_zero, zero_mul, min_eq_left hK]
  · rw [Ideal.sign_of_pos h, one_mul]

/-- The two quantisers agree on a nonnegative value and scale. -/
theorem requant {y s K : EReal} (hy : 0 ≤ y) (hs : 0 ≤ s) (hK : 0 ≤ K) :
    min (Ideal.div y s) K * s = Ideal.sign (Ideal.div y s) * min (max (Ideal.div y s) (-Ideal.div y s)) K * s := by
  by_cases h : s = 0
  · rw [h, mul_zero, mul_zero]
  · rw [sign_clip (div_nonneg hy hs h) hK]

end Cert.Value

end
-- ==== Proof.Value.Maxima.lean ====
/-
  The greatest element: after four rounds of exchange every device holds the greatest element of the whole rectified
  product, which is what the reference divides by 448.
-/
module

public import proofs.«01_k».proof.Proof.Value.Products
public import proofs.«01_k».proof.Proof.Value.Arith

@[expose] public section

set_option maxRecDepth 20000

noncomputable section

namespace Cert.Value

open Idealize.ShloMosaic
open Cert.KernelIdeal.Ring Cert.KernelIdeal.Protocol Cert.KernelIdeal.Finale

/-- What the maxima start from. -/
def low : EReal := Ideal.ofBits .f32 0xFF800000#32

/-! ## One device's greatest element -/

theorem own_eq (a b : Vec Ideal KernelIdeal.S1x256x1024 .f32) : KernelIdeal.Steps.own (F := Ideal) a b =
    max (Finset.univ.fold max low fun p : Fin 256 × Fin 1024 => max (a (ix3 0 p.1 p.2)) 0) (Finset.univ.fold max low fun p : Fin 256 × Fin 1024 => max (b (ix3 0 p.1 p.2)) 0) := by
  unfold KernelIdeal.Steps.own KernelIdeal.Gen.k0_pay114 KernelIdeal.Gen.k0_pay112 KernelIdeal.Gen.k0_pay113 KernelIdeal.Gen.k0_pay110 KernelIdeal.Gen.k0_pay111 low
  pointwise

theorem slot_read (v : FVec Ideal KernelIdeal.S256x1024 .f32) (r : Fin 256) (l : Fin 1024) :
    shapeCast KernelIdeal.S1x256x1024 v KernelIdeal.Facts₀.shapeCasts_S256x1024_S1x256x1024 (ix3 0 r l) = v (ix2 r l) := by
  pointwise

variable (x : FVec Ideal ReferenceIdeal.S4096x4096 .f32) (w : FVec Ideal ReferenceIdeal.S4096x2048 .f32)

/-- A bound of a device's greatest element bounds the elements of its rows, and the other way round. -/
theorem own_le (d : Dev KernelIdeal.nD) (A : EReal) :
    mx (xs x) (ws w) 0 d ≤ A ↔ low ≤ A ∧ ∀ (r : Fin 256) (n : Fin 2048), Reference.prodR x w (ix2 (row d r) n) ≤ A := by
  show KernelIdeal.Steps.own (F := Ideal) (lastV (xs x) (ws w) false d) (lastV (xs x) (ws w) true d) ≤ A ↔ _
  rw [own_eq, max_le_iff, Finset.fold_max_le, Finset.fold_max_le]
  have hs : ∀ k (p : Fin 256 × Fin 1024), max (lastV (xs x) (ws w) k d (ix3 0 p.1 p.2)) 0 = Reference.prodR x w (ix2 (row d p.1) (col k p.2)) := fun k p => by
    unfold lastV
    rw [slot_read]
    exact last_apply x w k d (ix2 p.1 p.2)
  simp only [hs, Finset.mem_univ, true_imp_iff]
  constructor
  · rintro ⟨⟨h, h0⟩, -, h1⟩
    refine ⟨h, fun r n => ?_⟩
    by_cases hn : n.val < 1024
    · have := h0 (r, ⟨n.val, hn⟩)
      rwa [show col false ⟨n.val, hn⟩ = n from Fin.ext (by show 1024 * 0 + n.val = n.val; omega)] at this
    · have := h1 (r, ⟨n.val - 1024, by omega⟩)
      rwa [show col true ⟨n.val - 1024, by omega⟩ = n from Fin.ext (by show 1024 * 1 + (n.val - 1024) = n.val; omega)] at this
  · rintro ⟨h, h'⟩
    exact ⟨⟨h, fun p => h' _ _⟩, h, fun p => h' _ _⟩

/-! ## The exchange -/

/-- The devices whose maxima device `c` has seen after `r` rounds. -/
def seen : ℕ → Dev KernelIdeal.nD → Finset (Dev KernelIdeal.nD)
  | 0, c => {c}
  | r + 1, c => seen r c ∪ seen r (mate (Fin.ofNat 4 r) c)

theorem seen_all : ∀ c, seen 4 c = Finset.univ := by decide +kernel

theorem mx_le (X : Dev KernelIdeal.nD → Vec Ideal KernelIdeal.S4096x256 .f32) (W : Dev KernelIdeal.nD → Vec Ideal KernelIdeal.S256x2048 .f32) (A : EReal) (r : ℕ)
    (c : Dev KernelIdeal.nD) : mx X W r c ≤ A ↔ ∀ d ∈ seen r c, mx X W 0 d ≤ A := by
  induction r generalizing c with
  | zero => simp only [seen, Finset.mem_singleton, forall_eq]
  | succ r ih =>
    have e : mx X W (r + 1) c = max (mx X W r c) (mx X W r (mate (Fin.ofNat 4 r) c)) := rfl
    rw [e, max_le_iff, ih, ih]
    simp only [seen, Finset.mem_union, or_imp, forall_and]

/-! ## The reference's scale -/

theorem prodR_nonneg (i : ReferenceIdeal.S4096x2048.Idx) : 0 ≤ Reference.prodR x w i := by
  rw [whole_apply]
  exact le_max_right _ _

/-- The greatest absolute value of the reference's array. -/
def most : EReal := Finset.univ.fold max low fun p : Fin 4096 × Fin 2048 => max (Reference.prodR x w (ix2 p.1 p.2)) (-Reference.prodR x w (ix2 p.1 p.2))

theorem scale_apply (i : ReferenceIdeal.S_.Idx) : Reference.scaleR (Reference.prodR x w) i = Ideal.div (most x w) (Ideal.ofBits .f32 0x43E00000#32) := by
  unfold Reference.scaleR most low
  pointwise
  rfl

theorem abs_nonneg {y : EReal} (hy : 0 ≤ y) : max y (-y) = y :=
  max_eq_left ((EReal.neg_le_neg_iff.mpr hy).trans (by simpa using hy))

/-- After the exchange every device holds it. -/
theorem mx_eq (c : Dev KernelIdeal.nD) : mx (xs x) (ws w) 4 c = most x w := by
  refine eq_of_forall_ge_iff fun A => ?_
  rw [mx_le, seen_all, most, Finset.fold_max_le]
  simp only [own_le, Finset.mem_univ, true_imp_iff, abs_nonneg (prodR_nonneg x w _)]
  constructor
  · intro h
    refine ⟨(h 0).1, fun p => ?_⟩
    have := (h ⟨p.1.val / 256, by have := p.1.isLt; show _ < 16; omega⟩).2 ⟨p.1.val % 256, Nat.mod_lt _ (by decide)⟩ p.2
    rwa [show row ⟨p.1.val / 256, by have := p.1.isLt; show _ < 16; omega⟩ ⟨p.1.val % 256, Nat.mod_lt _ (by decide)⟩ = p.1 from
      Fin.ext (by show 256 * (p.1.val / 256) + p.1.val % 256 = p.1.val; omega)] at this
  · rintro ⟨h, h'⟩ d
    exact ⟨h, fun r n => h' (row d r, n)⟩

theorem bound_nonneg (A : EReal) (h : most x w ≤ A) : 0 ≤ A := by
  rw [most, Finset.fold_max_le] at h
  simp only [Finset.mem_univ, true_imp_iff, abs_nonneg (prodR_nonneg x w _)] at h
  exact (prodR_nonneg x w _).trans (h.2 (⟨0, by decide⟩, ⟨0, by decide⟩))

theorem most_nonneg : 0 ≤ most x w := bound_nonneg x w _ le_rfl

theorem top_pos : (0 : EReal) < Ideal.ofBits .f32 0x43E00000#32 := by
  rw [top_value]
  exact EReal.coe_pos.mpr (by norm_num)

end Cert.Value

end
-- ==== Proof.Value.Match.lean ====
/-
  Device by device, the kernel's result is its block of the reference's.
-/
module

public import proofs.«01_k».proof.Proof.Value.Maxima
public import Idealize.ShloMosaic.Lib.Layout

@[expose] public section

set_option maxRecDepth 20000

noncomputable section

namespace Cert.Value

open Idealize.ShloMosaic
open Cert.KernelIdeal.Protocol Cert.KernelIdeal.Finale

theorem quant_apply (a : Ideal .f32) (v : Vec Ideal KernelIdeal.S256x2048 .f32) (i : KernelIdeal.S256x2048.Idx) : KernelIdeal.Steps.quant (F := Ideal) a v i =
    min (Ideal.div (v i) (Ideal.div a (Ideal.ofBits .f32 0x43E00000#32))) (Ideal.ofBits .f32 0x43E00000#32) * Ideal.div a (Ideal.ofBits .f32 0x43E00000#32) := by
  unfold KernelIdeal.Steps.quant KernelIdeal.Gen.k0_pay1 KernelIdeal.Gen.k0_pay125
  pointwise

theorem back_apply (y : FVec Ideal ReferenceIdeal.S4096x2048 .f32) (s : FVec Ideal ReferenceIdeal.S_ .f32) (i : ReferenceIdeal.S4096x2048.Idx) :
    Reference.backR (Reference.overR y s) (ReferenceIdeal.Gen.k0_pay1 (Host.absf (Reference.overR y s))) s i =
      Ideal.sign (Ideal.div (y i) (s ix0)) * min (max (Ideal.div (y i) (s ix0)) (-Ideal.div (y i) (s ix0))) (Ideal.ofBits .f32 0x43E00000#32) * s ix0 := by
  rw [Reference.round_eq]
  unfold Reference.backR Reference.overR
  pointwise
  rfl

/-- Where the two programs' arguments are cut. -/
theorem block_cols (x : FVec Ideal ReferenceIdeal.S4096x4096 .f32) (c : Dev KernelIdeal.nD) :
    (Layout.block ⟨2, ![4096, 256]⟩ ⟨2, ![4096, 4096]⟩ 1 16 c x : Vec Ideal KernelIdeal.S4096x256 .f32) = xs x c := by
  funext i
  refine congrArg x (idx_ext rfl ?_)
  show c.val * 256 + (i 1).val = 256 * c.val + (i 1).val
  omega

theorem block_rows (w : FVec Ideal ReferenceIdeal.S4096x2048 .f32) (c : Dev KernelIdeal.nD) :
    (Layout.block ⟨2, ![256, 2048]⟩ ⟨2, ![4096, 2048]⟩ 0 16 c w : Vec Ideal KernelIdeal.S256x2048 .f32) = ws w c := by
  funext i
  refine congrArg w (idx_ext ?_ rfl)
  show c.val * 256 + (i 0).val = 256 * c.val + (i 0).val
  omega

/-- The result of device `c` is block `c` of the reference's. -/
theorem res_eq (x : FVec Ideal ReferenceIdeal.S4096x4096 .f32) (w : FVec Ideal ReferenceIdeal.S4096x2048 .f32) (c : Dev KernelIdeal.nD) :
    resV (xs x) (ws w) c = (Layout.block ⟨2, ![256, 2048]⟩ ⟨2, ![4096, 2048]⟩ 0 16 c (Reference.resR x w) : Vec Ideal KernelIdeal.S256x2048 .f32) := by
  rw [block_rows]
  funext i
  show KernelIdeal.Steps.quant (F := Ideal) (mx (xs x) (ws w) 4 c) (outV (xs x) (ws w) c) i = Reference.resR x w (ix2 (row c (i 0)) (i 1))
  rw [quant_apply, mx_eq, out_apply]
  unfold Reference.resR
  rw [back_apply, scale_apply]
  exact requant (prodR_nonneg x w _) (div_nonneg (most_nonneg x w) top_pos.le top_pos.ne') top_pos.le

end Cert.Value

end
-- ==== Proof.lean ====
/- The proof of the claims about the fused matmul, reduce-scatter and quantisation kernel: each program's run is the
   `run_main` of its launch module, the reference's is the generated frame. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Launch
public import proofs.«01_k».proof.Proof.KernelIdeal.Launch
public import proofs.«01_k».proof.Proof.Value.Match
public import Idealize.ShloMosaic.Adequacy
public import Idealize.ShloMosaic.Init

@[expose] public section

noncomputable section

namespace Cert.Proof

open Idealize.ShloMosaic Idealize.SL.Sem

/-- The kernel's run leaves the arguments and brings every counter back to zero. -/
theorem kernel_quiet [h : Cert.Kernel.Facts] : Cert.quiescent_Kernel (hKernel := h) := fun m g _ =>
  (θ_run _ _ _).mono (fun _ h => ⟨fun c => ⟨(h.1 c).1, (h.1 c).2.1⟩, h.2⟩) (Cert.Kernel.Launch.run_main m g)

/-- The same of the kernel read with exact arithmetic. -/
theorem ideal_quiet [h : Cert.KernelIdeal.Facts] : Cert.quiescent_KernelIdeal (hKernelIdeal := h) := fun m g _ =>
  (θ_run _ _ _).mono (fun _ h => ⟨fun c => ⟨(h.1 c).1, (h.1 c).2.1⟩, h.2⟩) (Cert.KernelIdeal.Launch.run_main m g)

/-- Device by device, the kernel's result is its block of the reference's. -/
theorem same_values [h : Cert.KernelIdeal.Facts] [h' : Cert.ReferenceIdeal.Facts] :
    Cert.algebraic_KernelIdeal_ReferenceIdeal (hKernelIdeal := h) (hReferenceIdeal := h') := by
  intro m g m' g' _ agree
  refine ⟨_, θ_run_mono (Cert.KernelIdeal.Launch.run_main m g) fun r hr c => ⟨?_, (hr.1 c).1, (hr.1 c).2.1⟩,
    θ_run_mono (Cert.Value.Reference.run_res m' g') fun r hr => hr 0⟩
  refine (hr.1 c).2.2.trans ?_
  have ex := funext fun d : Dev Cert.KernelIdeal.nD => (agree d).1.trans (Cert.Value.block_cols _ d)
  have ew := funext fun d : Dev Cert.KernelIdeal.nD => (agree d).2.trans (Cert.Value.block_rows _ d)
  exact (congrArg₂ (fun X W => Cert.KernelIdeal.Finale.resV (F := Ideal) X W c) ex ew).trans (Cert.Value.res_eq _ _ c)

theorem claim : Cert.Claim :=
  ⟨Cert.Kernel.Gen.facts, Cert.KernelIdeal.Gen.facts, Cert.ReferenceIdeal.Gen.facts,
    kernel_quiet, ideal_quiet, fun m ρ _ => Cert.ReferenceIdeal.Gen.frame m ρ, trivial, same_values⟩

end Cert.Proof

end
